-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaReferenceIdeal (m : (ℓ : Loc Cert.SwaReferenceIdeal.nD Cert.SwaReferenceIdeal.τ Cert.SwaReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_DsaIn (m : (ℓ : Loc Cert.DsaIn.nD Cert.DsaIn.τ Cert.DsaIn.sig) → Buf (Elt Bits) ℓ) : Prop :=
  True

def Pre_DsaInIdeal (m : (ℓ : Loc Cert.DsaInIdeal.nD Cert.DsaInIdeal.τ Cert.DsaInIdeal.sig) → Buf (Elt Ideal) ℓ) : Prop :=
  True

def Pre_DsaInReferenceIdeal (m : (ℓ : Loc Cert.DsaInReferenceIdeal.nD Cert.DsaInReferenceIdeal.τ Cert.DsaInReferenceIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossReferenceIdeal (m : (ℓ : Loc Cert.CrossReferenceIdeal.nD Cert.CrossReferenceIdeal.τ Cert.CrossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaReferenceIdeal [hSwaReferenceIdeal : Cert.SwaReferenceIdeal.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2)
      ∧ r.2.mem ((c.tc : Thread Cert.SwaReferenceIdeal.nD Cert.SwaReferenceIdeal.τ).loc Cert.SwaReferenceIdeal.main_arg3) = m ((c.tc : Thread Cert.SwaReferenceIdeal.nD Cert.SwaReferenceIdeal.τ).loc Cert.SwaReferenceIdeal.main_arg3)
      ∧ r.2.mem ((c.tc : Thread Cert.SwaReferenceIdeal.nD Cert.SwaReferenceIdeal.τ).loc Cert.SwaReferenceIdeal.main_arg4) = m ((c.tc : Thread Cert.SwaReferenceIdeal.nD Cert.SwaReferenceIdeal.τ).loc Cert.SwaReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1)
      ∧ r.2.mem ((c.tc : Thread Cert.EvenInReferenceIdeal.nD Cert.EvenInReferenceIdeal.τ).loc Cert.EvenInReferenceIdeal.main_arg2) = m ((c.tc : Thread Cert.EvenInReferenceIdeal.nD Cert.EvenInReferenceIdeal.τ).loc Cert.EvenInReferenceIdeal.main_arg2))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1)
      ∧ r.2.mem ((c.tc : Thread Cert.OddInReferenceIdeal.nD Cert.OddInReferenceIdeal.τ).loc Cert.OddInReferenceIdeal.main_arg2) = m ((c.tc : Thread Cert.OddInReferenceIdeal.nD Cert.OddInReferenceIdeal.τ).loc Cert.OddInReferenceIdeal.main_arg2)
      ∧ r.2.mem ((c.tc : Thread Cert.OddInReferenceIdeal.nD Cert.OddInReferenceIdeal.τ).loc Cert.OddInReferenceIdeal.main_arg3) = m ((c.tc : Thread Cert.OddInReferenceIdeal.nD Cert.OddInReferenceIdeal.τ).loc Cert.OddInReferenceIdeal.main_arg3)
      ∧ r.2.mem ((c.tc : Thread Cert.OddInReferenceIdeal.nD Cert.OddInReferenceIdeal.τ).loc Cert.OddInReferenceIdeal.main_arg4) = m ((c.tc : Thread Cert.OddInReferenceIdeal.nD Cert.OddInReferenceIdeal.τ).loc Cert.OddInReferenceIdeal.main_arg4))
      ∧ r.2.sem = fun _ => 0)

def quiescent_DsaIn [hDsaIn : Cert.DsaIn.Facts] : Prop :=
  ∀ (m : (ℓ : Loc Cert.DsaIn.nD Cert.DsaIn.τ Cert.DsaIn.sig) → Buf (Elt Bits) ℓ) (g : Dev Cert.DsaIn.nD → PrngReg), Pre_DsaIn m →
    θ_run (Cert.DsaIn.defs (F := Bits)) (onTc (τ := Cert.DsaIn.τ) (Cert.DsaIn.main (F := Bits))) ⟨m, fun _ => 0, g⟩ (fun r => (∀ c : Dev Cert.DsaIn.nD,
      r.2.mem ((c.tc : Thread Cert.DsaIn.nD Cert.DsaIn.τ).loc Cert.DsaIn.main_arg0) = m ((c.tc : Thread Cert.DsaIn.nD Cert.DsaIn.τ).loc Cert.DsaIn.main_arg0)
      ∧ r.2.mem ((c.tc : Thread Cert.DsaIn.nD Cert.DsaIn.τ).loc Cert.DsaIn.main_arg1) = m ((c.tc : Thread Cert.DsaIn.nD Cert.DsaIn.τ).loc Cert.DsaIn.main_arg1)
      ∧ r.2.mem ((c.tc : Thread Cert.DsaIn.nD Cert.DsaIn.τ).loc Cert.DsaIn.main_arg2) = m ((c.tc : Thread Cert.DsaIn.nD Cert.DsaIn.τ).loc Cert.DsaIn.main_arg2)
      ∧ r.2.mem ((c.tc : Thread Cert.DsaIn.nD Cert.DsaIn.τ).loc Cert.DsaIn.main_arg3) = m ((c.tc : Thread Cert.DsaIn.nD Cert.DsaIn.τ).loc Cert.DsaIn.main_arg3))
      ∧ r.2.sem = fun _ => 0)

def quiescent_DsaInIdeal [hDsaInIdeal : Cert.DsaInIdeal.Facts] : Prop :=
  ∀ (m : (ℓ : Loc Cert.DsaInIdeal.nD Cert.DsaInIdeal.τ Cert.DsaInIdeal.sig) → Buf (Elt Ideal) ℓ) (g : Dev Cert.DsaInIdeal.nD → PrngReg), Pre_DsaInIdeal m →
    θ_run (Cert.DsaInIdeal.defs (F := Ideal)) (onTc (τ := Cert.DsaInIdeal.τ) (Cert.DsaInIdeal.main (F := Ideal))) ⟨m, fun _ => 0, g⟩ (fun r => (∀ c : Dev Cert.DsaInIdeal.nD,
      r.2.mem ((c.tc : Thread Cert.DsaInIdeal.nD Cert.DsaInIdeal.τ).loc Cert.DsaInIdeal.main_arg0) = m ((c.tc : Thread Cert.DsaInIdeal.nD Cert.DsaInIdeal.τ).loc Cert.DsaInIdeal.main_arg0)
      ∧ r.2.mem ((c.tc : Thread Cert.DsaInIdeal.nD Cert.DsaInIdeal.τ).loc Cert.DsaInIdeal.main_arg1) = m ((c.tc : Thread Cert.DsaInIdeal.nD Cert.DsaInIdeal.τ).loc Cert.DsaInIdeal.main_arg1)
      ∧ r.2.mem ((c.tc : Thread Cert.DsaInIdeal.nD Cert.DsaInIdeal.τ).loc Cert.DsaInIdeal.main_arg2) = m ((c.tc : Thread Cert.DsaInIdeal.nD Cert.DsaInIdeal.τ).loc Cert.DsaInIdeal.main_arg2)
      ∧ r.2.mem ((c.tc : Thread Cert.DsaInIdeal.nD Cert.DsaInIdeal.τ).loc Cert.DsaInIdeal.main_arg3) = m ((c.tc : Thread Cert.DsaInIdeal.nD Cert.DsaInIdeal.τ).loc Cert.DsaInIdeal.main_arg3))
      ∧ r.2.sem = fun _ => 0)

def quiescent_DsaInReferenceIdeal [hDsaInReferenceIdeal : Cert.DsaInReferenceIdeal.Facts] : Prop :=
  ∀ (m : (ℓ : Loc Cert.DsaInReferenceIdeal.nD Cert.DsaInReferenceIdeal.τ Cert.DsaInReferenceIdeal.sig) → Buf (Elt Ideal) ℓ) (g : Dev Cert.DsaInReferenceIdeal.nD → PrngReg), Pre_DsaInReferenceIdeal m →
    θ_run (Cert.DsaInReferenceIdeal.defs (F := Ideal)) (onTc (τ := Cert.DsaInReferenceIdeal.τ) (Cert.DsaInReferenceIdeal.main (F := Ideal))) ⟨m, fun _ => 0, g⟩ (fun r => (∀ c : Dev Cert.DsaInReferenceIdeal.nD,
      r.2.mem ((c.tc : Thread Cert.DsaInReferenceIdeal.nD Cert.DsaInReferenceIdeal.τ).loc Cert.DsaInReferenceIdeal.main_arg0) = m ((c.tc : Thread Cert.DsaInReferenceIdeal.nD Cert.DsaInReferenceIdeal.τ).loc Cert.DsaInReferenceIdeal.main_arg0)
      ∧ r.2.mem ((c.tc : Thread Cert.DsaInReferenceIdeal.nD Cert.DsaInReferenceIdeal.τ).loc Cert.DsaInReferenceIdeal.main_arg1) = m ((c.tc : Thread Cert.DsaInReferenceIdeal.nD Cert.DsaInReferenceIdeal.τ).loc Cert.DsaInReferenceIdeal.main_arg1)
      ∧ r.2.mem ((c.tc : Thread Cert.DsaInReferenceIdeal.nD Cert.DsaInReferenceIdeal.τ).loc Cert.DsaInReferenceIdeal.main_arg2) = m ((c.tc : Thread Cert.DsaInReferenceIdeal.nD Cert.DsaInReferenceIdeal.τ).loc Cert.DsaInReferenceIdeal.main_arg2)
      ∧ r.2.mem ((c.tc : Thread Cert.DsaInReferenceIdeal.nD Cert.DsaInReferenceIdeal.τ).loc Cert.DsaInReferenceIdeal.main_arg3) = m ((c.tc : Thread Cert.DsaInReferenceIdeal.nD Cert.DsaInReferenceIdeal.τ).loc Cert.DsaInReferenceIdeal.main_arg3))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6)
      ∧ r.2.mem ((c.tc : Thread Cert.Cross.nD Cert.Cross.τ).loc Cert.Cross.main_arg7) = m ((c.tc : Thread Cert.Cross.nD Cert.Cross.τ).loc Cert.Cross.main_arg7)
      ∧ r.2.mem ((c.tc : Thread Cert.Cross.nD Cert.Cross.τ).loc Cert.Cross.main_arg8) = m ((c.tc : Thread Cert.Cross.nD Cert.Cross.τ).loc Cert.Cross.main_arg8)
      ∧ r.2.mem ((c.tc : Thread Cert.Cross.nD Cert.Cross.τ).loc Cert.Cross.main_arg9) = m ((c.tc : Thread Cert.Cross.nD Cert.Cross.τ).loc Cert.Cross.main_arg9)
      ∧ r.2.mem ((c.tc : Thread Cert.Cross.nD Cert.Cross.τ).loc Cert.Cross.main_arg10) = m ((c.tc : Thread Cert.Cross.nD Cert.Cross.τ).loc Cert.Cross.main_arg10))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
      ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9)
      ∧ r.2.mem ((c.tc : Thread Cert.CrossIdeal.nD Cert.CrossIdeal.τ).loc Cert.CrossIdeal.main_arg10) = m ((c.tc : Thread Cert.CrossIdeal.nD Cert.CrossIdeal.τ).loc Cert.CrossIdeal.main_arg10))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4)
      ∧ r.2.mem ((c.tc : Thread Cert.CrossReferenceIdeal.nD Cert.CrossReferenceIdeal.τ).loc Cert.CrossReferenceIdeal.main_arg5) = m ((c.tc : Thread Cert.CrossReferenceIdeal.nD Cert.CrossReferenceIdeal.τ).loc Cert.CrossReferenceIdeal.main_arg5)
      ∧ r.2.mem ((c.tc : Thread Cert.CrossReferenceIdeal.nD Cert.CrossReferenceIdeal.τ).loc Cert.CrossReferenceIdeal.main_arg6) = m ((c.tc : Thread Cert.CrossReferenceIdeal.nD Cert.CrossReferenceIdeal.τ).loc Cert.CrossReferenceIdeal.main_arg6)
      ∧ r.2.mem ((c.tc : Thread Cert.CrossReferenceIdeal.nD Cert.CrossReferenceIdeal.τ).loc Cert.CrossReferenceIdeal.main_arg7) = m ((c.tc : Thread Cert.CrossReferenceIdeal.nD Cert.CrossReferenceIdeal.τ).loc Cert.CrossReferenceIdeal.main_arg7)
      ∧ r.2.mem ((c.tc : Thread Cert.CrossReferenceIdeal.nD Cert.CrossReferenceIdeal.τ).loc Cert.CrossReferenceIdeal.main_arg8) = m ((c.tc : Thread Cert.CrossReferenceIdeal.nD Cert.CrossReferenceIdeal.τ).loc Cert.CrossReferenceIdeal.main_arg8)
      ∧ r.2.mem ((c.tc : Thread Cert.CrossReferenceIdeal.nD Cert.CrossReferenceIdeal.τ).loc Cert.CrossReferenceIdeal.main_arg9) = m ((c.tc : Thread Cert.CrossReferenceIdeal.nD Cert.CrossReferenceIdeal.τ).loc Cert.CrossReferenceIdeal.main_arg9)
      ∧ r.2.mem ((c.tc : Thread Cert.CrossReferenceIdeal.nD Cert.CrossReferenceIdeal.τ).loc Cert.CrossReferenceIdeal.main_arg10) = m ((c.tc : Thread Cert.CrossReferenceIdeal.nD Cert.CrossReferenceIdeal.τ).loc Cert.CrossReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Swa_SwaIdeal : Prop :=
  True

def algebraic_SwaIdeal_SwaReferenceIdeal [hSwaIdeal : Cert.SwaIdeal.Facts] [hSwaReferenceIdeal : Cert.SwaReferenceIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaReferenceIdeal.nD Cert.SwaReferenceIdeal.τ Cert.SwaReferenceIdeal.sig) → Buf (Elt Ideal) ℓ) (g' : Dev Cert.SwaReferenceIdeal.nD → PrngReg), Pre_SwaIdeal m →
    (∀ c : Dev Cert.SwaIdeal.nD,
      m' ((c.tc : Thread Cert.SwaReferenceIdeal.nD Cert.SwaReferenceIdeal.τ).loc Cert.SwaReferenceIdeal.main_arg0) = m ((c.tc : Thread Cert.SwaIdeal.nD Cert.SwaIdeal.τ).loc Cert.SwaIdeal.main_arg0)
      ∧ m' ((c.tc : Thread Cert.SwaReferenceIdeal.nD Cert.SwaReferenceIdeal.τ).loc Cert.SwaReferenceIdeal.main_arg1) = m ((c.tc : Thread Cert.SwaIdeal.nD Cert.SwaIdeal.τ).loc Cert.SwaIdeal.main_arg1)
      ∧ m' ((c.tc : Thread Cert.SwaReferenceIdeal.nD Cert.SwaReferenceIdeal.τ).loc Cert.SwaReferenceIdeal.main_arg2) = m ((c.tc : Thread Cert.SwaIdeal.nD Cert.SwaIdeal.τ).loc Cert.SwaIdeal.main_arg2)
      ∧ m' ((c.tc : Thread Cert.SwaReferenceIdeal.nD Cert.SwaReferenceIdeal.τ).loc Cert.SwaReferenceIdeal.main_arg3) = m ((c.tc : Thread Cert.SwaIdeal.nD Cert.SwaIdeal.τ).loc Cert.SwaIdeal.main_arg3)
      ∧ m' ((c.tc : Thread Cert.SwaReferenceIdeal.nD Cert.SwaReferenceIdeal.τ).loc Cert.SwaReferenceIdeal.main_arg4) = m ((c.tc : Thread Cert.SwaIdeal.nD Cert.SwaIdeal.τ).loc Cert.SwaIdeal.main_arg4)) →
    ∃ (v0 : (c : Dev Cert.SwaIdeal.nD) → Buf (Elt Ideal) ((c.tc : Thread Cert.SwaIdeal.nD Cert.SwaIdeal.τ).loc Cert.SwaIdeal.main_v53)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v53) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ θ_run (Cert.SwaReferenceIdeal.defs (F := Ideal)) (onTc (τ := Cert.SwaReferenceIdeal.τ) (Cert.SwaReferenceIdeal.main (F := Ideal))) ⟨m', fun _ => 0, g'⟩ (fun r => ∀ c : Dev Cert.SwaReferenceIdeal.nD,
          r.2.mem ((c.tc : Thread Cert.SwaReferenceIdeal.nD Cert.SwaReferenceIdeal.τ).loc Cert.SwaReferenceIdeal.main_v99) = v0 c
          ∧ r.2.mem ((c.tc : Thread Cert.SwaReferenceIdeal.nD Cert.SwaReferenceIdeal.τ).loc Cert.SwaReferenceIdeal.main_arg0) = m' ((c.tc : Thread Cert.SwaReferenceIdeal.nD Cert.SwaReferenceIdeal.τ).loc Cert.SwaReferenceIdeal.main_arg0)
          ∧ r.2.mem ((c.tc : Thread Cert.SwaReferenceIdeal.nD Cert.SwaReferenceIdeal.τ).loc Cert.SwaReferenceIdeal.main_arg1) = m' ((c.tc : Thread Cert.SwaReferenceIdeal.nD Cert.SwaReferenceIdeal.τ).loc Cert.SwaReferenceIdeal.main_arg1)
          ∧ r.2.mem ((c.tc : Thread Cert.SwaReferenceIdeal.nD Cert.SwaReferenceIdeal.τ).loc Cert.SwaReferenceIdeal.main_arg2) = m' ((c.tc : Thread Cert.SwaReferenceIdeal.nD Cert.SwaReferenceIdeal.τ).loc Cert.SwaReferenceIdeal.main_arg2)
          ∧ r.2.mem ((c.tc : Thread Cert.SwaReferenceIdeal.nD Cert.SwaReferenceIdeal.τ).loc Cert.SwaReferenceIdeal.main_arg3) = m' ((c.tc : Thread Cert.SwaReferenceIdeal.nD Cert.SwaReferenceIdeal.τ).loc Cert.SwaReferenceIdeal.main_arg3)
          ∧ r.2.mem ((c.tc : Thread Cert.SwaReferenceIdeal.nD Cert.SwaReferenceIdeal.τ).loc Cert.SwaReferenceIdeal.main_arg4) = m' ((c.tc : Thread Cert.SwaReferenceIdeal.nD Cert.SwaReferenceIdeal.τ).loc Cert.SwaReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)
      ∧ m' ((c.tc : Thread Cert.EvenInReferenceIdeal.nD Cert.EvenInReferenceIdeal.τ).loc Cert.EvenInReferenceIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v6)) (v1 : (c : Dev Cert.EvenInIdeal.nD) → Buf (Elt Ideal) ((c.tc : Thread Cert.EvenInIdeal.nD Cert.EvenInIdeal.τ).loc Cert.EvenInIdeal.main_v7)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v6) = v0 c
          ∧ r.2.mem ((c.tc : Thread Cert.EvenInIdeal.nD Cert.EvenInIdeal.τ).loc Cert.EvenInIdeal.main_v7) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v14) = v0 c
          ∧ r.2.mem ((c.tc : Thread Cert.EvenInReferenceIdeal.nD Cert.EvenInReferenceIdeal.τ).loc Cert.EvenInReferenceIdeal.main_v16) = v1 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1)
          ∧ r.2.mem ((c.tc : Thread Cert.EvenInReferenceIdeal.nD Cert.EvenInReferenceIdeal.τ).loc Cert.EvenInReferenceIdeal.main_arg2) = m' ((c.tc : Thread Cert.EvenInReferenceIdeal.nD Cert.EvenInReferenceIdeal.τ).loc Cert.EvenInReferenceIdeal.main_arg2))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)
      ∧ m' ((c.tc : Thread Cert.OddInReferenceIdeal.nD Cert.OddInReferenceIdeal.τ).loc Cert.OddInReferenceIdeal.main_arg2) = m ((c.tc : Thread Cert.OddInIdeal.nD Cert.OddInIdeal.τ).loc Cert.OddInIdeal.main_arg2)
      ∧ m' ((c.tc : Thread Cert.OddInReferenceIdeal.nD Cert.OddInReferenceIdeal.τ).loc Cert.OddInReferenceIdeal.main_arg3) = m ((c.tc : Thread Cert.OddInIdeal.nD Cert.OddInIdeal.τ).loc Cert.OddInIdeal.main_arg3)
      ∧ m' ((c.tc : Thread Cert.OddInReferenceIdeal.nD Cert.OddInReferenceIdeal.τ).loc Cert.OddInReferenceIdeal.main_arg4) = m ((c.tc : Thread Cert.OddInIdeal.nD Cert.OddInIdeal.τ).loc Cert.OddInIdeal.main_arg4)) →
    ∃ (v0 : (c : Dev Cert.OddInIdeal.nD) → Buf (Elt Ideal) ((c.tc : Thread Cert.OddInIdeal.nD Cert.OddInIdeal.τ).loc Cert.OddInIdeal.main_v3)) (v1 : (c : Dev Cert.OddInIdeal.nD) → Buf (Elt Ideal) ((c.tc : Thread Cert.OddInIdeal.nD Cert.OddInIdeal.τ).loc Cert.OddInIdeal.main_v8)) (v2 : (c : Dev Cert.OddInIdeal.nD) → Buf (Elt Ideal) ((c.tc : Thread Cert.OddInIdeal.nD Cert.OddInIdeal.τ).loc Cert.OddInIdeal.main_v13)) (v3 : (c : Dev Cert.OddInIdeal.nD) → Buf (Elt Ideal) ((c.tc : Thread Cert.OddInIdeal.nD Cert.OddInIdeal.τ).loc Cert.OddInIdeal.main_v14)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v3) = v0 c
          ∧ r.2.mem ((c.tc : Thread Cert.OddInIdeal.nD Cert.OddInIdeal.τ).loc Cert.OddInIdeal.main_v8) = v1 c
          ∧ r.2.mem ((c.tc : Thread Cert.OddInIdeal.nD Cert.OddInIdeal.τ).loc Cert.OddInIdeal.main_v13) = v2 c
          ∧ r.2.mem ((c.tc : Thread Cert.OddInIdeal.nD Cert.OddInIdeal.τ).loc Cert.OddInIdeal.main_v14) = v3 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v50) = v0 c
          ∧ r.2.mem ((c.tc : Thread Cert.OddInReferenceIdeal.nD Cert.OddInReferenceIdeal.τ).loc Cert.OddInReferenceIdeal.main_v51) = v1 c
          ∧ r.2.mem ((c.tc : Thread Cert.OddInReferenceIdeal.nD Cert.OddInReferenceIdeal.τ).loc Cert.OddInReferenceIdeal.main_v52) = v2 c
          ∧ r.2.mem ((c.tc : Thread Cert.OddInReferenceIdeal.nD Cert.OddInReferenceIdeal.τ).loc Cert.OddInReferenceIdeal.main_v53) = v3 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1)
          ∧ r.2.mem ((c.tc : Thread Cert.OddInReferenceIdeal.nD Cert.OddInReferenceIdeal.τ).loc Cert.OddInReferenceIdeal.main_arg2) = m' ((c.tc : Thread Cert.OddInReferenceIdeal.nD Cert.OddInReferenceIdeal.τ).loc Cert.OddInReferenceIdeal.main_arg2)
          ∧ r.2.mem ((c.tc : Thread Cert.OddInReferenceIdeal.nD Cert.OddInReferenceIdeal.τ).loc Cert.OddInReferenceIdeal.main_arg3) = m' ((c.tc : Thread Cert.OddInReferenceIdeal.nD Cert.OddInReferenceIdeal.τ).loc Cert.OddInReferenceIdeal.main_arg3)
          ∧ r.2.mem ((c.tc : Thread Cert.OddInReferenceIdeal.nD Cert.OddInReferenceIdeal.τ).loc Cert.OddInReferenceIdeal.main_arg4) = m' ((c.tc : Thread Cert.OddInReferenceIdeal.nD Cert.OddInReferenceIdeal.τ).loc Cert.OddInReferenceIdeal.main_arg4))

def preserves_DsaIn_DsaInIdeal : Prop :=
  True

def algebraic_DsaInIdeal_DsaInReferenceIdeal [hDsaInIdeal : Cert.DsaInIdeal.Facts] [hDsaInReferenceIdeal : Cert.DsaInReferenceIdeal.Facts] : Prop :=
  ∀ (m : (ℓ : Loc Cert.DsaInIdeal.nD Cert.DsaInIdeal.τ Cert.DsaInIdeal.sig) → Buf (Elt Ideal) ℓ) (g : Dev Cert.DsaInIdeal.nD → PrngReg)
    (m' : (ℓ : Loc Cert.DsaInReferenceIdeal.nD Cert.DsaInReferenceIdeal.τ Cert.DsaInReferenceIdeal.sig) → Buf (Elt Ideal) ℓ) (g' : Dev Cert.DsaInReferenceIdeal.nD → PrngReg), Pre_DsaInIdeal m →
    (∀ c : Dev Cert.DsaInIdeal.nD,
      m' ((c.tc : Thread Cert.DsaInReferenceIdeal.nD Cert.DsaInReferenceIdeal.τ).loc Cert.DsaInReferenceIdeal.main_arg0) = m ((c.tc : Thread Cert.DsaInIdeal.nD Cert.DsaInIdeal.τ).loc Cert.DsaInIdeal.main_arg0)
      ∧ m' ((c.tc : Thread Cert.DsaInReferenceIdeal.nD Cert.DsaInReferenceIdeal.τ).loc Cert.DsaInReferenceIdeal.main_arg1) = m ((c.tc : Thread Cert.DsaInIdeal.nD Cert.DsaInIdeal.τ).loc Cert.DsaInIdeal.main_arg1)
      ∧ m' ((c.tc : Thread Cert.DsaInReferenceIdeal.nD Cert.DsaInReferenceIdeal.τ).loc Cert.DsaInReferenceIdeal.main_arg2) = m ((c.tc : Thread Cert.DsaInIdeal.nD Cert.DsaInIdeal.τ).loc Cert.DsaInIdeal.main_arg2)
      ∧ m' ((c.tc : Thread Cert.DsaInReferenceIdeal.nD Cert.DsaInReferenceIdeal.τ).loc Cert.DsaInReferenceIdeal.main_arg3) = m ((c.tc : Thread Cert.DsaInIdeal.nD Cert.DsaInIdeal.τ).loc Cert.DsaInIdeal.main_arg3)) →
    ∃ (v0 : (c : Dev Cert.DsaInIdeal.nD) → Buf (Elt Ideal) ((c.tc : Thread Cert.DsaInIdeal.nD Cert.DsaInIdeal.τ).loc Cert.DsaInIdeal.main_v6)) (v1 : (c : Dev Cert.DsaInIdeal.nD) → Buf (Elt Ideal) ((c.tc : Thread Cert.DsaInIdeal.nD Cert.DsaInIdeal.τ).loc Cert.DsaInIdeal.main_v9)),
      θ_run (Cert.DsaInIdeal.defs (F := Ideal)) (onTc (τ := Cert.DsaInIdeal.τ) (Cert.DsaInIdeal.main (F := Ideal))) ⟨m, fun _ => 0, g⟩ (fun r => ∀ c : Dev Cert.DsaInIdeal.nD,
          r.2.mem ((c.tc : Thread Cert.DsaInIdeal.nD Cert.DsaInIdeal.τ).loc Cert.DsaInIdeal.main_v6) = v0 c
          ∧ r.2.mem ((c.tc : Thread Cert.DsaInIdeal.nD Cert.DsaInIdeal.τ).loc Cert.DsaInIdeal.main_v9) = v1 c
          ∧ r.2.mem ((c.tc : Thread Cert.DsaInIdeal.nD Cert.DsaInIdeal.τ).loc Cert.DsaInIdeal.main_arg0) = m ((c.tc : Thread Cert.DsaInIdeal.nD Cert.DsaInIdeal.τ).loc Cert.DsaInIdeal.main_arg0)
          ∧ r.2.mem ((c.tc : Thread Cert.DsaInIdeal.nD Cert.DsaInIdeal.τ).loc Cert.DsaInIdeal.main_arg1) = m ((c.tc : Thread Cert.DsaInIdeal.nD Cert.DsaInIdeal.τ).loc Cert.DsaInIdeal.main_arg1)
          ∧ r.2.mem ((c.tc : Thread Cert.DsaInIdeal.nD Cert.DsaInIdeal.τ).loc Cert.DsaInIdeal.main_arg2) = m ((c.tc : Thread Cert.DsaInIdeal.nD Cert.DsaInIdeal.τ).loc Cert.DsaInIdeal.main_arg2)
          ∧ r.2.mem ((c.tc : Thread Cert.DsaInIdeal.nD Cert.DsaInIdeal.τ).loc Cert.DsaInIdeal.main_arg3) = m ((c.tc : Thread Cert.DsaInIdeal.nD Cert.DsaInIdeal.τ).loc Cert.DsaInIdeal.main_arg3))
      ∧ θ_run (Cert.DsaInReferenceIdeal.defs (F := Ideal)) (onTc (τ := Cert.DsaInReferenceIdeal.τ) (Cert.DsaInReferenceIdeal.main (F := Ideal))) ⟨m', fun _ => 0, g'⟩ (fun r => ∀ c : Dev Cert.DsaInReferenceIdeal.nD,
          r.2.mem ((c.tc : Thread Cert.DsaInReferenceIdeal.nD Cert.DsaInReferenceIdeal.τ).loc Cert.DsaInReferenceIdeal.main_v19) = v0 c
          ∧ r.2.mem ((c.tc : Thread Cert.DsaInReferenceIdeal.nD Cert.DsaInReferenceIdeal.τ).loc Cert.DsaInReferenceIdeal.main_v21) = v1 c
          ∧ r.2.mem ((c.tc : Thread Cert.DsaInReferenceIdeal.nD Cert.DsaInReferenceIdeal.τ).loc Cert.DsaInReferenceIdeal.main_arg0) = m' ((c.tc : Thread Cert.DsaInReferenceIdeal.nD Cert.DsaInReferenceIdeal.τ).loc Cert.DsaInReferenceIdeal.main_arg0)
          ∧ r.2.mem ((c.tc : Thread Cert.DsaInReferenceIdeal.nD Cert.DsaInReferenceIdeal.τ).loc Cert.DsaInReferenceIdeal.main_arg1) = m' ((c.tc : Thread Cert.DsaInReferenceIdeal.nD Cert.DsaInReferenceIdeal.τ).loc Cert.DsaInReferenceIdeal.main_arg1)
          ∧ r.2.mem ((c.tc : Thread Cert.DsaInReferenceIdeal.nD Cert.DsaInReferenceIdeal.τ).loc Cert.DsaInReferenceIdeal.main_arg2) = m' ((c.tc : Thread Cert.DsaInReferenceIdeal.nD Cert.DsaInReferenceIdeal.τ).loc Cert.DsaInReferenceIdeal.main_arg2)
          ∧ r.2.mem ((c.tc : Thread Cert.DsaInReferenceIdeal.nD Cert.DsaInReferenceIdeal.τ).loc Cert.DsaInReferenceIdeal.main_arg3) = m' ((c.tc : Thread Cert.DsaInReferenceIdeal.nD Cert.DsaInReferenceIdeal.τ).loc Cert.DsaInReferenceIdeal.main_arg3))

def preserves_Cross_CrossIdeal : Prop :=
  True

def algebraic_CrossIdeal_CrossReferenceIdeal [hCrossIdeal : Cert.CrossIdeal.Facts] [hCrossReferenceIdeal : Cert.CrossReferenceIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal m →
    (∀ c : Dev Cert.CrossIdeal.nD,
      m' ((c.tc : Thread Cert.CrossReferenceIdeal.nD Cert.CrossReferenceIdeal.τ).loc Cert.CrossReferenceIdeal.main_arg0) = m ((c.tc : Thread Cert.CrossIdeal.nD Cert.CrossIdeal.τ).loc Cert.CrossIdeal.main_arg0)
      ∧ m' ((c.tc : Thread Cert.CrossReferenceIdeal.nD Cert.CrossReferenceIdeal.τ).loc Cert.CrossReferenceIdeal.main_arg1) = m ((c.tc : Thread Cert.CrossIdeal.nD Cert.CrossIdeal.τ).loc Cert.CrossIdeal.main_arg1)
      ∧ m' ((c.tc : Thread Cert.CrossReferenceIdeal.nD Cert.CrossReferenceIdeal.τ).loc Cert.CrossReferenceIdeal.main_arg2) = m ((c.tc : Thread Cert.CrossIdeal.nD Cert.CrossIdeal.τ).loc Cert.CrossIdeal.main_arg2)
      ∧ m' ((c.tc : Thread Cert.CrossReferenceIdeal.nD Cert.CrossReferenceIdeal.τ).loc Cert.CrossReferenceIdeal.main_arg3) = m ((c.tc : Thread Cert.CrossIdeal.nD Cert.CrossIdeal.τ).loc Cert.CrossIdeal.main_arg3)
      ∧ m' ((c.tc : Thread Cert.CrossReferenceIdeal.nD Cert.CrossReferenceIdeal.τ).loc Cert.CrossReferenceIdeal.main_arg4) = m ((c.tc : Thread Cert.CrossIdeal.nD Cert.CrossIdeal.τ).loc Cert.CrossIdeal.main_arg4)
      ∧ m' ((c.tc : Thread Cert.CrossReferenceIdeal.nD Cert.CrossReferenceIdeal.τ).loc Cert.CrossReferenceIdeal.main_arg5) = m ((c.tc : Thread Cert.CrossIdeal.nD Cert.CrossIdeal.τ).loc Cert.CrossIdeal.main_arg5)
      ∧ m' ((c.tc : Thread Cert.CrossReferenceIdeal.nD Cert.CrossReferenceIdeal.τ).loc Cert.CrossReferenceIdeal.main_arg6) = m ((c.tc : Thread Cert.CrossIdeal.nD Cert.CrossIdeal.τ).loc Cert.CrossIdeal.main_arg6)
      ∧ m' ((c.tc : Thread Cert.CrossReferenceIdeal.nD Cert.CrossReferenceIdeal.τ).loc Cert.CrossReferenceIdeal.main_arg7) = m ((c.tc : Thread Cert.CrossIdeal.nD Cert.CrossIdeal.τ).loc Cert.CrossIdeal.main_arg7)
      ∧ m' ((c.tc : Thread Cert.CrossReferenceIdeal.nD Cert.CrossReferenceIdeal.τ).loc Cert.CrossReferenceIdeal.main_arg8) = m ((c.tc : Thread Cert.CrossIdeal.nD Cert.CrossIdeal.τ).loc Cert.CrossIdeal.main_arg8)
      ∧ m' ((c.tc : Thread Cert.CrossReferenceIdeal.nD Cert.CrossReferenceIdeal.τ).loc Cert.CrossReferenceIdeal.main_arg9) = m ((c.tc : Thread Cert.CrossIdeal.nD Cert.CrossIdeal.τ).loc Cert.CrossIdeal.main_arg9)
      ∧ m' ((c.tc : Thread Cert.CrossReferenceIdeal.nD Cert.CrossReferenceIdeal.τ).loc Cert.CrossReferenceIdeal.main_arg10) = m ((c.tc : Thread Cert.CrossIdeal.nD Cert.CrossIdeal.τ).loc Cert.CrossIdeal.main_arg10)) →
    ∃ (v0 : (c : Dev Cert.CrossIdeal.nD) → Buf (Elt Ideal) ((c.tc : Thread Cert.CrossIdeal.nD Cert.CrossIdeal.τ).loc Cert.CrossIdeal.main_v17_0)) (v1 : (c : Dev Cert.CrossIdeal.nD) → Buf (Elt Ideal) ((c.tc : Thread Cert.CrossIdeal.nD Cert.CrossIdeal.τ).loc Cert.CrossIdeal.main_v17_1)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v17_0) = v0 c
          ∧ r.2.mem ((c.tc : Thread Cert.CrossIdeal.nD Cert.CrossIdeal.τ).loc Cert.CrossIdeal.main_v17_1) = v1 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
          ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
          ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
          ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9)
          ∧ r.2.mem ((c.tc : Thread Cert.CrossIdeal.nD Cert.CrossIdeal.τ).loc Cert.CrossIdeal.main_arg10) = m ((c.tc : Thread Cert.CrossIdeal.nD Cert.CrossIdeal.τ).loc Cert.CrossIdeal.main_arg10))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v87) = v0 c
          ∧ r.2.mem ((c.tc : Thread Cert.CrossReferenceIdeal.nD Cert.CrossReferenceIdeal.τ).loc Cert.CrossReferenceIdeal.main_v89) = v1 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2)
          ∧ r.2.mem ((c.tc : Thread Cert.CrossReferenceIdeal.nD Cert.CrossReferenceIdeal.τ).loc Cert.CrossReferenceIdeal.main_arg3) = m' ((c.tc : Thread Cert.CrossReferenceIdeal.nD Cert.CrossReferenceIdeal.τ).loc Cert.CrossReferenceIdeal.main_arg3)
          ∧ r.2.mem ((c.tc : Thread Cert.CrossReferenceIdeal.nD Cert.CrossReferenceIdeal.τ).loc Cert.CrossReferenceIdeal.main_arg4) = m' ((c.tc : Thread Cert.CrossReferenceIdeal.nD Cert.CrossReferenceIdeal.τ).loc Cert.CrossReferenceIdeal.main_arg4)
          ∧ r.2.mem ((c.tc : Thread Cert.CrossReferenceIdeal.nD Cert.CrossReferenceIdeal.τ).loc Cert.CrossReferenceIdeal.main_arg5) = m' ((c.tc : Thread Cert.CrossReferenceIdeal.nD Cert.CrossReferenceIdeal.τ).loc Cert.CrossReferenceIdeal.main_arg5)
          ∧ r.2.mem ((c.tc : Thread Cert.CrossReferenceIdeal.nD Cert.CrossReferenceIdeal.τ).loc Cert.CrossReferenceIdeal.main_arg6) = m' ((c.tc : Thread Cert.CrossReferenceIdeal.nD Cert.CrossReferenceIdeal.τ).loc Cert.CrossReferenceIdeal.main_arg6)
          ∧ r.2.mem ((c.tc : Thread Cert.CrossReferenceIdeal.nD Cert.CrossReferenceIdeal.τ).loc Cert.CrossReferenceIdeal.main_arg7) = m' ((c.tc : Thread Cert.CrossReferenceIdeal.nD Cert.CrossReferenceIdeal.τ).loc Cert.CrossReferenceIdeal.main_arg7)
          ∧ r.2.mem ((c.tc : Thread Cert.CrossReferenceIdeal.nD Cert.CrossReferenceIdeal.τ).loc Cert.CrossReferenceIdeal.main_arg8) = m' ((c.tc : Thread Cert.CrossReferenceIdeal.nD Cert.CrossReferenceIdeal.τ).loc Cert.CrossReferenceIdeal.main_arg8)
          ∧ r.2.mem ((c.tc : Thread Cert.CrossReferenceIdeal.nD Cert.CrossReferenceIdeal.τ).loc Cert.CrossReferenceIdeal.main_arg9) = m' ((c.tc : Thread Cert.CrossReferenceIdeal.nD Cert.CrossReferenceIdeal.τ).loc Cert.CrossReferenceIdeal.main_arg9)
          ∧ r.2.mem ((c.tc : Thread Cert.CrossReferenceIdeal.nD Cert.CrossReferenceIdeal.τ).loc Cert.CrossReferenceIdeal.main_arg10) = m' ((c.tc : Thread Cert.CrossReferenceIdeal.nD Cert.CrossReferenceIdeal.τ).loc Cert.CrossReferenceIdeal.main_arg10))

def Claim : Prop :=
  ∃ (hKernel : Cert.Kernel.Facts) (hKernelIdeal : Cert.KernelIdeal.Facts) (hReferenceIdeal : Cert.ReferenceIdeal.Facts) (hSwa : Cert.Swa.Facts) (hSwaIdeal : Cert.SwaIdeal.Facts) (hSwaReferenceIdeal : Cert.SwaReferenceIdeal.Facts) (hOut : Cert.Out.Facts) (hOutIdeal : Cert.OutIdeal.Facts) (hOutReferenceIdeal : Cert.OutReferenceIdeal.Facts) (hEvenIn : Cert.EvenIn.Facts) (hEvenInIdeal : Cert.EvenInIdeal.Facts) (hEvenInReferenceIdeal : Cert.EvenInReferenceIdeal.Facts) (hOddIn : Cert.OddIn.Facts) (hOddInIdeal : Cert.OddInIdeal.Facts) (hOddInReferenceIdeal : Cert.OddInReferenceIdeal.Facts) (hDsaIn : Cert.DsaIn.Facts) (hDsaInIdeal : Cert.DsaInIdeal.Facts) (hDsaInReferenceIdeal : Cert.DsaInReferenceIdeal.Facts) (hCross : Cert.Cross.Facts) (hCrossIdeal : Cert.CrossIdeal.Facts) (hCrossReferenceIdeal : Cert.CrossReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Swa (hSwa := hSwa)
    ∧ quiescent_SwaIdeal (hSwaIdeal := hSwaIdeal)
    ∧ quiescent_SwaReferenceIdeal (hSwaReferenceIdeal := hSwaReferenceIdeal)
    ∧ quiescent_Out (hOut := hOut)
    ∧ quiescent_OutIdeal (hOutIdeal := hOutIdeal)
    ∧ quiescent_OutReferenceIdeal (hOutReferenceIdeal := hOutReferenceIdeal)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ quiescent_DsaIn (hDsaIn := hDsaIn)
    ∧ quiescent_DsaInIdeal (hDsaInIdeal := hDsaInIdeal)
    ∧ quiescent_DsaInReferenceIdeal (hDsaInReferenceIdeal := hDsaInReferenceIdeal)
    ∧ quiescent_Cross (hCross := hCross)
    ∧ quiescent_CrossIdeal (hCrossIdeal := hCrossIdeal)
    ∧ quiescent_CrossReferenceIdeal (hCrossReferenceIdeal := hCrossReferenceIdeal)
    ∧ preserves_Kernel_KernelIdeal
    ∧ algebraic_KernelIdeal_ReferenceIdeal (hKernelIdeal := hKernelIdeal) (hReferenceIdeal := hReferenceIdeal)
    ∧ preserves_Swa_SwaIdeal
    ∧ algebraic_SwaIdeal_SwaReferenceIdeal (hSwaIdeal := hSwaIdeal) (hSwaReferenceIdeal := hSwaReferenceIdeal)
    ∧ preserves_Out_OutIdeal
    ∧ algebraic_OutIdeal_OutReferenceIdeal (hOutIdeal := hOutIdeal) (hOutReferenceIdeal := hOutReferenceIdeal)
    ∧ preserves_EvenIn_EvenInIdeal
    ∧ algebraic_EvenInIdeal_EvenInReferenceIdeal (hEvenInIdeal := hEvenInIdeal) (hEvenInReferenceIdeal := hEvenInReferenceIdeal)
    ∧ preserves_OddIn_OddInIdeal
    ∧ algebraic_OddInIdeal_OddInReferenceIdeal (hOddInIdeal := hOddInIdeal) (hOddInReferenceIdeal := hOddInReferenceIdeal)
    ∧ preserves_DsaIn_DsaInIdeal
    ∧ algebraic_DsaInIdeal_DsaInReferenceIdeal (hDsaInIdeal := hDsaInIdeal) (hDsaInReferenceIdeal := hDsaInReferenceIdeal)
    ∧ preserves_Cross_CrossIdeal
    ∧ algebraic_CrossIdeal_CrossReferenceIdeal (hCrossIdeal := hCrossIdeal) (hCrossReferenceIdeal := hCrossReferenceIdeal)
-- ==== Kernel.lean ====
abbrev S2x8192x4096 : Shape := ⟨3, ![2, 8192, 4096]⟩
abbrev S2x4096x11008 : Shape := ⟨3, ![2, 4096, 11008]⟩
abbrev S2x3x11008 : Shape := ⟨3, ![2, 3, 11008]⟩
abbrev S2x11008 : Shape := ⟨2, ![2, 11008]⟩
abbrev S2x11008x4096 : Shape := ⟨3, ![2, 11008, 4096]⟩
abbrev S16384x4096 : Shape := ⟨2, ![16384, 4096]⟩
abbrev S1x3x11008 : Shape := ⟨3, ![1, 3, 11008]⟩
abbrev S3x11008 : Shape := ⟨2, ![3, 11008]⟩
abbrev S1x11008 : Shape := ⟨2, ![1, 11008]⟩
abbrev S11008 : Shape := ⟨1, ![11008]⟩
abbrev S1x11008x4096 : Shape := ⟨3, ![1, 11008, 4096]⟩
abbrev S11008x4096 : Shape := ⟨2, ![11008, 4096]⟩
abbrev S16384x11008 : Shape := ⟨2, ![16384, 11008]⟩
abbrev S1024x4096 : Shape := ⟨2, ![1024, 4096]⟩
abbrev S16x4096 : Shape := ⟨2, ![16, 4096]⟩
abbrev S1x4096x256 : Shape := ⟨3, ![1, 4096, 256]⟩
abbrev S3x256 : Shape := ⟨2, ![3, 256]⟩
abbrev S1x256 : Shape := ⟨2, ![1, 256]⟩
abbrev S1024x256 : Shape := ⟨2, ![1024, 256]⟩
abbrev S4096x256 : Shape := ⟨2, ![4096, 256]⟩
abbrev S16x256 : Shape := ⟨2, ![16, 256]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 19
  | .vmem => 22
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .bf16⟩
  | .hbm, ⟨2, _⟩ => ⟨S2x4096x11008, .f32⟩
  | .hbm, ⟨3, _⟩ => ⟨S2x4096x11008, .f32⟩
  | .hbm, ⟨4, _⟩ => ⟨S2x3x11008, .f32⟩
  | .hbm, ⟨5, _⟩ => ⟨S2x11008, .f32⟩
  | .hbm, ⟨6, _⟩ => ⟨S2x11008x4096, .f32⟩
  | .hbm, ⟨7, _⟩ => ⟨S16384x4096, .f32⟩
  | .hbm, ⟨8, _⟩ => ⟨S16384x4096, .bf16⟩
  | .hbm, ⟨9, _⟩ => ⟨S1x3x11008, .f32⟩
  | .hbm, ⟨10, _⟩ => ⟨S3x11008, .f32⟩
  | .hbm, ⟨11, _⟩ => ⟨S1x11008, .f32⟩
  | .hbm, ⟨12, _⟩ => ⟨S11008, .f32⟩
  | .hbm, ⟨13, _⟩ => ⟨S1x11008x4096, .f32⟩
  | .hbm, ⟨14, _⟩ => ⟨S11008x4096, .f32⟩
  | .hbm, ⟨15, _⟩ => ⟨S1x11008, .f32⟩
  | .hbm, ⟨16, _⟩ => ⟨S16384x11008, .bf16⟩
  | .hbm, ⟨17, _⟩ => ⟨S11008x4096, .bf16⟩
  | .hbm, ⟨18, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S16x4096, .bf16⟩
  | .local _ .vmem, ⟨3, _⟩ => ⟨S16x4096, .bf16⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S1x4096x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1024x256, .bf16⟩
  | .local _ .vmem, ⟨13, _⟩ => ⟨S1024x256, .bf16⟩
  | .local _ .vmem, ⟨14, _⟩ => ⟨S512x11008, .bf16⟩
  | .local _ .vmem, ⟨15, _⟩ => ⟨S512x11008, .bf16⟩
  | .local _ .vmem, ⟨16, _⟩ => ⟨S11008x512, .bf16⟩
  | .local _ .vmem, ⟨17, _⟩ => ⟨S11008x512, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![32, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S11008x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== ReferenceIdeal.lean ====
abbrev S2x8192x4096 : Shape := ⟨3, ![2, 8192, 4096]⟩
abbrev S2x4096x11008 : Shape := ⟨3, ![2, 4096, 11008]⟩
abbrev S2x3x11008 : Shape := ⟨3, ![2, 3, 11008]⟩
abbrev S2x11008 : Shape := ⟨2, ![2, 11008]⟩
abbrev S2x11008x4096 : Shape := ⟨3, ![2, 11008, 4096]⟩
abbrev S1x4096x11008 : Shape := ⟨3, ![1, 4096, 11008]⟩
abbrev S4096x11008 : Shape := ⟨2, ![4096, 11008]⟩
abbrev S1x3x11008 : Shape := ⟨3, ![1, 3, 11008]⟩
abbrev S3x11008 : Shape := ⟨2, ![3, 11008]⟩
abbrev S1x11008 : Shape := ⟨2, ![1, 11008]⟩
abbrev S11008 : Shape := ⟨1, ![11008]⟩
abbrev S1x11008x4096 : Shape := ⟨3, ![1, 11008, 4096]⟩
abbrev S11008x4096 : Shape := ⟨2, ![11008, 4096]⟩
abbrev S2x8192x11008 : Shape := ⟨3, ![2, 8192, 11008]⟩
abbrev S_ : Shape := ⟨0, ![]⟩
abbrev S2x8194x11008 : Shape := ⟨3, ![2, 8194, 11008]⟩
abbrev S1x1x11008 : Shape := ⟨3, ![1, 1, 11008]⟩
abbrev S16384x4096 : Shape := ⟨2, ![16384, 4096]⟩

abbrev nBuf : Space → Nat
  | .hbm => 62
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .bf16⟩
  | .hbm, ⟨2, _⟩ => ⟨S2x4096x11008, .f32⟩
  | .hbm, ⟨3, _⟩ => ⟨S2x4096x11008, .f32⟩
  | .hbm, ⟨4, _⟩ => ⟨S2x3x11008, .f32⟩
  | .hbm, ⟨5, _⟩ => ⟨S2x11008, .f32⟩
  | .hbm, ⟨6, _⟩ => ⟨S2x11008x4096, .f32⟩
  | .hbm, ⟨7, _⟩ => ⟨S2x8192x4096, .f32⟩
  | .hbm, ⟨8, _⟩ => ⟨S1x4096x11008, .f32⟩
  | .hbm, ⟨9, _⟩ => ⟨S4096x11008, .f32⟩
  | .hbm, ⟨10, _⟩ => ⟨S1x4096x11008, .f32⟩
  | .hbm, ⟨11, _⟩ => ⟨S4096x11008, .f32⟩
  | .hbm, ⟨12, _⟩ => ⟨S1x3x11008, .f32⟩
  | .hbm, ⟨13, _⟩ => ⟨S3x11008, .f32⟩
  | .hbm, ⟨14, _⟩ => ⟨S1x11008, .f32⟩
  | .hbm, ⟨15, _⟩ => ⟨S11008, .f32⟩
  | .hbm, ⟨16, _⟩ => ⟨S1x11008x4096, .f32⟩
  | .hbm, ⟨17, _⟩ => ⟨S11008x4096, .f32⟩
  | .hbm, ⟨18, _⟩ => ⟨S2x8192x11008, .f32⟩
  | .hbm, ⟨19, _⟩ => ⟨S_, .i32⟩
  | .hbm, ⟨20, _⟩ => ⟨S_, .f32⟩
  | .hbm, ⟨21, _⟩ => ⟨S2x8194x11008, .f32⟩
  | .hbm, ⟨22, _⟩ => ⟨S2x8192x11008, .f32⟩
  | .hbm, ⟨23, _⟩ => ⟨S1x11008, .f32⟩
  | .hbm, ⟨24, _⟩ => ⟨S11008, .f32⟩
  | .hbm, ⟨25, _⟩ => ⟨S1x1x11008, .f32⟩
  | .hbm, ⟨26, _⟩ => ⟨S2x8192x11008, .f32⟩
  | .hbm, ⟨27, _⟩ => ⟨S2x8192x11008, .f32⟩
  | .hbm, ⟨28, _⟩ => ⟨S_, .f32⟩
  | .hbm, ⟨29, _⟩ => ⟨S2x8192x11008, .f32⟩
  | .hbm, ⟨30, _⟩ => ⟨S2x8192x11008, .f32⟩
  | .hbm, ⟨31, _⟩ => ⟨S2x8192x11008, .f32⟩
  | .hbm, ⟨32, _⟩ => ⟨S1x11008, .f32⟩
  | .hbm, ⟨33, _⟩ => ⟨S11008, .f32⟩
  | .hbm, ⟨34, _⟩ => ⟨S1x1x11008, .f32⟩
  | .hbm, ⟨35, _⟩ => ⟨S2x8192x11008, .f32⟩
  | .hbm, ⟨36, _⟩ => ⟨S2x8192x11008, .f32⟩
  | .hbm, ⟨37, _⟩ => ⟨S2x8192x11008, .f32⟩
  | .hbm, ⟨38, _⟩ => ⟨S2x8192x11008, .f32⟩
  | .hbm, ⟨39, _⟩ => ⟨S1x11008, .f32⟩
  | .hbm, ⟨40, _⟩ => ⟨S11008, .f32⟩
  | .hbm, ⟨41, _⟩ => ⟨S1x1x11008, .f32⟩
  | .hbm, ⟨42, _⟩ => ⟨S2x8192x11008, .f32⟩
  | .hbm, ⟨43, _⟩ => ⟨S2x8192x11008, .f32⟩
  | .hbm, ⟨44, _⟩ => ⟨S2x8192x11008, .f32⟩
  | .hbm, ⟨45, _⟩ => ⟨S1x1x11008, .f32⟩
  | .hbm, ⟨46, _⟩ => ⟨S2x8192x11008, .f32⟩
  | .hbm, ⟨47, _⟩ => ⟨S2x8192x11008, .f32⟩
  | .hbm, ⟨48, _⟩ => ⟨S2x8192x11008, .f32⟩
  | .hbm, ⟨49, _⟩ => ⟨S2x8192x11008, .f32⟩
  | .hbm, ⟨50, _⟩ => ⟨S_, .f32⟩
  | .hbm, ⟨51, _⟩ => ⟨S2x8192x11008, .f32⟩
  | .hbm, ⟨52, _⟩ => ⟨S2x8192x11008, .f32⟩
  | .hbm, ⟨53, _⟩ => ⟨S_, .f32⟩
  | .hbm, ⟨54, _⟩ => ⟨S2x8192x11008, .f32⟩
  | .hbm, ⟨55, _⟩ => ⟨S2x8192x11008, .f32⟩
  | .hbm, ⟨56, _⟩ => ⟨S2x8192x11008, .f32⟩
  | .hbm, ⟨57, _⟩ => ⟨S2x8192x11008, .f32⟩
  | .hbm, ⟨58, _⟩ => ⟨S2x8192x11008, .f32⟩
  | .hbm, ⟨59, _⟩ => ⟨S2x8192x4096, .f32⟩
  | .hbm, ⟨60, _⟩ => ⟨S2x8192x4096, .f32⟩
  | .hbm, ⟨61, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Swa.lean ====
abbrev S2x8192x32x64 : Shape := ⟨4, ![2, 8192, 32, 64]⟩
abbrev S2x8192x4x64 : Shape := ⟨4, ![2, 8192, 4, 64]⟩
abbrev S32 : Shape := ⟨1, ![32]⟩
abbrev S32x32 : Shape := ⟨2, ![32, 32]⟩
abbrev S1 : Shape := ⟨1, ![1]⟩
abbrev S16384x2048 : Shape := ⟨2, ![16384, 2048]⟩
abbrev S16384x4x64 : Shape := ⟨3, ![16384, 4, 64]⟩
abbrev S16384x4x128 : Shape := ⟨3, ![16384, 4, 128]⟩
abbrev S16384x512 : Shape := ⟨2, ![16384, 512]⟩
abbrev S384 : Shape := ⟨1, ![384]⟩
abbrev S_ : Shape := ⟨0, ![]⟩
abbrev S1x1 : Shape := ⟨2, ![1, 1]⟩
abbrev S1x384 : Shape := ⟨2, ![1, 384]⟩
abbrev S1x384x1 : Shape := ⟨3, ![1, 384, 1]⟩
abbrev S1x384x32 : Shape := ⟨3, ![1, 384, 32]⟩
abbrev S1x32x384 : Shape := ⟨3, ![1, 32, 384]⟩
abbrev S1x1x1x32x1x384 : Shape := ⟨6, ![1, 1, 1, 32, 1, 384]⟩
abbrev S1x1x1x32x128x384 : Shape := ⟨6, ![1, 1, 1, 32, 128, 384]⟩
abbrev S1x32x49152 : Shape := ⟨3, ![1, 32, 49152]⟩
abbrev S1x32x49024 : Shape := ⟨3, ![1, 32, 49024]⟩
abbrev S1x32x128x383 : Shape := ⟨4, ![1, 32, 128, 383]⟩
abbrev S1x32x128x256 : Shape := ⟨4, ![1, 32, 128, 256]⟩
abbrev S32x128x256 : Shape := ⟨3, ![32, 128, 256]⟩
abbrev S128x2048 : Shape := ⟨2, ![128, 2048]⟩
abbrev S128x512 : Shape := ⟨2, ![128, 512]⟩
abbrev S128x128 : Shape := ⟨2, ![128, 128]⟩
abbrev S128x256 : Shape := ⟨2, ![128, 256]⟩
abbrev S256x128 : Shape := ⟨2, ![256, 128]⟩
abbrev S1x128x256 : Shape := ⟨3, ![1, 128, 256]⟩
abbrev S128 : Shape := ⟨1, ![128]⟩
abbrev S128x1 : Shape := ⟨2, ![128, 1]⟩

abbrev nBuf : Space → Nat
  | .hbm => 72
  | .vmem => 13
  | .smem => 1
  | _ => 0

abbrev bufTy : (tb : Table) → Fin (tcTables nBuf tb) → BufTy
  | .hbm, ⟨0, _⟩ => ⟨S2x8192x32x64, .bf16⟩
  | .hbm, ⟨1, _⟩ => ⟨S2x8192x4x64, .bf16⟩
  | .hbm, ⟨2, _⟩ => ⟨S2x8192x4x64, .bf16⟩
  | .hbm, ⟨3, _⟩ => ⟨S32, .f32⟩
  | .hbm, ⟨4, _⟩ => ⟨S32x32, .f32⟩
  | .hbm, ⟨5, _⟩ => ⟨S1, .i32⟩
  | .hbm, ⟨6, _⟩ => ⟨S16384x2048, .bf16⟩
  | .hbm, ⟨7, _⟩ => ⟨S16384x4x64, .bf16⟩
  | .hbm, ⟨8, _⟩ => ⟨S16384x4x128, .bf16⟩
  | .hbm, ⟨9, _⟩ => ⟨S16384x512, .bf16⟩
  | .hbm, ⟨10, _⟩ => ⟨S16384x4x64, .bf16⟩
  | .hbm, ⟨11, _⟩ => ⟨S16384x4x128, .bf16⟩
  | .hbm, ⟨12, _⟩ => ⟨S16384x512, .bf16⟩
  | .hbm, ⟨13, _⟩ => ⟨S384, .i32⟩
  | .hbm, ⟨14, _⟩ => ⟨S_, .i32⟩
  | .hbm, ⟨15, _⟩ => ⟨S384, .i32⟩
  | .hbm, ⟨16, _⟩ => ⟨S384, .i1⟩
  | .hbm, ⟨17, _⟩ => ⟨S384, .i32⟩
  | .hbm, ⟨18, _⟩ => ⟨S_, .i32⟩
  | .hbm, ⟨19, _⟩ => ⟨S384, .i32⟩
  | .hbm, ⟨20, _⟩ => ⟨S384, .i32⟩
  | .hbm, ⟨21, _⟩ => ⟨S384, .i32⟩
  | .hbm, ⟨22, _⟩ => ⟨S1x1, .i32⟩
  | .hbm, ⟨23, _⟩ => ⟨S1x384, .i32⟩
  | .hbm, ⟨24, _⟩ => ⟨S1x384, .i32⟩
  | .hbm, ⟨25, _⟩ => ⟨S1x384, .i32⟩
  | .hbm, ⟨26, _⟩ => ⟨S_, .i32⟩
  | .hbm, ⟨27, _⟩ => ⟨S1x384, .i32⟩
  | .hbm, ⟨28, _⟩ => ⟨S1x384, .i32⟩
  | .hbm, ⟨29, _⟩ => ⟨S_, .i32⟩
  | .hbm, ⟨30, _⟩ => ⟨S1x384, .i32⟩
  | .hbm, ⟨31, _⟩ => ⟨S1x384, .i32⟩
  | .hbm, ⟨32, _⟩ => ⟨S1x384, .f32⟩
  | .hbm, ⟨33, _⟩ => ⟨S_, .f32⟩
  | .hbm, ⟨34, _⟩ => ⟨S1x384, .f32⟩
  | .hbm, ⟨35, _⟩ => ⟨S1x384, .f32⟩
  | .hbm, ⟨36, _⟩ => ⟨S1x384, .f32⟩
  | .hbm, ⟨37, _⟩ => ⟨S_, .f32⟩
  | .hbm, ⟨38, _⟩ => ⟨S1x384, .f32⟩
  | .hbm, ⟨39, _⟩ => ⟨S1x384, .f32⟩
  | .hbm, ⟨40, _⟩ => ⟨S_, .f32⟩
  | .hbm, ⟨41, _⟩ => ⟨S1x384, .f32⟩
  | .hbm, ⟨42, _⟩ => ⟨S1x384, .f32⟩
  | .hbm, ⟨43, _⟩ => ⟨S1x384, .i32⟩
  | .hbm, ⟨44, _⟩ => ⟨S_, .i32⟩
  | .hbm, ⟨45, _⟩ => ⟨S1x384, .i32⟩
  | .hbm, ⟨46, _⟩ => ⟨S1x384, .i32⟩
  | .hbm, ⟨47, _⟩ => ⟨S_, .i32⟩
  | .hbm, ⟨48, _⟩ => ⟨S1x384, .i32⟩
  | .hbm, ⟨49, _⟩ => ⟨S1x384, .i1⟩
  | .hbm, ⟨50, _⟩ => ⟨S_, .i32⟩
  | .hbm, ⟨51, _⟩ => ⟨S1x384, .i32⟩
  | .hbm, ⟨52, _⟩ => ⟨S1x384, .i32⟩
  | .hbm, ⟨53, _⟩ => ⟨S1x384, .i32⟩
  | .hbm, ⟨54, _⟩ => ⟨S_, .i32⟩
  | .hbm, ⟨55, _⟩ => ⟨S1x384, .i32⟩
  | .hbm, ⟨56, _⟩ => ⟨S1x384, .i1⟩
  | .hbm, ⟨57, _⟩ => ⟨S_, .i32⟩
  | .hbm, ⟨58, _⟩ => ⟨S1x384, .i32⟩
  | .hbm, ⟨59, _⟩ => ⟨S1x384, .i32⟩
  | .hbm, ⟨60, _⟩ => ⟨S1x384, .i32⟩
  | .hbm, ⟨61, _⟩ => ⟨S1x384x1, .i32⟩
  | .hbm, ⟨62, _⟩ => ⟨S1x384x32, .f32⟩
  | .hbm, ⟨63, _⟩ => ⟨S1x32x384, .f32⟩
  | .hbm, ⟨64, _⟩ => ⟨S1x1x1x32x1x384, .f32⟩
  | .hbm, ⟨65, _⟩ => ⟨S1x1x1x32x128x384, .f32⟩
  | .hbm, ⟨66, _⟩ => ⟨S1x32x49152, .f32⟩
  | .hbm, ⟨67, _⟩ => ⟨S1x32x49024, .f32⟩
  | .hbm, ⟨68, _⟩ => ⟨S1x32x128x383, .f32⟩
  | .hbm, ⟨69, _⟩ => ⟨S1x32x128x256, .f32⟩
  | .hbm, ⟨70, _⟩ => ⟨S32x128x256, .f32⟩
  | .hbm, ⟨71, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S32x128x256, .f32⟩
  | .local _ .vmem, ⟨11, _⟩ => ⟨S128x2048, .bf16⟩
  | .local _ .vmem, ⟨12, _⟩ => ⟨S128x2048, .bf16⟩
  | .local _ .smem, ⟨0, _⟩ => ⟨S32, .f32⟩
  | _, _ => ⟨S2x8192x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaReferenceIdeal.lean ====
abbrev S2x8192x32x64 : Shape := ⟨4, ![2, 8192, 32, 64]⟩
abbrev S2x8192x4x64 : Shape := ⟨4, ![2, 8192, 4, 64]⟩
abbrev S32 : Shape := ⟨1, ![32]⟩
abbrev S32x32 : Shape := ⟨2, ![32, 32]⟩
abbrev S2x64x128x4x8x64 : Shape := ⟨6, ![2, 64, 128, 4, 8, 64]⟩
abbrev S2x64x128x4x64 : Shape := ⟨5, ![2, 64, 128, 4, 64]⟩
abbrev S_ : Shape := ⟨0, ![]⟩
abbrev S2x65x128x4x64 : Shape := ⟨5, ![2, 65, 128, 4, 64]⟩
abbrev S2x64x256x4x64 : Shape := ⟨5, ![2, 64, 256, 4, 64]⟩
abbrev S2x64x4x256x128x8 : Shape := ⟨6, ![2, 64, 4, 256, 128, 8]⟩
abbrev S2x64x4x8x128x256 : Shape := ⟨6, ![2, 64, 4, 8, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S128x256x1 : Shape := ⟨3, ![128, 256, 1]⟩
abbrev S128x256x32 : Shape := ⟨3, ![128, 256, 32]⟩
abbrev S32x128x256 : Shape := ⟨3, ![32, 128, 256]⟩
abbrev S4x8x128x256 : Shape := ⟨4, ![4, 8, 128, 256]⟩
abbrev S1x64x1x1x128x256 : Shape := ⟨6, ![1, 64, 1, 1, 128, 256]⟩
abbrev S1x1x4x8x128x256 : Shape := ⟨6, ![1, 1, 4, 8, 128, 256]⟩
abbrev S1x1x4x8x1x1 : Shape := ⟨6, ![1, 1, 4, 8, 1, 1]⟩
abbrev S2x64x4x8x128 : Shape := ⟨5, ![2, 64, 4, 8, 128]⟩
abbrev S2x64x4x8x128x1 : Shape := ⟨6, ![2, 64, 4, 8, 128, 1]⟩
abbrev S2x64x4x64x8x128 : Shape := ⟨6, ![2, 64, 4, 64, 8, 128]⟩
abbrev S2x8192x2048 : Shape := ⟨3, ![2, 8192, 2048]⟩
abbrev S16384x2048 : Shape := ⟨2, ![16384, 2048]⟩

abbrev nBuf : Space → Nat
  | .hbm => 131
  | .vmem => 0
  | .smem => 0
  | _ => 0

abbrev hbmTy0_0 (i : Nat) : BufTy := match i % 128 with
  | 0 => ⟨S2x8192x32x64, .bf16⟩
  | 1 => ⟨S2x8192x4x64, .bf16⟩
  | 2 => ⟨S2x8192x4x64, .bf16⟩
  | 3 => ⟨S32, .f32⟩
  | 4 => ⟨S32x32, .f32⟩
  | 5 => ⟨S2x8192x32x64, .f32⟩
  | 6 => ⟨S2x8192x4x64, .f32⟩
  | 7 => ⟨S2x8192x4x64, .f32⟩
  | 8 => ⟨S2x64x128x4x8x64, .f32⟩
  | 9 => ⟨S2x64x128x4x64, .f32⟩
  | 10 => ⟨S_, .i32⟩
  | 11 => ⟨S_, .f32⟩
  | 12 => ⟨S2x65x128x4x64, .f32⟩
  | 13 => ⟨S2x64x128x4x64, .f32⟩
  | 14 => ⟨S2x64x256x4x64, .f32⟩
  | 15 => ⟨S2x64x128x4x64, .f32⟩
  | 16 => ⟨S_, .i32⟩
  | 17 => ⟨S_, .f32⟩
  | 18 => ⟨S2x65x128x4x64, .f32⟩
  | 19 => ⟨S2x64x128x4x64, .f32⟩
  | 20 => ⟨S2x64x256x4x64, .f32⟩
  | 21 => ⟨S2x64x4x256x128x8, .f32⟩
  | 22 => ⟨S2x64x4x8x128x256, .f32⟩
  | 23 => ⟨S_, .f32⟩
  | 24 => ⟨S2x64x4x8x128x256, .f32⟩
  | 25 => ⟨S2x64x4x8x128x256, .f32⟩
  | 26 => ⟨S128, .i32⟩
  | 27 => ⟨S256, .i32⟩
  | 28 => ⟨S128x1, .i32⟩
  | 29 => ⟨S_, .i32⟩
  | 30 => ⟨S128x1, .i32⟩
  | 31 => ⟨S128x1, .i32⟩
  | 32 => ⟨S1x256, .i32⟩
  | 33 => ⟨S128x256, .i32⟩
  | 34 => ⟨S128x256, .i32⟩
  | 35 => ⟨S128x256, .i32⟩
  | 36 => ⟨S_, .i32⟩
  | 37 => ⟨S128x256, .i32⟩
  | 38 => ⟨S128x256, .i1⟩
  | 39 => ⟨S_, .i32⟩
  | 40 => ⟨S128x256, .i32⟩
  | 41 => ⟨S128x256, .i1⟩
  | 42 => ⟨S128x256, .i1⟩
  | 43 => ⟨S64, .i32⟩
  | 44 => ⟨S64x1, .i32⟩
  | 45 => ⟨S_, .i32⟩
  | 46 => ⟨S64x1, .i32⟩
  | 47 => ⟨S64x1, .i1⟩
  | 48 => ⟨S1x256, .i32⟩
  | 49 => ⟨S_, .i32⟩
  | 50 => ⟨S1x256, .i32⟩
  | 51 => ⟨S1x256, .i1⟩
  | 52 => ⟨S64x256, .i1⟩
  | 53 => ⟨S64x256, .i1⟩
  | 54 => ⟨S64x256, .i1⟩
  | 55 => ⟨S1x128x256, .i1⟩
  | 56 => ⟨S64x1x256, .i1⟩
  | 57 => ⟨S64x128x256, .i1⟩
  | 58 => ⟨S64x128x256, .i1⟩
  | 59 => ⟨S64x128x256, .i1⟩
  | 60 => ⟨S_, .i32⟩
  | 61 => ⟨S128x256, .i32⟩
  | 62 => ⟨S128x256, .i32⟩
  | 63 => ⟨S_, .i32⟩
  | 64 => ⟨S128x256, .i32⟩
  | 65 => ⟨S128x256, .i32⟩
  | 66 => ⟨S128x256, .f32⟩
  | 67 => ⟨S_, .f32⟩
  | 68 => ⟨S128x256, .f32⟩
  | 69 => ⟨S128x256, .f32⟩
  | 70 => ⟨S128x256, .f32⟩
  | 71 => ⟨S_, .f32⟩
  | 72 => ⟨S128x256, .f32⟩
  | 73 => ⟨S128x256, .f32⟩
  | 74 => ⟨S_, .f32⟩
  | 75 => ⟨S128x256, .f32⟩
  | 76 => ⟨S128x256, .f32⟩
  | 77 => ⟨S128x256, .i32⟩
  | 78 => ⟨S_, .i32⟩
  | 79 => ⟨S128x256, .i32⟩
  | 80 => ⟨S128x256, .i32⟩
  | 81 => ⟨S_, .i32⟩
  | 82 => ⟨S128x256, .i32⟩
  | 83 => ⟨S128x256, .i1⟩
  | 84 => ⟨S_, .i32⟩
  | 85 => ⟨S128x256, .i32⟩
  | 86 => ⟨S128x256, .i32⟩
  | 87 => ⟨S128x256, .i32⟩
  | 88 => ⟨S_, .i32⟩
  | 89 => ⟨S128x256, .i32⟩
  | 90 => ⟨S128x256, .i1⟩
  | 91 => ⟨S_, .i32⟩
  | 92 => ⟨S128x256, .i32⟩
  | 93 => ⟨S128x256, .i32⟩
  | 94 => ⟨S128x256, .i32⟩
  | 95 => ⟨S128x256x1, .i32⟩
  | 96 => ⟨S128x256x32, .f32⟩
  | 97 => ⟨S32x128x256, .f32⟩
  | 98 => ⟨S4x8x128x256, .f32⟩
  | 99 => ⟨S1x64x1x1x128x256, .i1⟩
  | 100 => ⟨S1x1x4x8x128x256, .f32⟩
  | 101 => ⟨S2x64x4x8x128x256, .f32⟩
  | 102 => ⟨S2x64x4x8x128x256, .f32⟩
  | 103 => ⟨S_, .f32⟩
  | 104 => ⟨S_, .f32⟩
  | 105 => ⟨S2x64x4x8x128x256, .i1⟩
  | 106 => ⟨S2x64x4x8x128x256, .f32⟩
  | 107 => ⟨S2x64x4x8x128x256, .f32⟩
  | 108 => ⟨S1x1x4x8x1x1, .f32⟩
  | 109 => ⟨S_, .f32⟩
  | 110 => ⟨S2x64x4x8x128, .f32⟩
  | 111 => ⟨S2x64x4x8x128x1, .f32⟩
  | 112 => ⟨S2x64x4x8x128x1, .f32⟩
  | 113 => ⟨S2x64x4x8x128x1, .f32⟩
  | 114 => ⟨S2x64x4x8x128x256, .f32⟩
  | 115 => ⟨S2x64x4x8x128x256, .f32⟩
  | 116 => ⟨S2x64x4x8x128x256, .f32⟩
  | 117 => ⟨S_, .f32⟩
  | 118 => ⟨S2x64x4x8x128, .f32⟩
  | 119 => ⟨S2x64x4x8x128x1, .f32⟩
  | 120 => ⟨S2x64x4x8x128x1, .f32⟩
  | 121 => ⟨S2x64x4x8x128x1, .f32⟩
  | 122 => ⟨S2x64x4x8x128x1, .f32⟩
  | 123 => ⟨S2x64x4x8x128x1, .f32⟩
  | 124 => ⟨S2x64x4x8x128x256, .f32⟩
  | 125 => ⟨S2x64x4x8x128x256, .f32⟩
  | 126 => ⟨S2x64x4x64x8x128, .f32⟩
  | 127 => ⟨S2x64x128x4x8x64, .f32⟩
  | _ => ⟨S2x8192x32x64, .bf16⟩

abbrev hbmTy0_1 (i : Nat) : BufTy := match i % 128 with
  | 0 => ⟨S2x8192x2048, .f32⟩
  | 1 => ⟨S16384x2048, .f32⟩
  | 2 => ⟨S16384x2048, .bf16⟩
  | _ => ⟨S2x8192x32x64, .bf16⟩

abbrev hbmTy (i : Nat) : BufTy := match i / 128 with
  | 0 => hbmTy0_0 i
  | 1 => hbmTy0_1 i
  | _ => ⟨S2x8192x32x64, .bf16⟩

abbrev bufTy : (tb : Table) → Fin (tcTables nBuf tb) → BufTy
  | .hbm, ⟨i, _⟩ => hbmTy i
  | _, _ => ⟨S2x8192x32x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_c_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_c_12 : Ref sig .tc := ⟨.hbm, 81, rfl⟩
abbrev main_v60 : Ref sig .tc := ⟨.hbm, 82, rfl⟩
abbrev main_v61 : Ref sig .tc := ⟨.hbm, 83, rfl⟩
abbrev main_c_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_14 : Ref sig .tc := ⟨.hbm, 88, rfl⟩
abbrev main_v65 : Ref sig .tc := ⟨.hbm, 89, rfl⟩
abbrev main_v66 : Ref sig .tc := ⟨.hbm, 90, rfl⟩
abbrev main_c_15 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_16 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩

abbrev nD : Nat := 1
abbrev τ : Topo := Topo.v7x

variable {F : FTy → Type} [FloatOps F]
-- ==== Out.lean ====
abbrev S16384x2048 : Shape := ⟨2, ![16384, 2048]⟩
abbrev S4096x4096 : Shape := ⟨2, ![4096, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S4096x4096, .bf16⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let c0_i32_0 : BitVec 32 := 0#32
  ![c1_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutReferenceIdeal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S16384x2048, .f32⟩
  | .hbm, ⟨5, _⟩ => ⟨S16384x2048, .f32⟩
  | .hbm, ⟨6, _⟩ => ⟨S16384x4096, .f32⟩
  | .hbm, ⟨7, _⟩ => ⟨S16384x4096, .f32⟩
  | .hbm, ⟨8, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== EvenIn.lean ====
abbrev S16384x4096 : Shape := ⟨2, ![16384, 4096]⟩
abbrev S4096 : Shape := ⟨1, ![4096]⟩
abbrev S4096x7840 : Shape := ⟨2, ![4096, 7840]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096x1792 : Shape := ⟨2, ![4096, 1792]⟩
abbrev S4096x6144 : Shape := ⟨2, ![4096, 6144]⟩
abbrev S16384x1792 : Shape := ⟨2, ![16384, 1792]⟩
abbrev S1024x4096 : Shape := ⟨2, ![1024, 4096]⟩
abbrev S4096x256 : Shape := ⟨2, ![4096, 256]⟩
abbrev S1024x256 : Shape := ⟨2, ![1024, 256]⟩
abbrev S16384x6144 : Shape := ⟨2, ![16384, 6144]⟩
abbrev S4096x1024 : Shape := ⟨2, ![4096, 1024]⟩
abbrev S1024x1024 : Shape := ⟨2, ![1024, 1024]⟩

abbrev nBuf : Space → Nat
  | .hbm => 11
  | .vmem => 17
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x7840, .f32⟩
  | .hbm, ⟨3, _⟩ => ⟨S1x4096, .f32⟩
  | .hbm, ⟨4, _⟩ => ⟨S16384x4096, .bf16⟩
  | .hbm, ⟨5, _⟩ => ⟨S4096x1792, .f32⟩
  | .hbm, ⟨6, _⟩ => ⟨S4096x1792, .bf16⟩
  | .hbm, ⟨7, _⟩ => ⟨S4096x6144, .f32⟩
  | .hbm, ⟨8, _⟩ => ⟨S4096x6144, .bf16⟩
  | .hbm, ⟨9, _⟩ => ⟨S16384x1792, .f32⟩
  | .hbm, ⟨10, _⟩ => ⟨S16384x6144, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x256, .bf16⟩
  | .local _ .vmem, ⟨8, _⟩ => ⟨S4096x256, .bf16⟩
  | .local _ .vmem, ⟨9, _⟩ => ⟨S1024x256, .f32⟩
  | .local _ .vmem, ⟨10, _⟩ => ⟨S1024x256, .f32⟩
  | .local _ .vmem, ⟨11, _⟩ => ⟨S1024x4096, .bf16⟩
  | .local _ .vmem, ⟨12, _⟩ => ⟨S1024x4096, .bf16⟩
  | .local _ .vmem, ⟨13, _⟩ => ⟨S4096x1024, .bf16⟩
  | .local _ .vmem, ⟨14, _⟩ => ⟨S4096x1024, .bf16⟩
  | .local _ .vmem, ⟨15, _⟩ => ⟨S1024x1024, .bf16⟩
  | .local _ .vmem, ⟨16, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![16, 7, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 6, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== EvenInReferenceIdeal.lean ====
abbrev S16384x4096 : Shape := ⟨2, ![16384, 4096]⟩
abbrev S4096 : Shape := ⟨1, ![4096]⟩
abbrev S4096x7840 : Shape := ⟨2, ![4096, 7840]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x7840 : Shape := ⟨2, ![16384, 7840]⟩
abbrev S16384x1792 : Shape := ⟨2, ![16384, 1792]⟩
abbrev S16384x6144 : Shape := ⟨2, ![16384, 6144]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x7840, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x7840, .f32⟩
  | .hbm, ⟨20, _⟩ => ⟨S16384x1792, .f32⟩
  | .hbm, ⟨21, _⟩ => ⟨S16384x6144, .f32⟩
  | .hbm, ⟨22, _⟩ => ⟨S16384x6144, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== OddIn.lean ====
abbrev S16384x4096 : Shape := ⟨2, ![16384, 4096]⟩
abbrev S4096 : Shape := ⟨1, ![4096]⟩
abbrev S4096x8704 : Shape := ⟨2, ![4096, 8704]⟩
abbrev S128 : Shape := ⟨1, ![128]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S16384x256 : Shape := ⟨2, ![16384, 256]⟩
abbrev S1024x4096 : Shape := ⟨2, ![1024, 4096]⟩
abbrev S4096x256 : Shape := ⟨2, ![4096, 256]⟩
abbrev S1024x256 : Shape := ⟨2, ![1024, 256]⟩
abbrev S1x128 : Shape := ⟨2, ![1, 128]⟩
abbrev S2048x16384 : Shape := ⟨2, ![2048, 16384]⟩
abbrev S4096x512 : Shape := ⟨2, ![4096, 512]⟩
abbrev S512x1024 : Shape := ⟨2, ![512, 1024]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S16384x2048 : Shape := ⟨2, ![16384, 2048]⟩

abbrev nBuf : Space → Nat
  | .hbm => 20
  | .vmem => 30
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x8704, .f32⟩
  | .hbm, ⟨3, _⟩ => ⟨S128, .f32⟩
  | .hbm, ⟨4, _⟩ => ⟨S128, .f32⟩
  | .hbm, ⟨5, _⟩ => ⟨S1x4096, .f32⟩
  | .hbm, ⟨6, _⟩ => ⟨S16384x4096, .bf16⟩
  | .hbm, ⟨7, _⟩ => ⟨S4096x8704, .bf16⟩
  | .hbm, ⟨8, _⟩ => ⟨S16384x256, .bf16⟩
  | .hbm, ⟨9, _⟩ => ⟨S1x128, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S2048x16384, .bf16⟩
  | .hbm, ⟨14, _⟩ => ⟨S1x128, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S16384x2048, .bf16⟩
  | .hbm, ⟨19, _⟩ => ⟨S2048x16384, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x256, .bf16⟩
  | .local _ .vmem, ⟨8, _⟩ => ⟨S1024x256, .bf16⟩
  | .local _ .vmem, ⟨9, _⟩ => ⟨S1024x256, .bf16⟩
  | .local _ .vmem, ⟨10, _⟩ => ⟨S1024x4096, .bf16⟩
  | .local _ .vmem, ⟨11, _⟩ => ⟨S1024x4096, .bf16⟩
  | .local _ .vmem, ⟨12, _⟩ => ⟨S4096x512, .bf16⟩
  | .local _ .vmem, ⟨13, _⟩ => ⟨S4096x512, .bf16⟩
  | .local _ .vmem, ⟨14, _⟩ => ⟨S1x128, .f32⟩
  | .local _ .vmem, ⟨15, _⟩ => ⟨S512x1024, .bf16⟩
  | .local _ .vmem, ⟨16, _⟩ => ⟨S512x1024, .bf16⟩
  | .local _ .vmem, ⟨17, _⟩ => ⟨S1024x4096, .bf16⟩
  | .local _ .vmem, ⟨18, _⟩ => ⟨S1024x4096, .bf16⟩
  | .local _ .vmem, ⟨19, _⟩ => ⟨S4096x512, .bf16⟩
  | .local _ .vmem, ⟨20, _⟩ => ⟨S4096x512, .bf16⟩
  | .local _ .vmem, ⟨21, _⟩ => ⟨S1x128, .f32⟩
  | .local _ .vmem, ⟨22, _⟩ => ⟨S1024x512, .bf16⟩
  | .local _ .vmem, ⟨23, _⟩ => ⟨S1024x512, .bf16⟩
  | .local _ .vmem, ⟨24, _⟩ => ⟨S1024x4096, .bf16⟩
  | .local _ .vmem, ⟨25, _⟩ => ⟨S1024x4096, .bf16⟩
  | .local _ .vmem, ⟨26, _⟩ => ⟨S4096x512, .bf16⟩
  | .local _ .vmem, ⟨27, _⟩ => ⟨S4096x512, .bf16⟩
  | .local _ .vmem, ⟨28, _⟩ => ⟨S512x1024, .bf16⟩
  | .local _ .vmem, ⟨29, _⟩ => ⟨S512x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg1 c9_i32
  let c0_i32 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg1 c5_i32
  let c0_i32 : BitVec 32 := 0#32
  ![arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![16, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg1 c9_i32
  let c0_i32 : BitVec 32 := 0#32
  ![arg2.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false, false]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![16, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi arg1 c13_i32
  let c0_i32 : BitVec 32 := 0#32
  ![arg2.toNat, v0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== OddInReferenceIdeal.lean ====
abbrev S16384x4096 : Shape := ⟨2, ![16384, 4096]⟩
abbrev S4096 : Shape := ⟨1, ![4096]⟩
abbrev S4096x8704 : Shape := ⟨2, ![4096, 8704]⟩
abbrev S128 : Shape := ⟨1, ![128]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x8704 : Shape := ⟨2, ![16384, 8704]⟩
abbrev S16384x256 : Shape := ⟨2, ![16384, 256]⟩
abbrev S16384x2048 : Shape := ⟨2, ![16384, 2048]⟩
abbrev S16384x8x2x128 : Shape := ⟨4, ![16384, 8, 2, 128]⟩
abbrev S16384x8x2 : Shape := ⟨3, ![16384, 8, 2]⟩
abbrev S16384x8x2x1 : Shape := ⟨4, ![16384, 8, 2, 1]⟩
abbrev S1x1x1x128 : Shape := ⟨4, ![1, 1, 1, 128]⟩
abbrev S2048x16384 : Shape := ⟨2, ![2048, 16384]⟩

abbrev nBuf : Space → Nat
  | .hbm => 68
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x8704, .f32⟩
  | .hbm, ⟨3, _⟩ => ⟨S128, .f32⟩
  | .hbm, ⟨4, _⟩ => ⟨S128, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x8704, .f32⟩
  | .hbm, ⟨22, _⟩ => ⟨S16384x256, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x8x2x128, .f32⟩
  | .hbm, ⟨27, _⟩ => ⟨S16384x8x2x128, .f32⟩
  | .hbm, ⟨28, _⟩ => ⟨S_, .f32⟩
  | .hbm, ⟨29, _⟩ => ⟨S16384x8x2, .f32⟩
  | .hbm, ⟨30, _⟩ => ⟨S16384x8x2x1, .f32⟩
  | .hbm, ⟨31, _⟩ => ⟨S_, .f32⟩
  | .hbm, ⟨32, _⟩ => ⟨S16384x8x2x1, .f32⟩
  | .hbm, ⟨33, _⟩ => ⟨S16384x8x2x1, .f32⟩
  | .hbm, ⟨34, _⟩ => ⟨S_, .f32⟩
  | .hbm, ⟨35, _⟩ => ⟨S16384x8x2x1, .f32⟩
  | .hbm, ⟨36, _⟩ => ⟨S16384x8x2x1, .f32⟩
  | .hbm, ⟨37, _⟩ => ⟨S16384x8x2x1, .f32⟩
  | .hbm, ⟨38, _⟩ => ⟨S16384x8x2x128, .f32⟩
  | .hbm, ⟨39, _⟩ => ⟨S16384x8x2x128, .f32⟩
  | .hbm, ⟨40, _⟩ => ⟨S1x1x1x128, .f32⟩
  | .hbm, ⟨41, _⟩ => ⟨S16384x8x2x128, .f32⟩
  | .hbm, ⟨42, _⟩ => ⟨S16384x8x2x128, .f32⟩
  | .hbm, ⟨43, _⟩ => ⟨S16384x2048, .f32⟩
  | .hbm, ⟨44, _⟩ => ⟨S16384x8x2x128, .f32⟩
  | .hbm, ⟨45, _⟩ => ⟨S16384x8x2x128, .f32⟩
  | .hbm, ⟨46, _⟩ => ⟨S_, .f32⟩
  | .hbm, ⟨47, _⟩ => ⟨S16384x8x2, .f32⟩
  | .hbm, ⟨48, _⟩ => ⟨S16384x8x2x1, .f32⟩
  | .hbm, ⟨49, _⟩ => ⟨S_, .f32⟩
  | .hbm, ⟨50, _⟩ => ⟨S16384x8x2x1, .f32⟩
  | .hbm, ⟨51, _⟩ => ⟨S16384x8x2x1, .f32⟩
  | .hbm, ⟨52, _⟩ => ⟨S_, .f32⟩
  | .hbm, ⟨53, _⟩ => ⟨S16384x8x2x1, .f32⟩
  | .hbm, ⟨54, _⟩ => ⟨S16384x8x2x1, .f32⟩
  | .hbm, ⟨55, _⟩ => ⟨S16384x8x2x1, .f32⟩
  | .hbm, ⟨56, _⟩ => ⟨S16384x8x2x128, .f32⟩
  | .hbm, ⟨57, _⟩ => ⟨S16384x8x2x128, .f32⟩
  | .hbm, ⟨58, _⟩ => ⟨S1x1x1x128, .f32⟩
  | .hbm, ⟨59, _⟩ => ⟨S16384x8x2x128, .f32⟩
  | .hbm, ⟨60, _⟩ => ⟨S16384x8x2x128, .f32⟩
  | .hbm, ⟨61, _⟩ => ⟨S16384x2048, .f32⟩
  | .hbm, ⟨62, _⟩ => ⟨S2048x16384, .f32⟩
  | .hbm, ⟨63, _⟩ => ⟨S2048x16384, .f32⟩
  | .hbm, ⟨64, _⟩ => ⟨S16384x256, .bf16⟩
  | .hbm, ⟨65, _⟩ => ⟨S2048x16384, .bf16⟩
  | .hbm, ⟨66, _⟩ => ⟨S16384x2048, .bf16⟩
  | .hbm, ⟨67, _⟩ => ⟨S2048x16384, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== DsaIn.lean ====
abbrev S16384x1024 : Shape := ⟨2, ![16384, 1024]⟩
abbrev S1024x16x512 : Shape := ⟨3, ![1024, 16, 512]⟩
abbrev S512 : Shape := ⟨1, ![512]⟩
abbrev S1024x32x128 : Shape := ⟨3, ![1024, 32, 128]⟩
abbrev S1024x8192 : Shape := ⟨2, ![1024, 8192]⟩
abbrev S1x512 : Shape := ⟨2, ![1, 512]⟩
abbrev S8192x16384 : Shape := ⟨2, ![8192, 16384]⟩
abbrev S512x1024 : Shape := ⟨2, ![512, 1024]⟩
abbrev S1024x2048 : Shape := ⟨2, ![1024, 2048]⟩
abbrev S2048x512 : Shape := ⟨2, ![2048, 512]⟩
abbrev S512x2048 : Shape := ⟨2, ![512, 2048]⟩
abbrev S512x512 : Shape := ⟨2, ![512, 512]⟩
abbrev S512x1 : Shape := ⟨2, ![512, 1]⟩
abbrev S1024x4096 : Shape := ⟨2, ![1024, 4096]⟩
abbrev S4096x16384 : Shape := ⟨2, ![4096, 16384]⟩
abbrev S1024x1024 : Shape := ⟨2, ![1024, 1024]⟩

abbrev nBuf : Space → Nat
  | .hbm => 14
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S1024x16x512, .f32⟩
  | .hbm, ⟨2, _⟩ => ⟨S512, .f32⟩
  | .hbm, ⟨3, _⟩ => ⟨S1024x32x128, .f32⟩
  | .hbm, ⟨4, _⟩ => ⟨S1024x8192, .f32⟩
  | .hbm, ⟨5, _⟩ => ⟨S1024x8192, .bf16⟩
  | .hbm, ⟨6, _⟩ => ⟨S1x512, .f32⟩
  | .hbm, ⟨7, _⟩ => ⟨S1x512, .f32⟩
  | .hbm, ⟨8, _⟩ => ⟨S512, .f32⟩
  | .hbm, ⟨9, _⟩ => ⟨S1x512, .f32⟩
  | .hbm, ⟨10, _⟩ => ⟨S8192x16384, .bf16⟩
  | .hbm, ⟨11, _⟩ => ⟨S1024x4096, .f32⟩
  | .hbm, ⟨12, _⟩ => ⟨S1024x4096, .bf16⟩
  | .hbm, ⟨13, _⟩ => ⟨S4096x16384, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x512, .f32⟩
  | .local _ .vmem, ⟨5, _⟩ => ⟨S2048x512, .bf16⟩
  | .local _ .vmem, ⟨6, _⟩ => ⟨S2048x512, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨3, ![32, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![16, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== DsaInReferenceIdeal.lean ====
abbrev S16384x1024 : Shape := ⟨2, ![16384, 1024]⟩
abbrev S1024x16x512 : Shape := ⟨3, ![1024, 16, 512]⟩
abbrev S512 : Shape := ⟨1, ![512]⟩
abbrev S1024x32x128 : Shape := ⟨3, ![1024, 32, 128]⟩
abbrev S16384x16x512 : Shape := ⟨3, ![16384, 16, 512]⟩
abbrev S_ : Shape := ⟨0, ![]⟩
abbrev S16384x16 : Shape := ⟨2, ![16384, 16]⟩
abbrev S16384x16x1 : Shape := ⟨3, ![16384, 16, 1]⟩
abbrev S1x1x512 : Shape := ⟨3, ![1, 1, 512]⟩
abbrev S16384x8192 : Shape := ⟨2, ![16384, 8192]⟩
abbrev S16384x32x128 : Shape := ⟨3, ![16384, 32, 128]⟩
abbrev S16384x4096 : Shape := ⟨2, ![16384, 4096]⟩
abbrev S8192x16384 : Shape := ⟨2, ![8192, 16384]⟩
abbrev S4096x16384 : Shape := ⟨2, ![4096, 16384]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x16x512, .f32⟩
  | .hbm, ⟨2, _⟩ => ⟨S512, .f32⟩
  | .hbm, ⟨3, _⟩ => ⟨S1024x32x128, .f32⟩
  | .hbm, ⟨4, _⟩ => ⟨S16384x1024, .f32⟩
  | .hbm, ⟨5, _⟩ => ⟨S16384x16x512, .f32⟩
  | .hbm, ⟨6, _⟩ => ⟨S16384x16x512, .f32⟩
  | .hbm, ⟨7, _⟩ => ⟨S_, .f32⟩
  | .hbm, ⟨8, _⟩ => ⟨S16384x16, .f32⟩
  | .hbm, ⟨9, _⟩ => ⟨S16384x16x1, .f32⟩
  | .hbm, ⟨10, _⟩ => ⟨S_, .f32⟩
  | .hbm, ⟨11, _⟩ => ⟨S16384x16x1, .f32⟩
  | .hbm, ⟨12, _⟩ => ⟨S16384x16x1, .f32⟩
  | .hbm, ⟨13, _⟩ => ⟨S_, .f32⟩
  | .hbm, ⟨14, _⟩ => ⟨S16384x16x1, .f32⟩
  | .hbm, ⟨15, _⟩ => ⟨S16384x16x1, .f32⟩
  | .hbm, ⟨16, _⟩ => ⟨S16384x16x1, .f32⟩
  | .hbm, ⟨17, _⟩ => ⟨S16384x16x512, .f32⟩
  | .hbm, ⟨18, _⟩ => ⟨S16384x16x512, .f32⟩
  | .hbm, ⟨19, _⟩ => ⟨S1x1x512, .f32⟩
  | .hbm, ⟨20, _⟩ => ⟨S16384x16x512, .f32⟩
  | .hbm, ⟨21, _⟩ => ⟨S16384x16x512, .f32⟩
  | .hbm, ⟨22, _⟩ => ⟨S16384x8192, .f32⟩
  | .hbm, ⟨23, _⟩ => ⟨S16384x32x128, .f32⟩
  | .hbm, ⟨24, _⟩ => ⟨S16384x4096, .f32⟩
  | .hbm, ⟨25, _⟩ => ⟨S8192x16384, .f32⟩
  | .hbm, ⟨26, _⟩ => ⟨S8192x16384, .bf16⟩
  | .hbm, ⟨27, _⟩ => ⟨S4096x16384, .f32⟩
  | .hbm, ⟨28, _⟩ => ⟨S4096x16384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Cross.lean ====
abbrev S2x8192x4096 : Shape := ⟨3, ![2, 8192, 4096]⟩
abbrev S2x256x4096 : Shape := ⟨3, ![2, 256, 4096]⟩
abbrev S4096 : Shape := ⟨1, ![4096]⟩
abbrev S4096x4x128 : Shape := ⟨3, ![4096, 4, 128]⟩
abbrev S128 : Shape := ⟨1, ![128]⟩
abbrev S512x4096 : Shape := ⟨2, ![512, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S16384x4096 : Shape := ⟨2, ![16384, 4096]⟩
abbrev S4096x512 : Shape := ⟨2, ![4096, 512]⟩
abbrev S512x512 : Shape := ⟨2, ![512, 512]⟩
abbrev S1x128 : Shape := ⟨2, ![1, 128]⟩
abbrev S256x512 : Shape := ⟨2, ![256, 512]⟩
abbrev S256x128 : Shape := ⟨2, ![256, 128]⟩
abbrev S256x256 : Shape := ⟨2, ![256, 256]⟩

abbrev nBuf : Space → Nat
  | .hbm => 30
  | .vmem => 27
  | .smem => 0
  | _ => 0

abbrev bufTy : (tb : Table) → Fin (tcTables nBuf tb) → BufTy
  | .hbm, ⟨0, _⟩ => ⟨S2x8192x4096, .f32⟩
  | .hbm, ⟨1, _⟩ => ⟨S2x256x4096, .f32⟩
  | .hbm, ⟨2, _⟩ => ⟨S4096, .f32⟩
  | .hbm, ⟨3, _⟩ => ⟨S4096, .f32⟩
  | .hbm, ⟨4, _⟩ => ⟨S4096x4x128, .f32⟩
  | .hbm, ⟨5, _⟩ => ⟨S4096x4x128, .f32⟩
  | .hbm, ⟨6, _⟩ => ⟨S4096x4x128, .f32⟩
  | .hbm, ⟨7, _⟩ => ⟨S128, .f32⟩
  | .hbm, ⟨8, _⟩ => ⟨S128, .f32⟩
  | .hbm, ⟨9, _⟩ => ⟨S512x4096, .f32⟩
  | .hbm, ⟨10, _⟩ => ⟨S4096, .f32⟩
  | .hbm, ⟨11, _⟩ => ⟨S512x4096, .f32⟩
  | .hbm, ⟨12, _⟩ => ⟨S1x4096, .f32⟩
  | .hbm, ⟨13, _⟩ => ⟨S512x4096, .bf16⟩
  | .hbm, ⟨14, _⟩ => ⟨S16384x4096, .f32⟩
  | .hbm, ⟨15, _⟩ => ⟨S4096x512, .f32⟩
  | .hbm, ⟨16, _⟩ => ⟨S4096x512, .bf16⟩
  | .hbm, ⟨17, _⟩ => ⟨S512x512, .f32⟩
  | .hbm, ⟨18, _⟩ => ⟨S4096x512, .f32⟩
  | .hbm, ⟨19, _⟩ => ⟨S4096x512, .bf16⟩
  | .hbm, ⟨20, _⟩ => ⟨S512x512, .bf16⟩
  | .hbm, ⟨21, _⟩ => ⟨S4096x512, .f32⟩
  | .hbm, ⟨22, _⟩ => ⟨S4096x512, .bf16⟩
  | .hbm, ⟨23, _⟩ => ⟨S512x4096, .bf16⟩
  | .hbm, ⟨24, _⟩ => ⟨S1x4096, .f32⟩
  | .hbm, ⟨25, _⟩ => ⟨S1x128, .f32⟩
  | .hbm, ⟨26, _⟩ => ⟨S1x128, .f32⟩
  | .hbm, ⟨27, _⟩ => ⟨S1x4096, .f32⟩
  | .hbm, ⟨28, _⟩ => ⟨S16384x4096, .f32⟩
  | .hbm, ⟨29, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S512x4096, .bf16⟩
  | .local _ .vmem, ⟨6, _⟩ => ⟨S4096x512, .bf16⟩
  | .local _ .vmem, ⟨7, _⟩ => ⟨S512x512, .f32⟩
  | .local _ .vmem, ⟨8, _⟩ => ⟨S512x4096, .bf16⟩
  | .local _ .vmem, ⟨9, _⟩ => ⟨S4096x512, .bf16⟩
  | .local _ .vmem, ⟨10, _⟩ => ⟨S512x512, .bf16⟩
  | .local _ .vmem, ⟨11, _⟩ => ⟨S256x4096, .f32⟩
  | .local _ .vmem, ⟨12, _⟩ => ⟨S256x4096, .f32⟩
  | .local _ .vmem, ⟨13, _⟩ => ⟨S1x4096, .f32⟩
  | .local _ .vmem, ⟨14, _⟩ => ⟨S4096x512, .bf16⟩
  | .local _ .vmem, ⟨15, _⟩ => ⟨S256x512, .f32⟩
  | .local _ .vmem, ⟨16, _⟩ => ⟨S256x512, .f32⟩
  | .local _ .vmem, ⟨17, _⟩ => ⟨S256x512, .bf16⟩
  | .local _ .vmem, ⟨18, _⟩ => ⟨S256x512, .bf16⟩
  | .local _ .vmem, ⟨19, _⟩ => ⟨S1x128, .f32⟩
  | .local _ .vmem, ⟨20, _⟩ => ⟨S1x128, .f32⟩
  | .local _ .vmem, ⟨21, _⟩ => ⟨S512x4096, .bf16⟩
  | .local _ .vmem, ⟨22, _⟩ => ⟨S1x4096, .f32⟩
  | .local _ .vmem, ⟨23, _⟩ => ⟨S256x4096, .f32⟩
  | .local _ .vmem, ⟨24, _⟩ => ⟨S256x4096, .f32⟩
  | .local _ .vmem, ⟨25, _⟩ => ⟨S256x4096, .bf16⟩
  | .local _ .vmem, ⟨26, _⟩ => ⟨S256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg3_0 : Ref sig .tc := ⟨.vmem, 15, rfl⟩
abbrev cc3_stg3_1 : Ref sig .tc := ⟨.vmem, 16, rfl⟩
abbrev cc3_stg4_0 : Ref sig .tc := ⟨.vmem, 17, rfl⟩
abbrev cc3_stg4_1 : Ref sig .tc := ⟨.vmem, 18, rfl⟩
abbrev cc3_stg5_0 : Ref sig .tc := ⟨.vmem, 19, rfl⟩
abbrev cc3_stg6_0 : Ref sig .tc := ⟨.vmem, 20, rfl⟩
abbrev cc3_stg7_0 : Ref sig .tc := ⟨.vmem, 21, rfl⟩
abbrev cc3_stg8_0 : Ref sig .tc := ⟨.vmem, 22, rfl⟩
abbrev cc3_stg9_0 : Ref sig .tc := ⟨.vmem, 23, rfl⟩
abbrev cc3_stg9_1 : Ref sig .tc := ⟨.vmem, 24, rfl⟩
abbrev cc3_stg10_0 : Ref sig .tc := ⟨.vmem, 25, rfl⟩
abbrev cc3_stg10_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem1_0 : DmaSem sig := 9
abbrev cc2_sem2_0 : DmaSem sig := 10
abbrev cc3_sem0_0 : DmaSem sig := 11
abbrev cc3_sem0_1 : DmaSem sig := 12
abbrev cc3_sem1_0 : DmaSem sig := 13
abbrev cc3_sem2_0 : DmaSem sig := 14
abbrev cc3_sem3_0 : DmaSem sig := 15
abbrev cc3_sem3_1 : DmaSem sig := 16
abbrev cc3_sem4_0 : DmaSem sig := 17
abbrev cc3_sem4_1 : DmaSem sig := 18
abbrev cc3_sem5_0 : DmaSem sig := 19
abbrev cc3_sem6_0 : DmaSem sig := 20
abbrev cc3_sem7_0 : DmaSem sig := 21
abbrev cc3_sem8_0 : DmaSem sig := 22
abbrev cc3_sem9_0 : DmaSem sig := 23
abbrev cc3_sem9_1 : DmaSem sig := 24
abbrev cc3_sem10_0 : DmaSem sig := 25
abbrev cc3_sem10_1 : DmaSem sig := 26

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S512x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S512x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S4096x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨2, ![2, 32], ![false, false]⟩

def cc3_transform_0 (i : grid3.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc3_transform_10 (i : grid3.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S4096x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S256x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S256x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S512x4096 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x4096 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S256x4096 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S256x4096 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]
-- ==== CrossReferenceIdeal.lean ====
abbrev S2x8192x4096 : Shape := ⟨3, ![2, 8192, 4096]⟩
abbrev S2x256x4096 : Shape := ⟨3, ![2, 256, 4096]⟩
abbrev S4096 : Shape := ⟨1, ![4096]⟩
abbrev S4096x4x128 : Shape := ⟨3, ![4096, 4, 128]⟩
abbrev S128 : Shape := ⟨1, ![128]⟩
abbrev S512x4096 : Shape := ⟨2, ![512, 4096]⟩
abbrev S_ : Shape := ⟨0, ![]⟩
abbrev S2x256 : Shape := ⟨2, ![2, 256]⟩
abbrev S2x256x1 : Shape := ⟨3, ![2, 256, 1]⟩
abbrev S1x1x4096 : Shape := ⟨3, ![1, 1, 4096]⟩
abbrev S2x8192 : Shape := ⟨2, ![2, 8192]⟩
abbrev S2x8192x1 : Shape := ⟨3, ![2, 8192, 1]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192x512 : Shape := ⟨3, ![2, 8192, 512]⟩
abbrev S16384x4096 : Shape := ⟨2, ![16384, 4096]⟩

abbrev nBuf : Space → Nat
  | .hbm => 120
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x256x4096, .f32⟩
  | .hbm, ⟨2, _⟩ => ⟨S4096, .f32⟩
  | .hbm, ⟨3, _⟩ => ⟨S4096, .f32⟩
  | .hbm, ⟨4, _⟩ => ⟨S4096x4x128, .f32⟩
  | .hbm, ⟨5, _⟩ => ⟨S4096x4x128, .f32⟩
  | .hbm, ⟨6, _⟩ => ⟨S4096x4x128, .f32⟩
  | .hbm, ⟨7, _⟩ => ⟨S128, .f32⟩
  | .hbm, ⟨8, _⟩ => ⟨S128, .f32⟩
  | .hbm, ⟨9, _⟩ => ⟨S512x4096, .f32⟩
  | .hbm, ⟨10, _⟩ => ⟨S4096, .f32⟩
  | .hbm, ⟨11, _⟩ => ⟨S2x256x4096, .f32⟩
  | .hbm, ⟨12, _⟩ => ⟨S_, .f32⟩
  | .hbm, ⟨13, _⟩ => ⟨S2x256, .f32⟩
  | .hbm, ⟨14, _⟩ => ⟨S2x256x1, .f32⟩
  | .hbm, ⟨15, _⟩ => ⟨S_, .f32⟩
  | .hbm, ⟨16, _⟩ => ⟨S2x256x1, .f32⟩
  | .hbm, ⟨17, _⟩ => ⟨S2x256x1, .f32⟩
  | .hbm, ⟨18, _⟩ => ⟨S_, .f32⟩
  | .hbm, ⟨19, _⟩ => ⟨S2x256x1, .f32⟩
  | .hbm, ⟨20, _⟩ => ⟨S2x256x1, .f32⟩
  | .hbm, ⟨21, _⟩ => ⟨S2x256x1, .f32⟩
  | .hbm, ⟨22, _⟩ => ⟨S2x256x4096, .f32⟩
  | .hbm, ⟨23, _⟩ => ⟨S2x256x4096, .f32⟩
  | .hbm, ⟨24, _⟩ => ⟨S1x1x4096, .f32⟩
  | .hbm, ⟨25, _⟩ => ⟨S2x256x4096, .f32⟩
  | .hbm, ⟨26, _⟩ => ⟨S2x256x4096, .f32⟩
  | .hbm, ⟨27, _⟩ => ⟨S2x8192x4096, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x4096, .f32⟩
  | .hbm, ⟨39, _⟩ => ⟨S2x8192x4096, .f32⟩
  | .hbm, ⟨40, _⟩ => ⟨S1x1x4096, .f32⟩
  | .hbm, ⟨41, _⟩ => ⟨S2x8192x4096, .f32⟩
  | .hbm, ⟨42, _⟩ => ⟨S2x8192x4096, .f32⟩
  | .hbm, ⟨43, _⟩ => ⟨S2x8192x4x128, .f32⟩
  | .hbm, ⟨44, _⟩ => ⟨S2x8192x4x128, .f32⟩
  | .hbm, ⟨45, _⟩ => ⟨S_, .f32⟩
  | .hbm, ⟨46, _⟩ => ⟨S2x8192x4, .f32⟩
  | .hbm, ⟨47, _⟩ => ⟨S2x8192x4x1, .f32⟩
  | .hbm, ⟨48, _⟩ => ⟨S_, .f32⟩
  | .hbm, ⟨49, _⟩ => ⟨S2x8192x4x1, .f32⟩
  | .hbm, ⟨50, _⟩ => ⟨S2x8192x4x1, .f32⟩
  | .hbm, ⟨51, _⟩ => ⟨S_, .f32⟩
  | .hbm, ⟨52, _⟩ => ⟨S2x8192x4x1, .f32⟩
  | .hbm, ⟨53, _⟩ => ⟨S2x8192x4x1, .f32⟩
  | .hbm, ⟨54, _⟩ => ⟨S2x8192x4x1, .f32⟩
  | .hbm, ⟨55, _⟩ => ⟨S2x8192x4x128, .f32⟩
  | .hbm, ⟨56, _⟩ => ⟨S2x8192x4x128, .f32⟩
  | .hbm, ⟨57, _⟩ => ⟨S1x1x1x128, .f32⟩
  | .hbm, ⟨58, _⟩ => ⟨S2x8192x4x128, .f32⟩
  | .hbm, ⟨59, _⟩ => ⟨S2x8192x4x128, .f32⟩
  | .hbm, ⟨60, _⟩ => ⟨S2x256x4x128, .f32⟩
  | .hbm, ⟨61, _⟩ => ⟨S2x256x4x128, .f32⟩
  | .hbm, ⟨62, _⟩ => ⟨S_, .f32⟩
  | .hbm, ⟨63, _⟩ => ⟨S2x256x4, .f32⟩
  | .hbm, ⟨64, _⟩ => ⟨S2x256x4x1, .f32⟩
  | .hbm, ⟨65, _⟩ => ⟨S_, .f32⟩
  | .hbm, ⟨66, _⟩ => ⟨S2x256x4x1, .f32⟩
  | .hbm, ⟨67, _⟩ => ⟨S2x256x4x1, .f32⟩
  | .hbm, ⟨68, _⟩ => ⟨S_, .f32⟩
  | .hbm, ⟨69, _⟩ => ⟨S2x256x4x1, .f32⟩
  | .hbm, ⟨70, _⟩ => ⟨S2x256x4x1, .f32⟩
  | .hbm, ⟨71, _⟩ => ⟨S2x256x4x1, .f32⟩
  | .hbm, ⟨72, _⟩ => ⟨S2x256x4x128, .f32⟩
  | .hbm, ⟨73, _⟩ => ⟨S2x256x4x128, .f32⟩
  | .hbm, ⟨74, _⟩ => ⟨S1x1x1x128, .f32⟩
  | .hbm, ⟨75, _⟩ => ⟨S2x256x4x128, .f32⟩
  | .hbm, ⟨76, _⟩ => ⟨S2x256x4x128, .f32⟩
  | .hbm, ⟨77, _⟩ => ⟨S2x256x4x128, .f32⟩
  | .hbm, ⟨78, _⟩ => ⟨S2x4x8192x256, .f32⟩
  | .hbm, ⟨79, _⟩ => ⟨S_, .f32⟩
  | .hbm, ⟨80, _⟩ => ⟨S2x4x8192x256, .f32⟩
  | .hbm, ⟨81, _⟩ => ⟨S2x4x8192x256, .f32⟩
  | .hbm, ⟨82, _⟩ => ⟨S_, .f32⟩
  | .hbm, ⟨83, _⟩ => ⟨S2x4x8192, .f32⟩
  | .hbm, ⟨84, _⟩ => ⟨S_, .f32⟩
  | .hbm, ⟨85, _⟩ => ⟨S2x4x8192, .f32⟩
  | .hbm, ⟨86, _⟩ => ⟨S2x4x8192, .f32⟩
  | .hbm, ⟨87, _⟩ => ⟨S2x4x8192x1, .f32⟩
  | .hbm, ⟨88, _⟩ => ⟨S2x4x8192x256, .f32⟩
  | .hbm, ⟨89, _⟩ => ⟨S2x4x8192x256, .f32⟩
  | .hbm, ⟨90, _⟩ => ⟨S2x4x8192x256, .f32⟩
  | .hbm, ⟨91, _⟩ => ⟨S_, .f32⟩
  | .hbm, ⟨92, _⟩ => ⟨S2x4x8192, .f32⟩
  | .hbm, ⟨93, _⟩ => ⟨S2x4x8192x1, .f32⟩
  | .hbm, ⟨94, _⟩ => ⟨S2x4x8192x256, .f32⟩
  | .hbm, ⟨95, _⟩ => ⟨S2x4x8192x256, .f32⟩
  | .hbm, ⟨96, _⟩ => ⟨S2x4x128x8192, .f32⟩
  | .hbm, ⟨97, _⟩ => ⟨S2x8192x4x128, .f32⟩
  | .hbm, ⟨98, _⟩ => ⟨S2x8192x512, .f32⟩
  | .hbm, ⟨99, _⟩ => ⟨S2x8192x4096, .f32⟩
  | .hbm, ⟨100, _⟩ => ⟨S2x8192x4096, .f32⟩
  | .hbm, ⟨101, _⟩ => ⟨S2x8192x4096, .f32⟩
  | .hbm, ⟨102, _⟩ => ⟨S_, .f32⟩
  | .hbm, ⟨103, _⟩ => ⟨S2x8192, .f32⟩
  | .hbm, ⟨104, _⟩ => ⟨S2x8192x1, .f32⟩
  | .hbm, ⟨105, _⟩ => ⟨S_, .f32⟩
  | .hbm, ⟨106, _⟩ => ⟨S2x8192x1, .f32⟩
  | .hbm, ⟨107, _⟩ => ⟨S2x8192x1, .f32⟩
  | .hbm, ⟨108, _⟩ => ⟨S_, .f32⟩
  | .hbm, ⟨109, _⟩ => ⟨S2x8192x1, .f32⟩
  | .hbm, ⟨110, _⟩ => ⟨S2x8192x1, .f32⟩
  | .hbm, ⟨111, _⟩ => ⟨S2x8192x1, .f32⟩
  | .hbm, ⟨112, _⟩ => ⟨S2x8192x4096, .f32⟩
  | .hbm, ⟨113, _⟩ => ⟨S2x8192x4096, .f32⟩
  | .hbm, ⟨114, _⟩ => ⟨S1x1x4096, .f32⟩
  | .hbm, ⟨115, _⟩ => ⟨S2x8192x4096, .f32⟩
  | .hbm, ⟨116, _⟩ => ⟨S2x8192x4096, .f32⟩
  | .hbm, ⟨117, _⟩ => ⟨S16384x4096, .f32⟩
  | .hbm, ⟨118, _⟩ => ⟨S16384x4096, .f32⟩
  | .hbm, ⟨119, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]
-- ==== Proof.Spec.lean ====
/- The feed-forward block as plain sums over the extended reals, in the layout both programs end in: one row per token. -/
module

public import Idealize.ShloMosaic.Lib.Pointwise
public import Idealize.ShloMosaic.PureOps.Ideal.Laws

@[expose] public section

noncomputable section

namespace Cert.Ffn

open Idealize.ShloMosaic
open scoped BigOperators

/-- A matrix of extended reals. -/
abbrev Mat (a b : ℕ) := (⟨2, ![a, b]⟩ : Shape).Idx → EReal
/-- A stack of matrices of extended reals. -/
abbrev Cube (a b c : ℕ) := (⟨3, ![a, b, c]⟩ : Shape).Idx → EReal

/-- Token row `r` of `H` against column `f` of member 1 of the weight stack. -/
def proj (H : Mat 16384 4096) (W : Cube 2 4096 11008) (r : Fin 16384) (f : Fin 11008) : EReal :=
  ∑ k : Fin 4096, H (ix2 r k) * W (ix3 1 k f)

/-- The projection `d` tokens back in the same sequence, and zero before the sequence starts. -/
def back (H : Mat 16384 4096) (W : Cube 2 4096 11008) (d : ℕ) (r : Fin 16384) (f : Fin 11008) : EReal :=
  if d ≤ r.val % 8192 then proj H W ⟨r.val - d, by omega⟩ f else 0

/-- The causal three-tap convolution along the sequence, one tap vector per channel, with its bias. -/
def conv (H : Mat 16384 4096) (W : Cube 2 4096 11008) (C : Mat 3 11008) (b : Mat 1 11008) (r : Fin 16384) (f : Fin 11008) : EReal :=
  ((C (ix2 0 f) * back H W 2 r f + C (ix2 1 f) * back H W 1 r f) + C (ix2 2 f) * proj H W r f) + b (ix2 0 f)

/-- The gated activation: `silu` of the convolution times the up projection. -/
def act (H : Mat 16384 4096) (W U : Cube 2 4096 11008) (C : Mat 3 11008) (b : Mat 1 11008) (r : Fin 16384) (f : Fin 11008) : EReal :=
  conv H W C b r f * Ideal.logistic (conv H W C b r f) * proj H U r f

/-- The block: the activation against the down weights, onto the residual stream. -/
def down (A : Mat 16384 11008) (D : Mat 11008 4096) (X : Mat 16384 4096) (r : Fin 16384) (d : Fin 4096) : EReal :=
  (∑ f : Fin 11008, A (ix2 r f) * D (ix2 f d)) + X (ix2 r d)

/-- A batch of two sequences as one matrix of token rows. -/
def rows {n : ℕ} (x : Cube 2 8192 n) : Mat 16384 n := fun y => x (ix3 ⟨(y 0).val / 8192, by have h : (y 0).val < 16384 := (y 0).isLt; omega⟩ ⟨(y 0).val % 8192, Nat.mod_lt _ (by omega)⟩ (y 1))
/-- Member 1 of a stack of two matrices. -/
def layer {a b : ℕ} (x : Cube 2 a b) : Mat a b := fun y => x (ix3 1 (y 0) (y 1))
/-- Row 1 of a two-row matrix, as a one-row matrix. -/
def layerRow {b : ℕ} (x : Mat 2 b) : Mat 1 b := fun y => x (ix2 1 (y 1))

/-- The feed-forward block of layer 1 from its seven argument arrays. -/
def block (x h : Cube 2 8192 4096) (wg wu : Cube 2 4096 11008) (cw : Cube 2 3 11008) (cb : Mat 2 11008) (wd : Cube 2 11008 4096) : Mat 16384 4096 :=
  fun y => down (fun z => act (rows h) wg wu (layer cw) (layerRow cb) (z 0) (z 1)) (layer wd) (rows x) (y 0) (y 1)

end Cert.Ffn

end
-- ==== Proof.GateUp.lean ====
/- The first call of the feed-forward block (gate and up projections, convolution, gating): the array it writes. -/
module

public import proofs.«01_k».proof.Proof.Spec
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.MatmulPlain
public import Idealize.ShloMosaic.Lib.KernelVsHost
public import Idealize.ShloMosaic.Lib.Pipeline.Value
public import Idealize.ShloMosaic.Lib.Pointwise

@[expose] public section

set_option maxRecDepth 16384

noncomputable section

namespace Cert.Ffn.GateUp

open Idealize.ShloMosaic Idealize.ShloMosaic.TcCoe Idealize.SL.Sem
open Cert.KernelIdeal Cert.KernelIdeal.Gen Cert.Ffn
open Idealize.ShloMosaic.Pipeline (Dat)
open scoped BigOperators

variable (V : (c : Dev nD) → (b : Ref sig .tc) → Buf (Elt Ideal) ((c : Thread nD τ).loc b))

/-- Where each window's block sits at grid point `t`: row block `t / 43`, channel block `t % 43`. -/
theorem index_at : ∀ t : Fin cfg0.N,
    (win0_0.index t 0 = t.val / 43 ∧ win0_0.index t 1 = 0)
    ∧ (win0_1.index t 0 = 64 * (t.val / 43) - 1 ∧ win0_1.index t 1 = 0)
    ∧ (win0_2.index t 0 = 1 ∧ win0_2.index t 1 = 0 ∧ win0_2.index t 2 = t.val % 43)
    ∧ (win0_3.index t 0 = 1 ∧ win0_3.index t 1 = 0 ∧ win0_3.index t 2 = t.val % 43)
    ∧ (win0_4.index t 0 = 0 ∧ win0_4.index t 1 = t.val % 43)
    ∧ (win0_5.index t 0 = 0 ∧ win0_5.index t 1 = t.val % 43)
    ∧ (win0_6.index t 0 = t.val / 43 ∧ win0_6.index t 1 = t.val % 43)
    ∧ ((grid0.coords t 0).val = t.val / 43) := by
  decide +kernel

/-- The tokens' block: rows `1024 · (t / 43)` on. -/
theorem blk_h (c : Dev nD) (t : Fin cfg0.N) (p : Fin 1024) (k : Fin 4096) (r : Fin 16384) (h : r.val = 1024 * (t.val / 43) + p.val) :
    iblk0 V c 0 t (ix2 p k) = V c main_v1 (ix2 r k) := by
  refine congrArg (V c main_v1 : Mat 16384 4096) (funext fun a => Fin.ext ?_)
  obtain ⟨e0, e1⟩ := (index_at t).1
  match a with
  | ⟨0, _⟩ =>
    show win0_0.index t 0 * 1024 + 1 * p.val = r.val
    rw [e0]; omega
  | ⟨1, _⟩ =>
    show win0_0.index t 1 * 4096 + 1 * k.val = k.val
    rw [e1]; omega

/-- The halo block: the sixteen rows before the tokens' block. -/
theorem blk_halo (c : Dev nD) (t : Fin cfg0.N) (p : Fin 16) (k : Fin 4096) (r : Fin 16384) (h : r.val = 16 * (64 * (t.val / 43) - 1) + p.val) :
    iblk0 V c 1 t (ix2 p k) = V c main_v1 (ix2 r k) := by
  refine congrArg (V c main_v1 : Mat 16384 4096) (funext fun a => Fin.ext ?_)
  obtain ⟨e0, e1⟩ := (index_at t).2.1
  match a with
  | ⟨0, _⟩ =>
    show win0_1.index t 0 * 16 + 1 * p.val = r.val
    rw [e0]; omega
  | ⟨1, _⟩ =>
    show win0_1.index t 1 * 4096 + 1 * k.val = k.val
    rw [e1]; omega

/-- The gate weights' block: member 1, columns `256 · (t % 43)` on. -/
theorem blk_gate (c : Dev nD) (t : Fin cfg0.N) (k : Fin 4096) (q : Fin 256) (f : Fin 11008) (h : f.val = 256 * (t.val % 43) + q.val) :
    iblk0 V c 2 t (ix3 0 k q) = V c main_arg2 (ix3 1 k f) := by
  refine congrArg (V c main_arg2 : Cube 2 4096 11008) (funext fun a => Fin.ext ?_)
  obtain ⟨e0, e1, e2⟩ := (index_at t).2.2.1
  match a with
  | ⟨0, _⟩ =>
    show win0_2.index t 0 * 1 + 1 * 0 = 1
    rw [e0]
  | ⟨1, _⟩ =>
    show win0_2.index t 1 * 4096 + 1 * k.val = k.val
    rw [e1]; omega
  | ⟨2, _⟩ =>
    show win0_2.index t 2 * 256 + 1 * q.val = f.val
    rw [e2]; omega

/-- The up weights' block: member 1, columns `256 · (t % 43)` on. -/
theorem blk_up (c : Dev nD) (t : Fin cfg0.N) (k : Fin 4096) (q : Fin 256) (f : Fin 11008) (h : f.val = 256 * (t.val % 43) + q.val) :
    iblk0 V c 3 t (ix3 0 k q) = V c main_arg3 (ix3 1 k f) := by
  refine congrArg (V c main_arg3 : Cube 2 4096 11008) (funext fun a => Fin.ext ?_)
  obtain ⟨e0, e1, e2⟩ := (index_at t).2.2.2.1
  match a with
  | ⟨0, _⟩ =>
    show win0_3.index t 0 * 1 + 1 * 0 = 1
    rw [e0]
  | ⟨1, _⟩ =>
    show win0_3.index t 1 * 4096 + 1 * k.val = k.val
    rw [e1]; omega
  | ⟨2, _⟩ =>
    show win0_3.index t 2 * 256 + 1 * q.val = f.val
    rw [e2]; omega

/-- The taps' block: all three taps of columns `256 · (t % 43)` on. -/
theorem blk_taps (c : Dev nD) (t : Fin cfg0.N) (e : Fin 3) (q : Fin 256) (f : Fin 11008) (h : f.val = 256 * (t.val % 43) + q.val) :
    iblk0 V c 4 t (ix2 e q) = V c main_v3 (ix2 e f) := by
  refine congrArg (V c main_v3 : Mat 3 11008) (funext fun a => Fin.ext ?_)
  obtain ⟨e0, e1⟩ := (index_at t).2.2.2.2.1
  match a with
  | ⟨0, _⟩ =>
    show win0_4.index t 0 * 3 + 1 * e.val = e.val
    rw [e0]; omega
  | ⟨1, _⟩ =>
    show win0_4.index t 1 * 256 + 1 * q.val = f.val
    rw [e1]; omega

/-- The bias' block: columns `256 · (t % 43)` on. -/
theorem blk_bias (c : Dev nD) (t : Fin cfg0.N) (q : Fin 256) (f : Fin 11008) (h : f.val = 256 * (t.val % 43) + q.val) :
    iblk0 V c 5 t (ix2 0 q) = V c main_v8 (ix2 0 f) := by
  refine congrArg (V c main_v8 : Mat 1 11008) (funext fun a => Fin.ext ?_)
  obtain ⟨e0, e1⟩ := (index_at t).2.2.2.2.2.1
  match a with
  | ⟨0, _⟩ =>
    show win0_5.index t 0 * 1 + 1 * 0 = 0
    rw [e0]
  | ⟨1, _⟩ =>
    show win0_5.index t 1 * 256 + 1 * q.val = f.val
    rw [e1]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- Whether the halo's selection fires: the row block opens a sequence. -/
theorem opens : ∀ n : Fin 16, (Scalar.cmpi .eq (Scalar.select (Scalar.andi (Scalar.xori
      (Scalar.cmpi .slt (Scalar.remsi (Scalar.muli (BitVec.ofNat 32 n.val) 1024#32) (Scalar.select (Scalar.cmpi .eq 8192#32 0#32) 1#32 8192#32)) 0#32)
      (Scalar.cmpi .slt (Scalar.select (Scalar.cmpi .eq 8192#32 0#32) 1#32 8192#32) 0#32))
      (Scalar.cmpi .ne (Scalar.remsi (Scalar.muli (BitVec.ofNat 32 n.val) 1024#32) (Scalar.select (Scalar.cmpi .eq 8192#32 0#32) 1#32 8192#32)) 0#32))
      (Scalar.addi (Scalar.remsi (Scalar.muli (BitVec.ofNat 32 n.val) 1024#32) (Scalar.select (Scalar.cmpi .eq 8192#32 0#32) 1#32 8192#32)) (Scalar.select (Scalar.cmpi .eq 8192#32 0#32) 1#32 8192#32))
      (Scalar.remsi (Scalar.muli (BitVec.ofNat 32 n.val) 1024#32) (Scalar.select (Scalar.cmpi .eq 8192#32 0#32) 1#32 8192#32))) 0#32 : BitVec 1)
      = if n.val % 8 = 0 then 1#1 else 0#1 := by
  decide +kernel

theorem pay4_apply (h : Vec Ideal S1024x4096 .bf16) (w : Vec Ideal S1x4096x256 .f32) (p : Fin 1024) (q : Fin 256) :
    k0_pay4 (F := Ideal) h w (ix2 p q) = ∑ k : Fin 4096, h (ix2 p k) * w (ix3 0 k q) := by
  unfold k0_pay4 k0_pay2 k0_pay3
  pointwise

theorem pay5_apply (h : Vec Ideal S1024x4096 .bf16) (w : Vec Ideal S1x4096x256 .f32) (p : Fin 1024) (q : Fin 256) :
    k0_pay5 (F := Ideal) h w (ix2 p q) = ∑ k : Fin 4096, h (ix2 p k) * w (ix3 0 k q) := by
  unfold k0_pay5 k0_pay2
  pointwise

/-- The halo's product, masked where the row block opens a sequence. -/
theorem pay6_apply (i : grid0.Coords) (h : Vec Ideal S16x4096 .bf16) (w : Vec Ideal S1x4096x256 .f32) (p : Fin 16) (q : Fin 256) :
    k0_pay6 (F := Ideal) i w h (ix2 p q) = if (i 0).val % 8 = 0 then 0 else ∑ k : Fin 4096, h (ix2 p k) * w (ix3 0 k q) := by
  unfold k0_pay6 k0_pay3
  pointwise
  rw [opens (i 0)]
  split <;> rfl

theorem pay7_apply (i : grid0.Coords) (h : Vec Ideal S16x4096 .bf16) (w : Vec Ideal S1x4096x256 .f32) (q : Fin 256) :
    k0_pay7 (F := Ideal) i w h (ix2 0 q) = k0_pay6 (F := Ideal) i w h (ix2 15 q) := by
  unfold k0_pay7
  pointwise

theorem pay11_apply (i : grid0.Coords) (h : Vec Ideal S16x4096 .bf16) (w : Vec Ideal S1x4096x256 .f32) (q : Fin 256) :
    k0_pay11 (F := Ideal) i w h (ix2 0 q) = k0_pay6 (F := Ideal) i w h (ix2 15 q) := by
  unfold k0_pay11 k0_pay7
  pointwise

theorem pay8_apply (i : grid0.Coords) (h : Vec Ideal S16x4096 .bf16) (w : Vec Ideal S1x4096x256 .f32) (q : Fin 256) :
    k0_pay8 (F := Ideal) i w h (ix2 0 q) = k0_pay6 (F := Ideal) i w h (ix2 14 q) := by
  unfold k0_pay8
  pointwise

theorem pay10_apply (h : Vec Ideal S1024x4096 .bf16) (w : Vec Ideal S1x4096x256 .f32) (p : Fin 1024) (q : Fin 256) :
    k0_pay10 (F := Ideal) h w (ix2 p q) = k0_pay4 (F := Ideal) h w (ix2 ⟨(p.val + 1023) % 1024, Nat.mod_lt _ (by omega)⟩ q) := by
  unfold k0_pay10
  pointwise
  rfl

/-- A selection on a row number. -/
theorem select_row {n : ℕ} (hn : n < 1024) (m : ℕ) (hm : m < 1024) (x y : EReal) :
    Scalar.select (IntOp.cmpi .eq (BitVec.ofNat 32 n) (BitVec.ofNat 32 m)) x y = if n = m then x else y := by
  have e : (BitVec.ofNat 32 n == BitVec.ofNat 32 m) = decide (n = m) := by
    rw [Bool.eq_iff_iff, beq_iff_eq, decide_eq_true_eq]
    refine ⟨fun h => ?_, fun h => by rw [h]⟩
    have := congrArg BitVec.toNat h
    rw [BitVec.toNat_ofNat, BitVec.toNat_ofNat] at this
    omega
  unfold IntOp.cmpi Scalar.select
  simp only [e]
  by_cases h : n = m <;> simp [h]

theorem pay1_apply (v5 v9 : Mat 1024 256) (a b c : Mat 1 256) (v32 : Mat 1024 256) (v47 : Mat 3 256) (v60 : Mat 1 256) (p : Fin 1024) (q : Fin 256)
    (x : EReal) (hx : x = ((v47 (ix2 0 q) * (if p.val = 0 then b (ix2 0 q) else if p.val = 1 then a (ix2 0 q) else v5 (ix2 ⟨(p.val + 1022) % 1024, Nat.mod_lt _ (by omega)⟩ q))
        + v47 (ix2 1 q) * (if p.val = 0 then c (ix2 0 q) else v32 (ix2 p q))) + v47 (ix2 2 q) * v5 (ix2 p q)) + v60 (ix2 0 q)) :
    k0_pay1 (F := Ideal) v5 v9 (iota .tc S1024x256 32 [0] iota_S1024x256_d0_w32) a b k0_pay9 v32 c v47 v60 (ix2 p q)
      = x * Ideal.logistic x * v9 (ix2 p q) := by
  subst hx
  unfold k0_pay1 k0_pay9
  pointwise
  rw [select_row p.isLt 0 (by omega), select_row p.isLt 1 (by omega), select_row p.isLt 0 (by omega)]
  rfl

/-- The whole activation array, from the arrays the region finds. -/
abbrev acts (c : Dev nD) : Buf (Elt Ideal) ((c : Thread nD τ).loc main_v9) := fun y : S16384x11008.Idx =>
  act (V c main_v1) (V c main_arg2) (V c main_arg3) (V c main_v3) (V c main_v8) (y 0) (y 1)

/-- One entry of the block the body writes is the activation at its row and column. -/
theorem out_apply (c : Dev nD) (t : Fin cfg0.N) (p : Fin 1024) (q : Fin 256) (r : Fin 16384) (f : Fin 11008)
    (hr : r.val = 1024 * (t.val / 43) + p.val) (hf : f.val = 256 * (t.val % 43) + q.val) :
    out0_6 (grid0.coords t) (iblk0 V c 0 t) (iblk0 V c 1 t) (iblk0 V c 2 t) (iblk0 V c 3 t) (iblk0 V c 4 t) (iblk0 V c 5 t) (ix2 p q)
      = act (V c main_v1) (V c main_arg2) (V c main_arg3) (V c main_v3) (V c main_v8) r f := by
  have hp := p.isLt
  have hc : (grid0.coords t 0).val = t.val / 43 := (index_at t).2.2.2.2.2.2.2
  have gate : ∀ (p' : Fin 1024) (r' : Fin 16384), r'.val = 1024 * (t.val / 43) + p'.val →
      k0_pay4 (F := Ideal) (iblk0 V c 0 t) (iblk0 V c 2 t) (ix2 p' q) = proj (V c main_v1) (V c main_arg2) r' f := fun p' r' h => by
    rw [pay4_apply]
    exact Finset.sum_congr rfl fun k _ => by rw [blk_h V c t p' k r' h, blk_gate V c t k q f hf]
  have halo : ∀ (p' : Fin 16) (d : ℕ), 0 < d → d ≤ 2 → 16 + p.val = p'.val + d →
      k0_pay6 (F := Ideal) (grid0.coords t) (iblk0 V c 2 t) (iblk0 V c 1 t) (ix2 p' q) = back (V c main_v1) (V c main_arg2) d r f := fun p' d h0 h2 hd => by
    have hp' := p'.isLt
    rw [pay6_apply, hc]
    unfold back
    by_cases hs : t.val / 43 % 8 = 0
    · rw [if_pos hs, if_neg (by omega)]
    · rw [if_neg hs, if_pos (by omega)]
      exact Finset.sum_congr rfl fun k _ => by
        rw [blk_halo V c t p' k ⟨r.val - d, by omega⟩ (by show r.val - d = _; omega), blk_gate V c t k q f hf]
  unfold out0_6
  rw [View.canon_unit_zero hz2, View.ld_unit_zero hz2, View.ld_unit_zero hz3, View.ld_unit_zero hz3, View.ld_unit_zero hz2, View.ld_unit_zero hz2, View.ld_unit_zero hz2]
  rw [pay1_apply _ _ _ _ _ _ _ _ p q (conv (V c main_v1) (V c main_arg2) (V c main_v3) (V c main_v8) r f) ?_]
  · rw [pay5_apply]
    unfold act
    refine congrArg _ (Finset.sum_congr rfl fun k _ => ?_)
    rw [blk_h V c t p k r hr, blk_up V c t k q f hf]
  · unfold conv
    rw [blk_taps V c t 0 q f hf, blk_taps V c t 1 q f hf, blk_taps V c t 2 q f hf, blk_bias V c t q f hf, gate p r hr,
      pay7_apply, pay8_apply, pay11_apply, pay10_apply]
    congr 3
    · congr 1
      by_cases h0 : p.val = 0
      · rw [if_pos h0, halo 14 2 (by omega) (by omega) (by show 16 + p.val = _ + _; rw [h0]; rfl)]
      · rw [if_neg h0]
        by_cases h1 : p.val = 1
        · rw [if_pos h1, halo 15 2 (by omega) (by omega) (by show 16 + p.val = _ + _; rw [h1]; rfl)]
        · rw [if_neg h1, gate _ ⟨r.val - 2, by omega⟩ (by show r.val - 2 = 1024 * (t.val / 43) + (p.val + 1022) % 1024; omega)]
          unfold back
          rw [if_pos (by omega)]
    · congr 1
      by_cases h0 : p.val = 0
      · rw [if_pos h0, halo 15 1 (by omega) (by omega) (by show 16 + p.val = _ + _; rw [h0]; rfl)]
      · rw [if_neg h0, gate _ ⟨r.val - 1, by omega⟩ (by show r.val - 1 = 1024 * (t.val / 43) + (p.val + 1023) % 1024; omega)]
        unfold back
        rw [if_pos (by omega)]

/-- What point `t` writes back is its block of the activation array. -/
theorem flushed_eq (c : Dev nD) (t : Fin cfg0.N) :
    (dat0 V c).flushed 6 t = (win0_6.blk t).view.read (Elt Ideal) (acts V c) := by
  show (cfg0.win 6).cut (grid0.coords t) ((dat0 V c).after 6 t) = _
  rw [after0_6]
  funext y
  have hN : cfg0.N = 688 := N_0
  have ht := t.isLt
  obtain ⟨e0, e1⟩ := (index_at t).2.2.2.2.2.2.1
  have h0 : (y 0).val < 1024 := (y 0).isLt
  have h1 : (y 1).val < 256 := (y 1).isLt
  have key := out_apply V c t (y 0) (y 1) ⟨1024 * (t.val / 43) + (y 0).val, by omega⟩ ⟨256 * (t.val % 43) + (y 1).val, by omega⟩ rfl rfl
  refine Eq.trans (congrArg _ (funext fun a => by match a with | ⟨0, _⟩ => rfl | ⟨1, _⟩ => rfl)) (key.trans ?_)
  show act _ _ _ _ _ _ _ = act _ _ _ _ _ _ _
  congr 1
  · exact Fin.ext (by show _ = win0_6.index t 0 * 1024 + 1 * (y 0).val; rw [e0]; dsimp only; omega)
  · exact Fin.ext (by show _ = win0_6.index t 1 * 256 + 1 * (y 1).val; rw [e1]; dsimp only; omega)

/-- Every entry of the activation array lies in some point's block. -/
theorem cover (i : S16384x11008.Idx) : ∃ t : Fin cfg0.N, (cfg0.win 6).flush t = true ∧ i ∈ ((cfg0.win 6).blk t).view.set := by
  have h0 : (i 0).val < 16384 := (i 0).isLt
  have h1 : (i 1).val < 11008 := (i 1).isLt
  have hN : cfg0.N = 688 := N_0
  obtain ⟨t, ht⟩ : ∃ t : Fin cfg0.N, t.val = (i 0).val / 1024 * 43 + (i 1).val / 256 := ⟨⟨_, by omega⟩, rfl⟩
  refine ⟨t, flush0_6 t, ?_⟩
  obtain ⟨e0, e1⟩ := (index_at t).2.2.2.2.2.2.1
  show i ∈ ((View.whole main_v9).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    rw [e0]; omega
  | ⟨1, _⟩ =>
    show win0_6.index t 1 * 256 ≤ (i 1).val ∧ (i 1).val < win0_6.index t 1 * 256 + 256
    rw [e1]; omega

/-- The first call leaves the activation array. -/
theorem final (c : Dev nD) : (dat0 V c).arrAt 6 cfg0.N = acts V c :=
  (dat0 V c).arrAt_eq_of_cover 6 (acts V c) (fun t _ => flushed_eq V c t) cover

end Cert.Ffn.GateUp

end
-- ==== Proof.Down.lean ====
/- The second call of the feed-forward block (the down projection onto the residual stream): the array it writes. -/
module

public import proofs.«01_k».proof.Proof.GateUp

@[expose] public section

set_option maxRecDepth 16384

noncomputable section

namespace Cert.Ffn.Down

open Idealize.ShloMosaic Idealize.ShloMosaic.TcCoe Idealize.SL.Sem
open Cert.KernelIdeal Cert.KernelIdeal.Gen Cert.Ffn
open Idealize.ShloMosaic.Pipeline (Dat)
open scoped BigOperators

variable (V : (c : Dev nD) → (b : Ref sig .tc) → Buf (Elt Ideal) ((c : Thread nD τ).loc b))

/-- Where each window's block sits at grid point `t`: row block `t / 8`, column block `t % 8`. -/
theorem index_at : ∀ t : Fin cfg1.N,
    (win1_0.index t 0 = t.val / 8 ∧ win1_0.index t 1 = 0)
    ∧ (win1_1.index t 0 = 0 ∧ win1_1.index t 1 = t.val % 8)
    ∧ (win1_2.index t 0 = t.val / 8 ∧ win1_2.index t 1 = t.val % 8)
    ∧ (win1_3.index t 0 = t.val / 8 ∧ win1_3.index t 1 = t.val % 8) := by
  decide +kernel

/-- The activation's block: rows `512 · (t / 8)` on. -/
theorem blk_act (c : Dev nD) (t : Fin cfg1.N) (p : Fin 512) (f : Fin 11008) (r : Fin 16384) (h : r.val = 512 * (t.val / 8) + p.val) :
    iblk1 V c 0 t (ix2 p f) = V c main_v9 (ix2 r f) := by
  refine congrArg (V c main_v9 : Mat 16384 11008) (funext fun a => Fin.ext ?_)
  obtain ⟨e0, e1⟩ := (index_at t).1
  match a with
  | ⟨0, _⟩ =>
    show win1_0.index t 0 * 512 + 1 * p.val = r.val
    rw [e0]; omega
  | ⟨1, _⟩ =>
    show win1_0.index t 1 * 11008 + 1 * f.val = f.val
    rw [e1]; omega

/-- The down weights' block: columns `512 · (t % 8)` on. -/
theorem blk_down (c : Dev nD) (t : Fin cfg1.N) (f : Fin 11008) (q : Fin 512) (d : Fin 4096) (h : d.val = 512 * (t.val % 8) + q.val) :
    iblk1 V c 1 t (ix2 f q) = V c main_v10 (ix2 f d) := by
  refine congrArg (V c main_v10 : Mat 11008 4096) (funext fun a => Fin.ext ?_)
  obtain ⟨e0, e1⟩ := (index_at t).2.1
  match a with
  | ⟨0, _⟩ =>
    show win1_1.index t 0 * 11008 + 1 * f.val = f.val
    rw [e0]; omega
  | ⟨1, _⟩ =>
    show win1_1.index t 1 * 512 + 1 * q.val = d.val
    rw [e1]; omega

/-- The residual's block. -/
theorem blk_res (c : Dev nD) (t : Fin cfg1.N) (p q : Fin 512) (r : Fin 16384) (d : Fin 4096)
    (hr : r.val = 512 * (t.val / 8) + p.val) (hd : d.val = 512 * (t.val % 8) + q.val) :
    iblk1 V c 2 t (ix2 p q) = V c main_v0 (ix2 r d) := by
  refine congrArg (V c main_v0 : Mat 16384 4096) (funext fun a => Fin.ext ?_)
  obtain ⟨e0, e1⟩ := (index_at t).2.2.1
  match a with
  | ⟨0, _⟩ =>
    show win1_2.index t 0 * 512 + 1 * p.val = r.val
    rw [e0]; omega
  | ⟨1, _⟩ =>
    show win1_2.index t 1 * 512 + 1 * q.val = d.val
    rw [e1]; omega

/-- One entry of the body's product onto the residual. -/
theorem pay1_apply (a : Vec Ideal S512x11008 .bf16) (w : Vec Ideal S11008x512 .bf16) (x : Vec Ideal S512x512 .f32) (p q : Fin 512) :
    k1_pay1 (F := Ideal) a w x (ix2 p q) = (∑ f : Fin 11008, a (ix2 p f) * w (ix2 f q)) + x (ix2 p q) := by
  unfold k1_pay1
  pointwise

/-- The whole result array, from the arrays the region finds. -/
abbrev outs (c : Dev nD) : Buf (Elt Ideal) ((c : Thread nD τ).loc main_v11) := fun y : S16384x4096.Idx =>
  down (V c main_v9) (V c main_v10) (V c main_v0) (y 0) (y 1)

/-- One entry of the block the body writes is the result at its row and column. -/
theorem out_apply (c : Dev nD) (t : Fin cfg1.N) (p q : Fin 512) (r : Fin 16384) (d : Fin 4096)
    (hr : r.val = 512 * (t.val / 8) + p.val) (hd : d.val = 512 * (t.val % 8) + q.val) :
    out1_3 (iblk1 V c 0 t) (iblk1 V c 1 t) (iblk1 V c 2 t) (ix2 p q)
      = down (V c main_v9) (V c main_v10) (V c main_v0) r d := by
  unfold out1_3
  rw [View.canon_unit_zero GateUp.hz2, View.ld_unit_zero GateUp.hz2, View.ld_unit_zero GateUp.hz2, View.ld_unit_zero GateUp.hz2,
    pay1_apply, blk_res V c t p q r d hr hd]
  unfold down
  refine congrArg (· + _) (Finset.sum_congr rfl fun f _ => ?_)
  rw [blk_act V c t p f r hr, blk_down V c t f q d hd]

/-- What point `t` writes back is its block of the result array. -/
theorem flushed_eq (c : Dev nD) (t : Fin cfg1.N) :
    (dat1 V c).flushed 3 t = (win1_3.blk t).view.read (Elt Ideal) (outs V c) := by
  show (cfg1.win 3).cut (grid1.coords t) ((dat1 V c).after 3 t) = _
  rw [after1_3]
  funext y
  have hN : cfg1.N = 256 := N_1
  have ht := t.isLt
  obtain ⟨e0, e1⟩ := (index_at t).2.2.2
  have h0 : (y 0).val < 512 := (y 0).isLt
  have h1 : (y 1).val < 512 := (y 1).isLt
  have key := out_apply V c t (y 0) (y 1) ⟨512 * (t.val / 8) + (y 0).val, by omega⟩ ⟨512 * (t.val % 8) + (y 1).val, by omega⟩ rfl rfl
  refine Eq.trans (congrArg _ (funext fun a => by match a with | ⟨0, _⟩ => rfl | ⟨1, _⟩ => rfl)) (key.trans ?_)
  show down _ _ _ _ _ = down _ _ _ _ _
  congr 1
  · exact Fin.ext (by show _ = win1_3.index t 0 * 512 + 1 * (y 0).val; rw [e0]; dsimp only; omega)
  · exact Fin.ext (by show _ = win1_3.index t 1 * 512 + 1 * (y 1).val; rw [e1]; dsimp only; omega)

/-- Every entry of the result array lies in some point's block. -/
theorem cover (i : S16384x4096.Idx) : ∃ t : Fin cfg1.N, (cfg1.win 3).flush t = true ∧ i ∈ ((cfg1.win 3).blk t).view.set := by
  have h0 : (i 0).val < 16384 := (i 0).isLt
  have h1 : (i 1).val < 4096 := (i 1).isLt
  have hN : cfg1.N = 256 := N_1
  obtain ⟨t, ht⟩ : ∃ t : Fin cfg1.N, t.val = (i 0).val / 512 * 8 + (i 1).val / 512 := ⟨⟨_, by omega⟩, rfl⟩
  refine ⟨t, flush1_3 t, ?_⟩
  obtain ⟨e0, e1⟩ := (index_at t).2.2.2
  show i ∈ ((View.whole main_v11).slice (win1_3.rect t)).set
  rw [View.set_slice_whole, Rect.mem_set_unit]
  intro a
  match a with
  | ⟨0, _⟩ =>
    show win1_3.index t 0 * 512 ≤ (i 0).val ∧ (i 0).val < win1_3.index t 0 * 512 + 512
    rw [e0]; omega
  | ⟨1, _⟩ =>
    show win1_3.index t 1 * 512 ≤ (i 1).val ∧ (i 1).val < win1_3.index t 1 * 512 + 512
    rw [e1]; omega

/-- The second call leaves the result array. -/
theorem final (c : Dev nD) : (dat1 V c).arrAt 3 cfg1.N = outs V c :=
  (dat1 V c).arrAt_eq_of_cover 3 (outs V c) (fun t _ => flushed_eq V c t) cover

end Cert.Ffn.Down

end
-- ==== Proof.FfnRun.lean ====
/- The feed-forward block's two calls in one run: what the result array holds when @main ends. -/
module

public import proofs.«01_k».proof.Proof.Down
public import Idealize.ShloMosaic.Lib.StableHlo.Run
public import Idealize.ShloMosaic.Lib.StableHlo.RunHlo
public import Idealize.ShloMosaic.Lib.Claim

@[expose] public section

set_option maxRecDepth 16384

noncomputable section

namespace Cert.Ffn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Ffn

local notation "𝕄" => MT nD τ sig Unit (Elt Ideal) ℕ (UR sig nD τ) ℕ

variable (m : (ℓ : Loc nD τ sig) → Buf (Elt Ideal) ℓ) (ρ : Dev nD → PrngReg)

/-- An index of a matrix is the pair of its coordinates. -/
theorem pair {a b : ℕ} (y : (⟨2, ![a, b]⟩ : Shape).Idx) : ∃ (r : Fin a) (k : Fin b), y = ix2 r k :=
  ⟨y 0, y 1, by funext i; match i with | ⟨0, _⟩ => rfl | ⟨1, _⟩ => rfl⟩

/-- Two sequences reshaped to token rows. -/
theorem rows_eq (x : Cube 2 8192 4096) (h : S2x8192x4096.ShapeCasts S16384x4096) : shapeCast S16384x4096 x h = rows x := by
  funext y
  obtain ⟨r, k, rfl⟩ := pair y
  pointwise
  rfl

/-- The taps of layer 1, cut out and reshaped. -/
theorem taps_eq (x : Cube 2 3 11008) : shapeCast S3x11008 (extractStridedSlice S1x3x11008 ![1, 0, 0] x slices_S2x3x11008_S1x3x11008_1_0_0) shapeCasts_S1x3x11008_S3x11008 = layer x := by
  funext y
  obtain ⟨r, k, rfl⟩ := pair y
  pointwise
  rfl

/-- The bias of layer 1, cut out and reshaped twice. -/
theorem bias_eq (x : Mat 2 11008) : shapeCast S1x11008 (shapeCast S11008 (extractStridedSlice S1x11008 ![1, 0] x slices_S2x11008_S1x11008_1_0) shapeCasts_S1x11008_S11008) shapeCasts_S11008_S1x11008 = layerRow x := by
  funext y
  obtain ⟨r, k, rfl⟩ := pair y
  pointwise
  rfl

/-- The down weights of layer 1, cut out and reshaped. -/
theorem downs_eq (x : Cube 2 11008 4096) : shapeCast S11008x4096 (extractStridedSlice S1x11008x4096 ![1, 0, 0] x slices_S2x11008x4096_S1x11008x4096_1_0_0) shapeCasts_S1x11008x4096_S11008x4096 = layer x := by
  funext y
  obtain ⟨r, k, rfl⟩ := pair y
  pointwise
  rfl

/-- The residual rows, as the first call finds them. -/
theorem V1_x (c : Dev nD) : V1 m ρ c main_v0 = rows (m ((c : Thread nD τ).loc main_arg0)) := by
  refine Eq.trans ?_ (rows_eq _ shapeCasts_S2x8192x4096_S16384x4096)
  unfold_abbrev_sides
  after_results
  rfl

/-- The token rows the first call reads are the argument's. -/
theorem V1_h (c : Dev nD) : V1 m ρ c main_v1 = rows (m ((c : Thread nD τ).loc main_arg1)) := by
  refine Eq.trans ?_ (rows_eq _ shapeCasts_S2x8192x4096_S16384x4096)
  unfold_abbrev_sides
  after_results
  rfl

/-- The taps the first call reads. -/
theorem V1_taps (c : Dev nD) : V1 m ρ c main_v3 = layer (m ((c : Thread nD τ).loc main_arg4)) := by
  refine Eq.trans ?_ (taps_eq _)
  unfold_abbrev_sides
  after_results
  rfl

/-- The bias the first call reads. -/
theorem V1_bias (c : Dev nD) : V1 m ρ c main_v8 = layerRow (m ((c : Thread nD τ).loc main_arg5)) := by
  refine Eq.trans ?_ (bias_eq _)
  unfold_abbrev_sides
  after_results
  rfl

/-- The down weights before the cast. -/
theorem V1_down (c : Dev nD) : V1 m ρ c main_v7 = layer (m ((c : Thread nD τ).loc main_arg6)) := by
  refine Eq.trans ?_ (downs_eq _)
  unfold_abbrev_sides
  after_results
  rfl

/-- The activation the second call reads. -/
theorem V3_act (c : Dev nD) : V3 m ρ c main_v9 = fun z : S16384x11008.Idx =>
    act (rows (m ((c : Thread nD τ).loc main_arg1))) (m ((c : Thread nD τ).loc main_arg2)) (m ((c : Thread nD τ).loc main_arg3))
      (layer (m ((c : Thread nD τ).loc main_arg4))) (layerRow (m ((c : Thread nD τ).loc main_arg5))) (z 0) (z 1) := by
  have e : V3 m ρ c main_v9 = GateUp.acts (V1 m ρ) c :=
    (W3_of m ρ c main_v9 (by decide)).trans ((hF0 m ρ c 6).symm.trans (GateUp.final (V1 m ρ) c))
  rw [e]
  unfold GateUp.acts
  rw [V1_h, V1_taps, V1_bias, show V1 m ρ c main_arg2 = m ((c : Thread nD τ).loc main_arg2) from W1_args m ρ c main_arg2 (by decide),
    show V1 m ρ c main_arg3 = m ((c : Thread nD τ).loc main_arg3) from W1_args m ρ c main_arg3 (by decide)]

/-- The residual rows the second call reads. -/
theorem V3_x (c : Dev nD) : V3 m ρ c main_v0 = rows (m ((c : Thread nD τ).loc main_arg0)) :=
  (W3_of m ρ c main_v0 (by decide)).trans ((W2_of m ρ c main_v0 (by decide)).trans (V1_x m ρ c))

/-- The down weights the second call reads. -/
theorem V3_down (c : Dev nD) : V3 m ρ c main_v10 = layer (m ((c : Thread nD τ).loc main_arg6)) := by
  refine Eq.trans ?_ ((W2_of m ρ c main_v7 (by decide)).trans (V1_down m ρ c))
  unfold_abbrev_sides
  after_results
  rfl

/-- What the result array holds at the end. -/
theorem result (c : Dev nD) : W4 m ρ c (Proc.devRef .tc main_v11)
    = block (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (hF1 m ρ c 3).symm.trans ((Down.final (V3 m ρ) c).trans ?_)
  unfold Down.outs
  rw [V3_act, V3_x, V3_down]
  rfl

set_option backward.isDefEq.respectTransparency.types false in
/-- Every weakly fair run ends with each unscoped buffer at the last boundary's contents: the result there, the arguments as launched. -/
theorem run : θ_run defs (onTc (τ := τ) (main (F := Ideal))) ⟨m, fun _ => 0, ρ⟩ (fun r => ∀ c : Dev nD,
      r.2.mem ((c.tc : Thread nD τ).loc main_v11) = block (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v11 (by decide))).trans (result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.Ffn.Run

end
-- ==== Proof.FfnRef.lean ====
/- The feed-forward reference read at an index: the same sums. -/
module

public import proofs.«01_k».proof.Proof.Spec
public import proofs.«01_k».proof.Proof.Gen.ReferenceIdeal
public import proofs.«01_k».proof.Proof.Gen.ReferenceIdeal.Run
public import proofs.«01_k».proof.Proof.Gen.ReferenceIdeal.Read
public import Idealize.ShloMosaic.Lib.KernelVsHost
public import Idealize.ShloMosaic.Lib.IdealHost

@[expose] public section

set_option maxRecDepth 16384

noncomputable section

namespace Cert.Ffn.Ref

open Idealize.ShloMosaic
open Cert.ReferenceIdeal Cert.ReferenceIdeal.Read Cert.Ffn
open scoped BigOperators

variable (x h : Cube 2 8192 4096) (wg wu : Cube 2 4096 11008) (cw : Cube 2 3 11008) (cb : Mat 2 11008) (wd : Cube 2 11008 4096)

/-- The gate projection of token `s` of sequence `b`. -/
theorem gate_apply (b : Fin 2) (s : Fin 8192) (f : Fin 11008) :
    val_main_v11 (F := Ideal) h wg (ix3 b s f) = ∑ k : Fin 4096, h (ix3 b s k) * wg (ix3 1 k f) := by
  rw [val_main_v11_apply]
  unfold val_main_v0 val_main_v2 val_main_v1
  pointwise
  refine Finset.sum_congr rfl fun k _ => ?_
  exact congrArg (h · * _) (funext fun a => by match a with | ⟨0, _⟩ => rfl | ⟨1, _⟩ => rfl | ⟨2, _⟩ => rfl)

/-- The up projection of token `s` of sequence `b`. -/
theorem up_apply (b : Fin 2) (s : Fin 8192) (f : Fin 11008) :
    val_main_v39 (F := Ideal) h wu (ix3 b s f) = ∑ k : Fin 4096, h (ix3 b s k) * wu (ix3 1 k f) := by
  rw [val_main_v39_apply]
  unfold val_main_v0 val_main_v4 val_main_v3
  pointwise
  refine Finset.sum_congr rfl fun k _ => ?_
  exact congrArg (h · * _) (funext fun a => by match a with | ⟨0, _⟩ => rfl | ⟨1, _⟩ => rfl | ⟨2, _⟩ => rfl)

/-- The padded gate: zero on the two positions before the sequence. -/
theorem pad_apply (b : Fin 2) (s : Fin 8194) (f : Fin 11008) :
    val_main_v12 (F := Ideal) h wg (ix3 b s f)
      = if h2 : 2 ≤ s.val then val_main_v11 (F := Ideal) h wg (ix3 b ⟨s.val - 2, by omega⟩ f) else 0 := by
  unfold val_main_v12
  split
  · refine pad_apply_of_inside _ _ _ _ _ _ _ _ (ix3 b ⟨s.val - 2, by omega⟩ f) (fun a => ?_)
    match a with
    | ⟨0, _⟩ => show b.val = 0 + b.val * 1; omega
    | ⟨1, _⟩ => show s.val = 2 + (s.val - 2) * 1; omega
    | ⟨2, _⟩ => show f.val = 0 + f.val * 1; omega
  · refine (pad_apply_of_not_inside _ _ _ _ _ _ _ _ ⟨1, by decide⟩ (fun hc => ?_)).trans ?_
    · have : 2 ≤ s.val := hc.1
      omega
    · unfold val_main_call0_v0 val_main_c
      pointwise
      show ((((0#32 : BitVec 32).toInt : ℤ) : ℝ) : EReal) = 0
      simp

/-- The convolution with its bias, over the padded gate. -/
theorem conv_apply (b : Fin 2) (s : Fin 8192) (f : Fin 11008) :
    val_main_v37 (F := Ideal) h wg cw cb (ix3 b s f)
      = val_main_v12 (F := Ideal) h wg (ix3 b ⟨s.val, by omega⟩ f) * cw (ix3 1 0 f) + val_main_v12 (F := Ideal) h wg (ix3 b ⟨1 + s.val, by omega⟩ f) * cw (ix3 1 1 f)
        + val_main_v12 (F := Ideal) h wg (ix3 b ⟨2 + s.val, by omega⟩ f) * cw (ix3 1 2 f) + cb (ix2 1 f) := by
  unfold val_main_v37 val_main_v36 val_main_v35 val_main_v34 val_main_v33 val_main_v32 val_main_v31 val_main_v30 val_main_v29 val_main_v28 val_main_v27 val_main_v26 val_main_v25 val_main_v24
    val_main_v23 val_main_v22 val_main_v21 val_main_v20 val_main_v19 val_main_cst val_main_v18 val_main_v17 val_main_v16 val_main_v15 val_main_v14 val_main_v13 val_main_v8 val_main_v7 val_main_v6 val_main_v5
  generalize val_main_v12 (F := Ideal) h wg = g
  pointwise

/-- The activation. -/
theorem act_apply (b : Fin 2) (s : Fin 8192) (f : Fin 11008) :
    val_main_v40 (F := Ideal) h wg wu cw cb (ix3 b s f)
      = val_main_v37 (F := Ideal) h wg cw cb (ix3 b s f) * Ideal.logistic (val_main_v37 (F := Ideal) h wg cw cb (ix3 b s f)) * val_main_v39 (F := Ideal) h wu (ix3 b s f) := by
  unfold val_main_v40 val_main_v38 val_main_call1_v5 val_main_call1_v4 val_main_call1_cst_0 val_main_call1_v3 val_main_call1_v2 val_main_call1_v1 val_main_call1_v0 val_main_call1_cst
  generalize val_main_v37 (F := Ideal) h wg cw cb = g
  generalize val_main_v39 (F := Ideal) h wu = u
  pointwise
  rfl

/-- A token row's projection in the row layout. -/
theorem proj_rows (b : Fin 2) (s : Fin 8192) (f : Fin 11008) (r : Fin 16384) (hr : r.val = b.val * 8192 + s.val) (w : Cube 2 4096 11008) :
    proj (rows h) w r f = ∑ k : Fin 4096, h (ix3 b s k) * w (ix3 1 k f) := by
  unfold proj rows
  refine Finset.sum_congr rfl fun k _ => congrArg (h · * _) (funext fun a => ?_)
  match a with
  | ⟨0, _⟩ => exact Fin.ext (by show r.val / 8192 = b.val; omega)
  | ⟨1, _⟩ => exact Fin.ext (by show r.val % 8192 = s.val; omega)
  | ⟨2, _⟩ => rfl

/-- The padded gate at `2 - d` positions past token `s` is the gate `d` tokens back. -/
theorem pad_back (d : ℕ) (hd : d ≤ 2) (b : Fin 2) (s : Fin 8192) (f : Fin 11008) (r : Fin 16384) (hr : r.val = b.val * 8192 + s.val)
    (s' : Fin 8194) (hs : s'.val = 2 - d + s.val) :
    val_main_v12 (F := Ideal) h wg (ix3 b s' f) = back (rows h) wg d r f := by
  rw [pad_apply]
  unfold back
  by_cases h2 : d ≤ s.val
  · rw [dif_pos (by omega), if_pos (by omega), gate_apply]
    exact (proj_rows h b _ f ⟨r.val - d, by omega⟩ (by show r.val - d = b.val * 8192 + (s'.val - 2); omega) wg).symm
  · rw [dif_neg (by omega), if_neg (by omega)]

/-- The reference's activation is the row layout's. -/
theorem act_rows (b : Fin 2) (s : Fin 8192) (f : Fin 11008) (r : Fin 16384) (hr : r.val = b.val * 8192 + s.val) :
    val_main_v40 (F := Ideal) h wg wu cw cb (ix3 b s f) = act (rows h) wg wu (layer cw) (layerRow cb) r f := by
  have hc : val_main_v37 (F := Ideal) h wg cw cb (ix3 b s f) = conv (rows h) wg (layer cw) (layerRow cb) r f := by
    rw [conv_apply, pad_back h wg 2 (by omega) b s f r hr _ (by show s.val = 2 - 2 + s.val; omega), pad_back h wg 1 (by omega) b s f r hr _ (by show 1 + s.val = 2 - 1 + s.val; omega),
      pad_apply, dif_pos (by show 2 ≤ 2 + s.val; omega), gate_apply]
    unfold conv
    rw [proj_rows h b s f r hr wg, mul_comm (back _ _ 2 _ _), mul_comm (back _ _ 1 _ _), mul_comm (Finset.sum _ _)]
    have e : (⟨2 + s.val - 2, by omega⟩ : Fin 8192) = s := Fin.ext (by show 2 + s.val - 2 = s.val; omega)
    rw [e]
    rfl
  rw [act_apply, up_apply, hc]
  unfold act
  rw [proj_rows h b s f r hr wu]

/-- The reference's result is the block's. -/
theorem res_apply (r : Fin 16384) (d : Fin 4096) :
    val_main_v43 (F := Ideal) x h wg wu cw cb wd (ix2 r d) = block x h wg wu cw cb wd (ix2 r d) := by
  unfold val_main_v43 val_main_v42
  generalize hg : val_main_v41 (F := Ideal) h wg wu cw cb wd = g
  pointwise
  subst hg
  rw [val_main_v41_apply, add_comm]
  unfold block down
  refine congrArg₂ (· + ·) (Finset.sum_congr rfl fun f _ => congrArg₂ (· * ·) ?_ ?_) rfl
  · have e : lidx_main_v41 (ix3 (⟨r.val / 8192, by omega⟩ : Fin 2) (⟨r.val % 8192, by omega⟩ : Fin 8192) d) f
        = ix3 (⟨r.val / 8192, by omega⟩ : Fin 2) (⟨r.val % 8192, by omega⟩ : Fin 8192) f :=
      funext fun a => by match a with | ⟨0, _⟩ => rfl | ⟨1, _⟩ => rfl | ⟨2, _⟩ => rfl
    refine (congrArg (val_main_v40 (F := Ideal) h wg wu cw cb) e).trans (act_rows h wg wu cw cb _ _ f r ?_)
    show r.val = r.val / 8192 * 8192 + r.val % 8192
    omega
  · unfold val_main_v10 val_main_v9
    refine Eq.trans (congrArg _ (funext fun a => by match a with | ⟨0, _⟩ => rfl | ⟨1, _⟩ => rfl : ridx_main_v41 (ix3 ⟨r.val / 8192, by omega⟩ ⟨r.val % 8192, by omega⟩ d) f = ix2 f d)) ?_
    pointwise
    rfl

end Cert.Ffn.Ref

end
-- ==== Proof.SwaSpec.lean ====
/- Sliding-window attention with sinks as plain sums over the extended reals, one row per token. -/
module

public import Idealize.ShloMosaic.Lib.Pointwise
public import Idealize.ShloMosaic.PureOps.Ideal.Laws
public import proofs.«01_k».proof.Proof.Spec

@[expose] public section

noncomputable section

namespace Cert.Band

open Idealize.ShloMosaic
open Cert.Ffn (Mat)
open scoped BigOperators

/-- A rank-four array of extended reals. -/
abbrev Quad (a b c d : ℕ) := (⟨4, ![a, b, c, d]⟩ : Shape).Idx → EReal
/-- A vector of extended reals. -/
abbrev Row (a : ℕ) := (⟨1, ![a]⟩ : Shape).Idx → EReal

/-- The largest of a row of logits and the sink. -/
def peak (L : Fin 256 → EReal) (S : EReal) : EReal := max (Finset.univ.fold max (Ideal.ofBits .f32 0xFF800000#32) L) S

/-- The softmax denominator: the row's exponentials and the sink's. -/
def mass (L : Fin 256 → EReal) (S : EReal) : EReal := (∑ s : Fin 256, Ideal.exp (L s - peak L S)) + Ideal.exp (S - peak L S)

/-- A softmax row with a sink against a column of values. -/
def soft (L : Fin 256 → EReal) (S : EReal) (V : Fin 256 → EReal) : EReal :=
  ∑ s : Fin 256, Ideal.div (Ideal.exp (L s - peak L S)) (mass L S) * V s

/-- The pattern of negative infinity denotes the bottom. -/
theorem ninf : Ideal.ofBits .f32 0xFF800000#32 = (⊥ : EReal) := by
  simp [Ideal.ofBits, Ideal.ieee]

/-- An exponential is not negative. -/
theorem exp_nonneg (x : EReal) : 0 ≤ Ideal.exp x := by
  induction x with
  | bot => exact le_refl _
  | top => exact le_top
  | coe r => exact EReal.coe_nonneg.mpr (Real.exp_pos r).le

/-- With all mass gone every exponential of the row is zero. -/
theorem exp_zero_of_mass (L : Fin 256 → EReal) (S : EReal) (h : mass L S = 0) (s : Fin 256) : Ideal.exp (L s - peak L S) = 0 := by
  have h1 : (∑ s : Fin 256, Ideal.exp (L s - peak L S)) = 0 :=
    le_antisymm (h ▸ le_add_of_nonneg_right (exp_nonneg _)) (Finset.sum_nonneg fun _ _ => exp_nonneg _)
  exact (Finset.sum_eq_zero_iff_of_nonneg fun _ _ => exp_nonneg _).mp h1 s (Finset.mem_univ s)

/-- The bottom times anything is idempotent under addition when summed. -/
theorem sum_bot_mul_idem (f : Fin 128 → EReal) : (∑ k : Fin 128, (⊥ : EReal) * f k) + (∑ k : Fin 128, (⊥ : EReal) * f k) = ∑ k : Fin 128, (⊥ : EReal) * f k := by
  have key : ∀ x : EReal, (⊥ : EReal) * x = ⊥ ∨ (⊥ : EReal) * x = 0 ∨ (⊥ : EReal) * x = ⊤ := by
    intro x
    rcases lt_trichotomy x 0 with h | h | h
    · exact Or.inr (Or.inr (EReal.bot_mul_of_neg h))
    · subst h; exact Or.inr (Or.inl (mul_zero _))
    · exact Or.inl (EReal.bot_mul_of_pos h)
  have hs : ∀ t : Finset (Fin 128), (∑ k ∈ t, (⊥ : EReal) * f k) = ⊥ ∨ (∑ k ∈ t, (⊥ : EReal) * f k) = 0 ∨ (∑ k ∈ t, (⊥ : EReal) * f k) = ⊤ := by
    intro t
    induction t using Finset.induction_on with
    | empty => exact Or.inr (Or.inl rfl)
    | insert a t ha ih =>
      rw [Finset.sum_insert ha]
      rcases key (f a) with h | h | h <;> rcases ih with h' | h' | h' <;> rw [h, h'] <;> simp
  rcases hs Finset.univ with h | h | h <;> rw [h] <;> simp

/-- Where the first half of a row is masked, the values under the mask do not matter, be they zero or those of the second half. -/
theorem soft_masked (L : Fin 256 → EReal) (S : EReal) (V W : Fin 256 → EReal)
    (hL : ∀ s : Fin 256, s.val < 128 → L s = ⊥) (hV : ∀ s : Fin 128, V ⟨s.val, by omega⟩ = V ⟨128 + s.val, by omega⟩)
    (hW : ∀ s : Fin 256, s.val < 128 → W s = 0) (hVW : ∀ s : Fin 256, 128 ≤ s.val → V s = W s) :
    soft L S V = soft L S W := by
  have split : ∀ g : Fin 256 → EReal, (∑ s : Fin 256, g s) = (∑ s : Fin 128, g ⟨s.val, by omega⟩) + ∑ s : Fin 128, g ⟨128 + s.val, by omega⟩ :=
    fun g => Fin.sum_univ_add (a := 128) (b := 128) g
  unfold soft
  rw [split, split]
  have hr : (∑ s : Fin 128, Ideal.div (Ideal.exp (L ⟨128 + s.val, by omega⟩ - peak L S)) (mass L S) * V ⟨128 + s.val, by omega⟩)
      = ∑ s : Fin 128, Ideal.div (Ideal.exp (L ⟨128 + s.val, by omega⟩ - peak L S)) (mass L S) * W ⟨128 + s.val, by omega⟩ :=
    Finset.sum_congr rfl fun s _ => by rw [hVW _ (by show 128 ≤ 128 + s.val; omega)]
  have hw : (∑ s : Fin 128, Ideal.div (Ideal.exp (L ⟨s.val, by omega⟩ - peak L S)) (mass L S) * W ⟨s.val, by omega⟩) = 0 :=
    Finset.sum_eq_zero fun s _ => by rw [hW _ s.isLt, mul_zero]
  rw [hw, zero_add, ← hr]
  by_cases hm : mass L S = 0
  · have hd : ∀ s : Fin 256, Ideal.div (Ideal.exp (L s - peak L S)) (mass L S) = ⊥ := fun s => by
      rw [exp_zero_of_mass L S hm s, hm]; simp [Ideal.div]
    simp only [hd, hV]
    exact sum_bot_mul_idem _
  · rw [Finset.sum_eq_zero, zero_add]
    intro s _
    rw [hL _ s.isLt, EReal.bot_sub, Ideal.exp_bot]
    unfold Ideal.div
    rw [if_neg hm, zero_mul, zero_mul]

/-- The relative-position bucket of a distance, as the 32-bit word both programs compute from it. -/
def bucket (g : BitVec 32) : BitVec 32 :=
  Scalar.select (IntOp.cmpi .slt (IntOp.maxsi g 0#32) 16#32) (IntOp.maxsi g 0#32)
    (IntOp.minsi (IntOp.addi 16#32 (FloatOps.fptosi (F := Ideal) (φ := .f32) 32
      (Ideal.div (Ideal.log (Ideal.div (FloatOps.sitofp (F := Ideal) .f32 (IntOp.maxsi (IntOp.maxsi g 0#32) 1#32)) (Ideal.ofBits .f32 0x41800000#32)))
        (Ideal.ofBits .f32 0x40051592#32) * Ideal.ofBits .f32 0x41800000#32))) 31#32)

/-- The bucket as a row of the bias table: a negative word counts from the end, and the row is clamped to the table. -/
def slot (g : BitVec 32) : Fin 32 :=
  ⟨min (Scalar.select (IntOp.cmpi .slt (bucket g) 0#32) (IntOp.addi (bucket g) 32#32) (bucket g)).toInt.toNat (32 - 1), by omega⟩

/-- The distance from key position `s` of the band to query position `p` of the block, as a word. -/
def gap (p : Fin 128) (s : Fin 256) : BitVec 32 := IntOp.subi (IntOp.addi (BitVec.ofNat 32 p.val) 128#32) (BitVec.ofNat 32 s.val)

/-- The band of block `i`: the previous block's rows and then its own, and zero before the sequence starts. -/
def band (a : Quad 2 8192 4 64) (b : Fin 2) (i : Fin 64) (s : Fin 256) (g : Fin 4) (d : Fin 64) : EReal :=
  if h : 128 ≤ 128 * i.val + s.val then a (ix4 b ⟨128 * i.val + s.val - 128, by omega⟩ g d) else 0

/-- Key position `s` is seen from query position `p`: not after it, within the window, and inside the sequence. -/
abbrev seen (i : Fin 64) (p : Fin 128) (s : Fin 256) : Prop := s.val ≤ p.val + 128 ∧ p.val < s.val ∧ 128 ≤ 128 * i.val + s.val

/-- The logits of query position `p` of block `i` for head `h`: the scaled dot product with its relative-position bias, and the bottom where not seen. -/
def logit (q : Quad 2 8192 32 64) (k : Quad 2 8192 4 64) (t : Mat 32 32) (b : Fin 2) (i : Fin 64) (p : Fin 128) (h : Fin 32) (s : Fin 256) : EReal :=
  if seen i p s then
    (∑ d : Fin 64, q (ix4 b ⟨128 * i.val + p.val, by omega⟩ h d) * band k b i s ⟨h.val / 8, by omega⟩ d) * Ideal.ofBits .f32 0x3E000000#32
      + t (ix2 (slot (gap p s)) h)
  else ⊥

/-- One entry of the attention's result. -/
def entry (q : Quad 2 8192 32 64) (k v : Quad 2 8192 4 64) (S : Row 32) (t : Mat 32 32) (b : Fin 2) (i : Fin 64) (p : Fin 128) (h : Fin 32) (d : Fin 64) : EReal :=
  soft (logit q k t b i p h) (S (ix1 h)) fun s => band v b i s ⟨h.val / 8, by omega⟩ d

/-- The attention's result, one row per token and 64 columns per head. -/
def attend (q : Quad 2 8192 32 64) (k v : Quad 2 8192 4 64) (S : Row 32) (t : Mat 32 32) : Mat 16384 2048 := fun y =>
  have h0 : (y 0).val < 16384 := (y 0).isLt
  have h1 : (y 1).val < 2048 := (y 1).isLt
  entry q k v S t ⟨(y 0).val / 8192, by omega⟩ ⟨(y 0).val / 128 % 64, by omega⟩ ⟨(y 0).val % 128, by omega⟩ ⟨(y 1).val / 64, by omega⟩ ⟨(y 1).val % 64, by omega⟩

/-- A query array with one row per token and the heads side by side. -/
def rows (q : Quad 2 8192 32 64) : Mat 16384 2048 := fun y =>
  have h0 : (y 0).val < 16384 := (y 0).isLt
  have h1 : (y 1).val < 2048 := (y 1).isLt
  q (ix4 ⟨(y 0).val / 8192, by omega⟩ ⟨(y 0).val % 8192, by omega⟩ ⟨(y 1).val / 64, by omega⟩ ⟨(y 1).val % 64, by omega⟩)

/-- A key or value array with one row per token, every head's lanes twice. -/
def pairs (k : Quad 2 8192 4 64) : Mat 16384 512 := fun y =>
  have h0 : (y 0).val < 16384 := (y 0).isLt
  have h1 : (y 1).val < 512 := (y 1).isLt
  k (ix4 ⟨(y 0).val / 8192, by omega⟩ ⟨(y 0).val % 8192, by omega⟩ ⟨(y 1).val / 128, by omega⟩ ⟨(y 1).val % 64, by omega⟩)

/-- The distance word read as a signed number. -/
theorem gap_toInt (p : Fin 128) (s : Fin 256) : (gap p s).toInt = (p.val : ℤ) + 128 - s.val := by
  have hp := p.isLt
  have hs := s.isLt
  unfold gap IntOp.subi IntOp.addi
  have e : ∀ n : ℕ, n < 256 → (BitVec.ofNat 32 n).toInt = n := fun n hn => by
    rw [BitVec.toInt_eq_toNat_bmod, BitVec.toNat_ofNat, Nat.mod_eq_of_lt (by omega), Int.bmod_def]; omega
  rw [BitVec.toInt_sub, BitVec.toInt_add, e _ (by omega), e _ hs, show (128#32 : BitVec 32).toInt = 128 from rfl]
  simp only [Int.bmod_def]
  omega

end Cert.Band

end
-- ==== Proof.SwaPieces.lean ====
/- The attention kernel's sixteen stores: each is one pair of heads, the same expression of that pair's lanes. -/
module

public import proofs.«01_k».proof.Proof.Gen.SwaIdeal.Frame
public import Idealize.ShloMosaic.Lib.Pointwise
public import Idealize.ShloMosaic.Lib.WholeRead
public import Idealize.ShloMosaic.PureOps.Ideal.Laws

@[expose] public section

set_option maxRecDepth 16384

noncomputable section

namespace Cert.Band

open Idealize.ShloMosaic Idealize.ShloMosaic.TcCoe Idealize.SL.Sem
open Cert.SwaIdeal Cert.SwaIdeal.Gen

/-- One head over a block: `sel` names the head's half of the 128 lanes. -/
def head (sel : IVec S128x128 1) (i : grid0.Coords) (q kp ko vp vo : Vec Ideal S128x128 .bf16) (b : Vec Ideal S1x128x256 .f32) (s : Ideal .f32) :
    FVec Ideal S128x128 .f32 :=
  k0_pay8 sel (k0_pay3 i) (k0_pay4 kp ko) (k0_pay5 vp vo) (k0_pay6 q) k0_pay7 b s

/-- A pair of heads sharing 128 lanes: the even head's result in the left half, the odd head's in the right. -/
def pair (i : grid0.Coords) (q kp ko vp vo : Vec Ideal S128x128 .bf16) (b0 b1 : Vec Ideal S1x128x256 .f32) (s0 s1 : Ideal .f32) :
    FVec Ideal S128x128 .bf16 :=
  truncf .bf16 (select k0_pay2 (head k0_pay2 i q kp ko vp vo b0 s0)
    (head (xori k0_pay2 (constantI S128x128 1 1#1)) i q kp ko vp vo b1 s1)) bitsLt_bf16_f32

/-- Pair `j`'s lanes lie in the query block. -/
theorem lanes_in (j : Fin 16) : ∀ a, (![0, 128 * j.val] : Fin 2 → ℕ) a + S128x128.size a ≤ S128x2048.size a := by
  intro a
  match a with
  | ⟨0, _⟩ => show 0 + 128 ≤ 128; omega
  | ⟨1, _⟩ => show 128 * j.val + 128 ≤ 2048; omega

/-- The lanes of pair `j`'s key head lie in the key block. -/
theorem group_in (j : Fin 16) : ∀ a, (![0, 128 * (j.val / 4)] : Fin 2 → ℕ) a + S128x128.size a ≤ S128x512.size a := by
  intro a
  match a with
  | ⟨0, _⟩ => show 0 + 128 ≤ 128; omega
  | ⟨1, _⟩ => show 128 * (j.val / 4) + 128 ≤ 512; omega

/-- Head `h`'s bias tile lies in the bias stack. -/
theorem bias_in (h : Fin 32) : ∀ a, (![h.val, 0, 0] : Fin 3 → ℕ) a + S1x128x256.size a ≤ S32x128x256.size a := by
  intro a
  match a with
  | ⟨0, _⟩ => show h.val + 1 ≤ 32; omega
  | ⟨1, _⟩ => show 0 + 128 ≤ 128; omega
  | ⟨2, _⟩ => show 0 + 256 ≤ 256; omega

/-- Head `h`'s sink lies in the sink vector. -/
theorem sink_in (h : Fin 32) : ∀ a, (![h.val] : Fin 1 → ℕ) a + S1.size a ≤ S32.size a := by
  intro a
  match a with
  | ⟨0, _⟩ => show h.val + 1 ≤ 32; omega

/-- The even head of pair `j`. -/
abbrev evenHead (j : Fin 16) : Fin 32 := ⟨2 * j.val, by omega⟩
/-- The odd head of pair `j`. -/
abbrev oddHead (j : Fin 16) : Fin 32 := ⟨2 * j.val + 1, by omega⟩
/-- Pair `j`'s lanes. -/
abbrev lanes (j : Fin 16) : Rect S128x2048 := Rect.unit ![0, 128 * j.val] S128x128.size (lanes_in j)
/-- The lanes of pair `j`'s key head. -/
abbrev group (j : Fin 16) : Rect S128x512 := Rect.unit ![0, 128 * (j.val / 4)] S128x128.size (group_in j)
/-- Head `h`'s bias tile. -/
abbrev bias (h : Fin 32) : Rect S32x128x256 := Rect.unit ![h.val, 0, 0] S1x128x256.size (bias_in h)
/-- Head `h`'s sink. -/
abbrev sink (h : Fin 32) : Rect S32 := Rect.unit ![h.val] S1.size (sink_in h)

section
variable (c : Dev nD) (i : grid0.Coords) (arg2 : Memref sig .tc .vmem S128x2048 .bf16) (harg2 : arg2.IsWhole) (arg3 : Memref sig .tc .vmem S128x512 .bf16) (harg3 : arg3.IsWhole)
  (arg4 : Memref sig .tc .vmem S128x512 .bf16) (harg4 : arg4.IsWhole) (arg5 : Memref sig .tc .vmem S128x512 .bf16) (harg5 : arg5.IsWhole)
  (arg6 : Memref sig .tc .vmem S128x512 .bf16) (harg6 : arg6.IsWhole) (arg7 : Memref sig .tc .vmem S32x128x256 .f32) (harg7 : arg7.IsWhole)
  (arg8 : Memref sig .tc .smem S32 .f32) (harg8 : arg8.IsWhole) (arg9 : Memref sig .tc .vmem S128x2048 .bf16) (harg9 : arg9.IsWhole)
  (x0 : Vec Ideal S128x2048 .bf16) (x1 x2 x3 x4 : Vec Ideal S128x512 .bf16) (x5 : Vec Ideal S32x128x256 .f32) (x6 : Vec Ideal S32 .f32)

/-- Pair `j`'s block of queries, keys, values, biases and sinks, as loads of the staging buffers, put through `pair`. -/
def pairAt (j : Fin 16) : FVec Ideal S128x128 .bf16 :=
  pair i (View.readAt (Elt Ideal) arg2.view (lanes j).toLoadRect (harg2.unread x0))
    (View.readAt (Elt Ideal) arg3.view (group j).toLoadRect (harg3.unread x1))
    (View.readAt (Elt Ideal) arg4.view (group j).toLoadRect (harg4.unread x2))
    (View.readAt (Elt Ideal) arg5.view (group j).toLoadRect (harg5.unread x3))
    (View.readAt (Elt Ideal) arg6.view (group j).toLoadRect (harg6.unread x4))
    (View.readAt (Elt Ideal) arg7.view (bias (evenHead j)).toLoadRect (harg7.unread x5))
    (View.readAt (Elt Ideal) arg7.view (bias (oddHead j)).toLoadRect (harg7.unread x5))
    (View.readAt (Elt Ideal) arg8.view (sink (evenHead j)).toLoadRect (harg8.unread x6) (Shape.Idx.first (s := S1) (by decide)))
    (View.readAt (Elt Ideal) arg8.view (sink (oddHead j)).toLoadRect (harg8.unread x6) (Shape.Idx.first (s := S1) (by decide)))

/-- Store `j` of the kernel: pair `j`'s lanes of the output block. -/
def piece (j : Fin 16) : View.Piece (Elt Ideal) S128x2048 .bf16 :=
  ⟨lanes j, pairAt i arg2 harg2 arg3 harg3 arg4 harg4 arg5 harg5 arg6 harg6 arg7 harg7 arg8 harg8 x0 x1 x2 x3 x4 x5 x6 j⟩

/-- The run's stores, last first, are the sixteen pairs. -/
theorem pieces_eq :
    (kernelRun0_A (F := Ideal) c i arg2 harg2 arg3 harg3 arg4 harg4 arg5 harg5 arg6 harg6 arg7 harg7 arg8 harg8 arg9 harg9 x0 x1 x2 x3 x4 x5 x6).1
      = List.map (piece i arg2 harg2 arg3 harg3 arg4 harg4 arg5 harg5 arg6 harg6 arg7 harg7 arg8 harg8 x0 x1 x2 x3 x4 x5 x6) [15, 14, 13, 12, 11, 10, 9, 8, 7, 6, 5, 4, 3, 2, 1, 0] := by
  sl_kernel_rfl

end

end Cert.Band

end
-- ==== Proof.SwaHead.lean ====
/- One pair of heads of the attention kernel read at an index. -/
module

public import proofs.«01_k».proof.Proof.SwaSpec
public import proofs.«01_k».proof.Proof.SwaPieces
public import Idealize.ShloMosaic.Lib.StableHlo.Predicate

@[expose] public section

set_option maxRecDepth 16384

noncomputable section

namespace Cert.Band

open Idealize.ShloMosaic Idealize.ShloMosaic.TcCoe Idealize.SL.Sem
open Cert.SwaIdeal Cert.SwaIdeal.Gen
open Cert.Ffn (Mat)
open scoped BigOperators

/-- A comparison's bit is set exactly when the comparison holds. -/
theorem ofBool_one (b : Bool) : BitVec.ofBool b = 1 ↔ b = true := by cases b <;> decide

/-- The bit of "the first lanes". -/
theorem left_apply (p l : Fin 128) : k0_pay2 (ix2 p l) = 1 ↔ l.val < 64 := by
  unfold k0_pay2
  pointwise
  unfold IntOp.cmpi
  rw [ofBool_one]
  have hl := l.isLt
  rw [BitVec.slt_iff_toInt_lt, BitVec.toInt_eq_toNat_bmod, BitVec.toNat_ofNat, Nat.mod_eq_of_lt (by omega), Int.bmod_def,
    show (64#32 : BitVec 32).toInt = 64 from rfl]
  omega

/-- The additive mask: zero where the key position is seen and the bottom elsewhere. -/
theorem mask_apply (i : grid0.Coords) (p : Fin 128) (s : Fin 256) (hi : (i 1).val < 64) :
    k0_pay3 (F := Ideal) i (ix2 p s) = if seen ⟨(i 1).val, hi⟩ p s then 0 else ⊥ := by
  have hs := s.isLt
  have hg := gap_toInt p s
  unfold gap at hg
  have e : ∀ n : ℕ, n < 256 → (BitVec.ofNat 32 n).toInt = n := fun n hn => by
    rw [BitVec.toInt_eq_toNat_bmod, BitVec.toNat_ofNat, Nat.mod_eq_of_lt (by omega), Int.bmod_def]; omega
  unfold k0_pay3
  pointwise
  generalize IntOp.subi (IntOp.addi (BitVec.ofNat 32 p.val) 128#32) (BitVec.ofNat 32 s.val) = w at hg ⊢
  have c1 : (IntOp.cmpi CmpIPredicate.sge w 0#32 = 1) ↔ s.val ≤ p.val + 128 := by
    unfold IntOp.cmpi; rw [ofBool_one, BitVec.sle_iff_toInt_le, hg]; show (0 : ℤ) ≤ _ ↔ _; omega
  have c2 : (IntOp.cmpi CmpIPredicate.slt w 128#32 = 1) ↔ p.val < s.val := by
    unfold IntOp.cmpi; rw [ofBool_one, BitVec.slt_iff_toInt_lt, hg, show (128#32 : BitVec 32).toInt = 128 from rfl]; omega
  have c3 : (IntOp.cmpi CmpIPredicate.sge (BitVec.ofNat 32 s.val) (Scalar.select (Scalar.cmpi CmpIPredicate.sgt (BitVec.ofNat 32 (i 1).val) 0#32) 0#32 128#32) = 1)
      ↔ 128 ≤ 128 * (i 1).val + s.val := by
    have c0 : (Scalar.cmpi CmpIPredicate.sgt (BitVec.ofNat 32 (i 1).val) 0#32 = 1) ↔ 0 < (i 1).val := by
      show IntOp.cmpi _ _ _ = 1 ↔ _
      unfold IntOp.cmpi; rw [ofBool_one, BitVec.slt_iff_toInt_lt, e (i 1).val (by omega)]; show (0 : ℤ) < _ ↔ _; omega
    unfold IntOp.cmpi Scalar.select
    rw [ofBool_one, BitVec.sle_iff_toInt_le, e _ hs]
    by_cases h : 0 < (i 1).val
    · rw [if_pos (c0.mpr h)]; show (0 : ℤ) ≤ _ ↔ _; omega
    · rw [if_neg (fun hc => h (c0.mp hc))]; show (128 : ℤ) ≤ _ ↔ _; omega
  unfold Scalar.select at c3 ⊢
  simp only [c1, c2, c3, ninf, seen]
  by_cases h1 : s.val ≤ p.val + 128
  · by_cases h2 : p.val < s.val
    · by_cases h3 : 128 ≤ 128 * (i 1).val + s.val
      · rw [if_pos h1, if_pos h2, if_pos h3, if_pos ⟨h1, h2, h3⟩]
      · rw [if_pos h1, if_pos h2, if_neg h3, if_neg (fun h => h3 h.2.2)]
    · rw [if_pos h1, if_neg h2, if_neg (fun h => h2 h.2.1)]
  · rw [if_neg h1, if_neg (fun h => h1 h.1)]

/-- Two stacked blocks of rows. -/
def stack (a b : Vec Ideal S128x128 .bf16) (s : Fin 256) (l : Fin 128) : EReal :=
  if h : s.val < 128 then a (ix2 ⟨s.val, h⟩ l) else b (ix2 ⟨s.val - 128, by omega⟩ l)

/-- One head read at an index: a softmax row with the sink against a column of values. -/
theorem head_apply (sel : IVec S128x128 1) (i : grid0.Coords) (q kp ko vp vo : Vec Ideal S128x128 .bf16) (b : Vec Ideal S1x128x256 .f32) (S : Ideal .f32) (p l : Fin 128) :
    head sel i q kp ko vp vo b S (ix2 p l)
      = soft (fun s => (∑ x : Fin 128, (if sel (ix2 p x) = 1 then q (ix2 p x) else 0) * stack kp ko s x) * Ideal.ofBits .f32 0x3E000000#32 + b (ix3 0 p s)
          + k0_pay3 (F := Ideal) i (ix2 p s)) S (fun s => stack vp vo s l) := by
  have hk : ∀ (s : Fin 256) (x : Fin 128), k0_pay4 (F := Ideal) kp ko (ix2 s x) = stack kp ko s x := fun s x => by
    unfold k0_pay4; pointwise; rfl
  have hv : ∀ (s : Fin 256) (x : Fin 128), k0_pay5 (F := Ideal) vp vo (ix2 s x) = stack vp vo s x := fun s x => by
    unfold k0_pay5; pointwise; rfl
  have hq : ∀ x : Fin 128, k0_pay6 (F := Ideal) q (ix2 p x) = q (ix2 p x) := fun x => by unfold k0_pay6; pointwise
  have hz : ∀ x : Fin 128, k0_pay7 (F := Ideal) (ix2 p x) = 0 := fun x => by unfold k0_pay7; pointwise
  unfold head k0_pay8
  generalize k0_pay3 (F := Ideal) i = ma
  generalize k0_pay4 (F := Ideal) kp ko = kk at hk
  generalize k0_pay5 (F := Ideal) vp vo = vv at hv
  generalize k0_pay6 (F := Ideal) q = qq at hq
  generalize k0_pay7 (F := Ideal) = zz at hz
  pointwise
  simp only [hk, hv, hq, hz]
  rfl

/-- A stack of two blocks whose 128 lanes hold the same 64 columns twice: a dot product over one half of the lanes. -/
theorem half_dot (f : Fin 128 → EReal) (g : Fin 128 → EReal) (o : ℕ) (ho : o = 0 ∨ o = 64) (c : Fin 128 → Prop) [DecidablePred c]
    (hc : ∀ x : Fin 128, c x ↔ o ≤ x.val ∧ x.val < o + 64) :
    (∑ x : Fin 128, (if c x then f x else 0) * g x) = ∑ d : Fin 64, f ⟨o + d.val, by omega⟩ * g ⟨o + d.val, by omega⟩ := by
  rw [show (∑ x : Fin 128, (if c x then f x else 0) * g x)
      = (∑ x : Fin 64, (if c ⟨x.val, by omega⟩ then f ⟨x.val, by omega⟩ else 0) * g ⟨x.val, by omega⟩)
        + ∑ x : Fin 64, (if c ⟨64 + x.val, by omega⟩ then f ⟨64 + x.val, by omega⟩ else 0) * g ⟨64 + x.val, by omega⟩ from Fin.sum_univ_add (a := 64) (b := 64) _]
  rcases ho with rfl | rfl
  · rw [Finset.sum_eq_zero (s := Finset.univ) (f := fun x : Fin 64 => (if c ⟨64 + x.val, by omega⟩ then f ⟨64 + x.val, by omega⟩ else 0) * g ⟨64 + x.val, by omega⟩)
      (fun x _ => by rw [if_neg (fun h => by have := (hc _).mp h; have h2 : 64 + x.val < 0 + 64 := this.2; omega), zero_mul]), add_zero]
    refine Finset.sum_congr rfl fun x _ => ?_
    rw [if_pos ((hc _).mpr ⟨by omega, by show x.val < 0 + 64; omega⟩)]
    simp only [Nat.zero_add]
  · rw [Finset.sum_eq_zero (s := Finset.univ) (f := fun x : Fin 64 => (if c ⟨x.val, by omega⟩ then f ⟨x.val, by omega⟩ else 0) * g ⟨x.val, by omega⟩)
      (fun x _ => by rw [if_neg (fun h => by have := (hc _).mp h; have h2 : 64 ≤ x.val := this.1; omega), zero_mul]), zero_add]
    refine Finset.sum_congr rfl fun x _ => ?_
    rw [if_pos ((hc _).mpr ⟨by show 64 ≤ 64 + x.val; omega, by show 64 + x.val < 64 + 64; omega⟩)]

end Cert.Band

end
-- ==== Proof.SwaBlock.lean ====
/- The attention kernel's output array: every grid point writes its block of the attention's result. -/
module

public import proofs.«01_k».proof.Proof.SwaHead

@[expose] public section

set_option maxRecDepth 16384

noncomputable section

namespace Cert.Band

open Idealize.ShloMosaic Idealize.ShloMosaic.TcCoe Idealize.SL.Sem
open Cert.SwaIdeal Cert.SwaIdeal.Gen
open Idealize.ShloMosaic.Pipeline (Dat)
open Cert.Ffn (Mat)
open scoped BigOperators

/-- The row of a stack of the block before `i` (block 0 for `i = 0`) and block `i`. -/
def wrap (a : Quad 2 8192 4 64) (b : Fin 2) (i : Fin 64) (s : Fin 256) (g : Fin 4) (d : Fin 64) : EReal :=
  if h : s.val < 128 then a (ix4 b ⟨128 * (i.val - 1) + s.val, by omega⟩ g d) else a (ix4 b ⟨128 * i.val + (s.val - 128), by omega⟩ g d)

/-- Inside the sequence the stack is the band. -/
theorem wrap_eq_band (a : Quad 2 8192 4 64) (b : Fin 2) (i : Fin 64) (s : Fin 256) (g : Fin 4) (d : Fin 64) (h : 128 ≤ 128 * i.val + s.val) :
    wrap a b i s g d = band a b i s g d := by
  unfold wrap band
  rw [dif_pos h]
  split
  · exact congrArg (fun r => a (ix4 b r g d)) (Fin.ext (by show 128 * (i.val - 1) + s.val = 128 * i.val + s.val - 128; omega))
  · exact congrArg (fun r => a (ix4 b r g d)) (Fin.ext (by show 128 * i.val + (s.val - 128) = 128 * i.val + s.val - 128; omega))

/-- Over a whole stack of values, the row's result is the band's. -/
theorem soft_wrap (q : Quad 2 8192 32 64) (k v : Quad 2 8192 4 64) (t : Mat 32 32) (S : EReal) (b : Fin 2) (i : Fin 64) (p : Fin 128) (h : Fin 32) (g : Fin 4) (d : Fin 64) :
    soft (logit q k t b i p h) S (fun s => wrap v b i s g d) = soft (logit q k t b i p h) S (fun s => band v b i s g d) := by
  by_cases hi : i.val = 0
  · refine soft_masked _ _ _ _ (fun s hs => ?_) (fun s => ?_) (fun s hs => ?_) (fun s hs => wrap_eq_band v b i s g d (by omega))
    · unfold logit
      rw [if_neg (fun hc => by have := hc.2.2; omega)]
    · have hs := s.isLt
      unfold wrap
      rw [dif_pos hs, dif_neg (by show ¬ 128 + s.val < 128; omega)]
      exact congrArg (fun r => v (ix4 b r g d)) (Fin.ext (by show 128 * (i.val - 1) + s.val = 128 * i.val + (128 + s.val - 128); omega))
    · unfold band
      rw [dif_neg (by omega)]
  · exact congrArg (soft _ S) (funext fun s => wrap_eq_band v b i s g d (by omega))

section
variable (i : grid0.Coords) (x0 : Vec Ideal S128x2048 .bf16) (x1 x2 x3 x4 : Vec Ideal S128x512 .bf16) (x5 : Vec Ideal S32x128x256 .f32) (x6 : Vec Ideal S32 .f32)
  (q : Quad 2 8192 32 64) (k v : Quad 2 8192 4 64) (S : Row 32) (t : Mat 32 32) (b : Fin 2) (hi : (i 1).val < 64)
  (hx0 : ∀ (p : Fin 128) (c : Fin 2048), x0 (ix2 p c) = q (ix4 b ⟨128 * (i 1).val + p.val, by omega⟩ ⟨c.val / 64, by omega⟩ ⟨c.val % 64, by omega⟩))
  (hx1 : ∀ (p : Fin 128) (c : Fin 512), x1 (ix2 p c) = k (ix4 b ⟨128 * ((i 1).val - 1) + p.val, by omega⟩ ⟨c.val / 128, by omega⟩ ⟨c.val % 64, by omega⟩))
  (hx2 : ∀ (p : Fin 128) (c : Fin 512), x2 (ix2 p c) = k (ix4 b ⟨128 * (i 1).val + p.val, by omega⟩ ⟨c.val / 128, by omega⟩ ⟨c.val % 64, by omega⟩))
  (hx3 : ∀ (p : Fin 128) (c : Fin 512), x3 (ix2 p c) = v (ix4 b ⟨128 * ((i 1).val - 1) + p.val, by omega⟩ ⟨c.val / 128, by omega⟩ ⟨c.val % 64, by omega⟩))
  (hx4 : ∀ (p : Fin 128) (c : Fin 512), x4 (ix2 p c) = v (ix4 b ⟨128 * (i 1).val + p.val, by omega⟩ ⟨c.val / 128, by omega⟩ ⟨c.val % 64, by omega⟩))
  (hx5 : ∀ (h : Fin 32) (p : Fin 128) (s : Fin 256), x5 (ix3 h p s) = t (ix2 (slot (gap p s)) h))
  (hx6 : ∀ h : Fin 32, x6 (ix1 h) = S (ix1 h))

/-- A stack of two key (or value) blocks read in one head's lanes is the rows of the band's two blocks. -/
theorem stack_eq (a : Quad 2 8192 4 64) (z1 z2 : Vec Ideal S128x512 .bf16)
    (h1 : ∀ (p : Fin 128) (c : Fin 512), z1 (ix2 p c) = a (ix4 b ⟨128 * ((i 1).val - 1) + p.val, by omega⟩ ⟨c.val / 128, by omega⟩ ⟨c.val % 64, by omega⟩))
    (h2 : ∀ (p : Fin 128) (c : Fin 512), z2 (ix2 p c) = a (ix4 b ⟨128 * (i 1).val + p.val, by omega⟩ ⟨c.val / 128, by omega⟩ ⟨c.val % 64, by omega⟩))
    (j : Fin 16) (w1 w2 : Vec Ideal S128x128 .bf16) (hw1 : ∀ p l : Fin 128, w1 (ix2 p l) = z1 (ix2 p ⟨128 * (j.val / 4) + l.val, by omega⟩))
    (hw2 : ∀ p l : Fin 128, w2 (ix2 p l) = z2 (ix2 p ⟨128 * (j.val / 4) + l.val, by omega⟩)) (s : Fin 256) (l : Fin 128) :
    stack w1 w2 s l = wrap a b ⟨(i 1).val, hi⟩ s ⟨j.val / 4, by omega⟩ ⟨l.val % 64, by omega⟩ := by
  have hl := l.isLt
  have e1 : (128 * (j.val / 4) + l.val) / 128 = j.val / 4 := by omega
  have e2 : (128 * (j.val / 4) + l.val) % 64 = l.val % 64 := by omega
  unfold stack wrap
  split
  · rw [hw1, h1]
    exact congrArg₂ (fun g d => a (ix4 b _ g d)) (Fin.ext e1) (Fin.ext e2)
  · rw [hw2, h2]
    exact congrArg₂ (fun g d => a (ix4 b _ g d)) (Fin.ext e1) (Fin.ext e2)

include hx0 hx1 hx2 hx3 hx4 hx5 in
/-- One head of a grid point: `o` is where its half of the lanes starts. -/
theorem head_eq (sel : IVec S128x128 1) (o : ℕ) (ho : o = 0 ∨ o = 64) (hsel : ∀ p x : Fin 128, sel (ix2 p x) = 1 ↔ o ≤ x.val ∧ x.val < o + 64) (j : Fin 16) (h : Fin 32)
    (hh : h.val = 2 * j.val + o / 64) (wq w1 w2 w3 w4 : Vec Ideal S128x128 .bf16) (wb : Vec Ideal S1x128x256 .f32)
    (hq : ∀ p l : Fin 128, wq (ix2 p l) = x0 (ix2 p ⟨128 * j.val + l.val, by omega⟩))
    (h1 : ∀ p l : Fin 128, w1 (ix2 p l) = x1 (ix2 p ⟨128 * (j.val / 4) + l.val, by omega⟩)) (h2 : ∀ p l : Fin 128, w2 (ix2 p l) = x2 (ix2 p ⟨128 * (j.val / 4) + l.val, by omega⟩))
    (h3 : ∀ p l : Fin 128, w3 (ix2 p l) = x3 (ix2 p ⟨128 * (j.val / 4) + l.val, by omega⟩)) (h4 : ∀ p l : Fin 128, w4 (ix2 p l) = x4 (ix2 p ⟨128 * (j.val / 4) + l.val, by omega⟩))
    (hb : ∀ (p : Fin 128) (s : Fin 256), wb (ix3 0 p s) = x5 (ix3 h p s)) (p l : Fin 128) :
    head sel i wq w1 w2 w3 w4 wb (S (ix1 h)) (ix2 p l) = entry q k v S t b ⟨(i 1).val, hi⟩ p h ⟨l.val % 64, by omega⟩ := by
  have hg : (⟨j.val / 4, by omega⟩ : Fin 4) = ⟨h.val / 8, by omega⟩ := Fin.ext (by show j.val / 4 = h.val / 8; rcases ho with rfl | rfl <;> omega)
  rw [head_apply]
  unfold entry
  rw [← soft_wrap]
  refine congrArg₂ (fun L V => soft L (S (ix1 h)) V) (funext fun s => ?_) (funext fun s => ?_)
  · rw [half_dot (fun x => wq (ix2 p x)) (fun x => stack w1 w2 s x) o ho (fun x => sel (ix2 p x) = 1) (fun x => hsel p x), mask_apply i p s hi, hb, hx5]
    unfold logit
    by_cases hs : seen ⟨(i 1).val, hi⟩ p s
    · rw [if_pos hs, if_pos hs, add_zero]
      refine congrArg (fun z => z * _ + _) (Finset.sum_congr rfl fun d _ => ?_)
      rw [stack_eq i b hi k x1 x2 hx1 hx2 j w1 w2 h1 h2, hq, hx0, ← wrap_eq_band k b _ s _ d hs.2.2, hg]
      have hd := d.isLt
      refine congrArg₂ (· * ·) (congrArg₂ (fun g d => q (ix4 b _ g d)) (Fin.ext ?_) (Fin.ext ?_)) (congrArg (fun d => wrap k b _ s _ d) (Fin.ext ?_))
      · show (128 * j.val + (o + d.val)) / 64 = h.val; rcases ho with rfl | rfl <;> omega
      · show (128 * j.val + (o + d.val)) % 64 = d.val; rcases ho with rfl | rfl <;> omega
      · show (o + d.val) % 64 = d.val; rcases ho with rfl | rfl <;> omega
    · rw [if_neg hs, if_neg hs, EReal.add_bot]
  · rw [stack_eq i b hi v x3 x4 hx3 hx4 j w3 w4 h3 h4, hg]

end

/-- The odd head's lanes are the others. -/
theorem right_apply (p l : Fin 128) : xori k0_pay2 (constantI S128x128 1 1#1) (ix2 p l) = 1 ↔ 64 ≤ l.val := by
  have h := left_apply p l
  have e : ∀ a : BitVec 1, a ^^^ 1#1 = 1 ↔ ¬ a = 1 := by decide
  exact (e (k0_pay2 (ix2 p l))).trans ((not_congr h).trans not_lt)

/-- A pair of heads at an entry: the head whose half the lane is in. -/
theorem pair_apply (i : grid0.Coords) (q kp ko vp vo : Vec Ideal S128x128 .bf16) (b0 b1 : Vec Ideal S1x128x256 .f32) (s0 s1 : Ideal .f32) (p l : Fin 128) :
    pair i q kp ko vp vo b0 b1 s0 s1 (ix2 p l) = if l.val < 64 then head k0_pay2 i q kp ko vp vo b0 s0 (ix2 p l)
      else head (xori k0_pay2 (constantI S128x128 1 1#1)) i q kp ko vp vo b1 s1 (ix2 p l) := by
  show (if k0_pay2 (ix2 p l) = 1 then _ else _) = _
  exact if_congr (left_apply p l) rfl rfl

/-- Pair `j`'s lanes inside the block of 2048. -/
theorem lanes_idx (j : Fin 16) (p l : Fin 128) : (lanes j).toLoadRect.idx (ix2 p l) = ix2 p ⟨128 * j.val + l.val, by omega⟩ := by
  funext a
  match a with
  | ⟨0, _⟩ => exact Fin.ext (by show 0 + 1 * p.val = p.val; omega)
  | ⟨1, _⟩ => exact Fin.ext (by show 128 * j.val + 1 * l.val = 128 * j.val + l.val; omega)

/-- A key head's lanes inside the block of 512. -/
theorem group_idx (j : Fin 16) (p l : Fin 128) : (group j).toLoadRect.idx (ix2 p l) = ix2 p ⟨128 * (j.val / 4) + l.val, by omega⟩ := by
  funext a
  match a with
  | ⟨0, _⟩ => exact Fin.ext (by show 0 + 1 * p.val = p.val; omega)
  | ⟨1, _⟩ => exact Fin.ext (by show 128 * (j.val / 4) + 1 * l.val = 128 * (j.val / 4) + l.val; omega)

/-- Head `h`'s tile inside the bias stack. -/
theorem bias_idx (h : Fin 32) (p : Fin 128) (s : Fin 256) : (bias h).toLoadRect.idx (ix3 (0 : Fin 1) p s) = ix3 h p s := by
  funext a
  match a with
  | ⟨0, _⟩ => exact Fin.ext (by show h.val + 1 * 0 = h.val; omega)
  | ⟨1, _⟩ => exact Fin.ext (by show 0 + 1 * p.val = p.val; omega)
  | ⟨2, _⟩ => exact Fin.ext (by show 0 + 1 * s.val = s.val; omega)

/-- Head `h`'s sink inside the sink vector. -/
theorem sink_idx (h : Fin 32) : (sink h).toLoadRect.idx (Shape.Idx.first (s := S1) (by decide)) = ix1 h := by
  funext a
  match a with
  | ⟨0, _⟩ => exact Fin.ext (by show h.val + 1 * 0 = h.val; omega)

section
variable (i : grid0.Coords) (arg2 : Memref sig .tc .vmem S128x2048 .bf16) (harg2 : arg2.IsWhole) (arg3 : Memref sig .tc .vmem S128x512 .bf16) (harg3 : arg3.IsWhole)
  (arg4 : Memref sig .tc .vmem S128x512 .bf16) (harg4 : arg4.IsWhole) (arg5 : Memref sig .tc .vmem S128x512 .bf16) (harg5 : arg5.IsWhole)
  (arg6 : Memref sig .tc .vmem S128x512 .bf16) (harg6 : arg6.IsWhole) (arg7 : Memref sig .tc .vmem S32x128x256 .f32) (harg7 : arg7.IsWhole)
  (arg8 : Memref sig .tc .smem S32 .f32) (harg8 : arg8.IsWhole)
  (x0 : Vec Ideal S128x2048 .bf16) (x1 x2 x3 x4 : Vec Ideal S128x512 .bf16) (x5 : Vec Ideal S32x128x256 .f32) (x6 : Vec Ideal S32 .f32)
  (q : Quad 2 8192 32 64) (k v : Quad 2 8192 4 64) (S : Row 32) (t : Mat 32 32) (b : Fin 2) (hi : (i 1).val < 64)
  (hx0 : ∀ (p : Fin 128) (c : Fin 2048), x0 (ix2 p c) = q (ix4 b ⟨128 * (i 1).val + p.val, by omega⟩ ⟨c.val / 64, by omega⟩ ⟨c.val % 64, by omega⟩))
  (hx1 : ∀ (p : Fin 128) (c : Fin 512), x1 (ix2 p c) = k (ix4 b ⟨128 * ((i 1).val - 1) + p.val, by omega⟩ ⟨c.val / 128, by omega⟩ ⟨c.val % 64, by omega⟩))
  (hx2 : ∀ (p : Fin 128) (c : Fin 512), x2 (ix2 p c) = k (ix4 b ⟨128 * (i 1).val + p.val, by omega⟩ ⟨c.val / 128, by omega⟩ ⟨c.val % 64, by omega⟩))
  (hx3 : ∀ (p : Fin 128) (c : Fin 512), x3 (ix2 p c) = v (ix4 b ⟨128 * ((i 1).val - 1) + p.val, by omega⟩ ⟨c.val / 128, by omega⟩ ⟨c.val % 64, by omega⟩))
  (hx4 : ∀ (p : Fin 128) (c : Fin 512), x4 (ix2 p c) = v (ix4 b ⟨128 * (i 1).val + p.val, by omega⟩ ⟨c.val / 128, by omega⟩ ⟨c.val % 64, by omega⟩))
  (hx5 : ∀ (h : Fin 32) (p : Fin 128) (s : Fin 256), x5 (ix3 h p s) = t (ix2 (slot (gap p s)) h))
  (hx6 : ∀ h : Fin 32, x6 (ix1 h) = S (ix1 h))

include hx0 hx1 hx2 hx3 hx4 hx5 hx6 in
/-- Pair `j`'s store holds the attention's entries of its two heads. -/
theorem pairAt_apply (j : Fin 16) (p l : Fin 128) :
    pairAt i arg2 harg2 arg3 harg3 arg4 harg4 arg5 harg5 arg6 harg6 arg7 harg7 arg8 harg8 x0 x1 x2 x3 x4 x5 x6 j (ix2 p l)
      = entry q k v S t b ⟨(i 1).val, hi⟩ p ⟨(128 * j.val + l.val) / 64, by omega⟩ ⟨(128 * j.val + l.val) % 64, by omega⟩ := by
  have hl := l.isLt
  unfold pairAt
  rw [pair_apply]
  have lq : ∀ p l : Fin 128, View.readAt (Elt Ideal) arg2.view (lanes j).toLoadRect (harg2.unread x0) (ix2 p l) = x0 (ix2 p ⟨128 * j.val + l.val, by omega⟩) :=
    fun p l => (Memref.IsWhole.readAt_unread harg2 x0 _ _).trans (congrArg x0 (lanes_idx j p l))
  have l1 : ∀ p l : Fin 128, View.readAt (Elt Ideal) arg3.view (group j).toLoadRect (harg3.unread x1) (ix2 p l) = x1 (ix2 p ⟨128 * (j.val / 4) + l.val, by omega⟩) :=
    fun p l => (Memref.IsWhole.readAt_unread harg3 x1 _ _).trans (congrArg x1 (group_idx j p l))
  have l2 : ∀ p l : Fin 128, View.readAt (Elt Ideal) arg4.view (group j).toLoadRect (harg4.unread x2) (ix2 p l) = x2 (ix2 p ⟨128 * (j.val / 4) + l.val, by omega⟩) :=
    fun p l => (Memref.IsWhole.readAt_unread harg4 x2 _ _).trans (congrArg x2 (group_idx j p l))
  have l3 : ∀ p l : Fin 128, View.readAt (Elt Ideal) arg5.view (group j).toLoadRect (harg5.unread x3) (ix2 p l) = x3 (ix2 p ⟨128 * (j.val / 4) + l.val, by omega⟩) :=
    fun p l => (Memref.IsWhole.readAt_unread harg5 x3 _ _).trans (congrArg x3 (group_idx j p l))
  have l4 : ∀ p l : Fin 128, View.readAt (Elt Ideal) arg6.view (group j).toLoadRect (harg6.unread x4) (ix2 p l) = x4 (ix2 p ⟨128 * (j.val / 4) + l.val, by omega⟩) :=
    fun p l => (Memref.IsWhole.readAt_unread harg6 x4 _ _).trans (congrArg x4 (group_idx j p l))
  have l5 : ∀ (h : Fin 32) (p : Fin 128) (s : Fin 256), View.readAt (Elt Ideal) arg7.view (bias h).toLoadRect (harg7.unread x5) (ix3 (0 : Fin 1) p s) = x5 (ix3 h p s) :=
    fun h p s => (Memref.IsWhole.readAt_unread harg7 x5 _ _).trans (congrArg x5 (bias_idx h p s))
  have l6 : ∀ h : Fin 32, View.readAt (Elt Ideal) arg8.view (sink h).toLoadRect (harg8.unread x6) (Shape.Idx.first (s := S1) (by decide)) = S (ix1 h) :=
    fun h => ((Memref.IsWhole.readAt_unread harg8 x6 _ _).trans (congrArg x6 (sink_idx h))).trans (hx6 h)
  split
  · rename_i hlt
    rw [l6, head_eq i x0 x1 x2 x3 x4 x5 q k v S t b hi hx0 hx1 hx2 hx3 hx4 hx5 k0_pay2 0 (Or.inl rfl) (fun p x => (left_apply p x).trans (by omega)) j (evenHead j) (by show 2 * j.val = _; omega)
      _ _ _ _ _ _ lq l1 l2 l3 l4 (l5 _) p l]
    exact congrArg₂ (entry q k v S t b _ p) (Fin.ext (by show 2 * j.val = (128 * j.val + l.val) / 64; omega)) (Fin.ext (by show l.val % 64 = (128 * j.val + l.val) % 64; omega))
  · rename_i hge
    rw [l6, head_eq i x0 x1 x2 x3 x4 x5 q k v S t b hi hx0 hx1 hx2 hx3 hx4 hx5 _ 64 (Or.inr rfl) (fun p x => (right_apply p x).trans (by omega)) j (oddHead j) (by show 2 * j.val + 1 = _; omega)
      _ _ _ _ _ _ lq l1 l2 l3 l4 (l5 _) p l]
    exact congrArg₂ (entry q k v S t b _ p) (Fin.ext (by show 2 * j.val + 1 = (128 * j.val + l.val) / 64; omega)) (Fin.ext (by show l.val % 64 = (128 * j.val + l.val) % 64; omega))

include hx0 hx1 hx2 hx3 hx4 hx5 hx6 in
/-- The block one grid point writes is the attention's. -/
theorem out_apply (c : Dev nD) (arg9 : Memref sig .tc .vmem S128x2048 .bf16) (harg9 : arg9.IsWhole) (y : S128x2048.Idx) :
    out0_A_7 (F := Ideal) c i arg2 harg2 arg3 harg3 arg4 harg4 arg5 harg5 arg6 harg6 arg7 harg7 arg8 harg8 arg9 harg9 x0 x1 x2 x3 x4 x5 x6 y
      = (have h1 : (y 1).val < 2048 := (y 1).isLt; entry q k v S t b ⟨(i 1).val, hi⟩ (y 0) ⟨(y 1).val / 64, by omega⟩ ⟨(y 1).val % 64, by omega⟩) := by
  unfold out0_A_7
  refine View.read_writes_apply_of_pieces VO0_7 _
    (fun y : S128x2048.Idx => have h1 : (y 1).val < 2048 := (y 1).isLt; entry q k v S t b ⟨(i 1).val, hi⟩ (y 0) ⟨(y 1).val / 64, by omega⟩ ⟨(y 1).val % 64, by omega⟩) _ ?_ y
    (cover0_A_7 c i arg2 harg2 arg3 harg3 arg4 harg4 arg5 harg5 arg6 harg6 arg7 harg7 arg8 harg8 arg9 harg9 x0 x1 x2 x3 x4 x5 x6 y)
  rw [pieces_eq]
  intro pc hpc x
  obtain ⟨j, -, rfl⟩ := List.mem_map.mp hpc
  have h0 : (x 0).val < 128 := (x 0).isLt
  have h1 : (x 1).val < 128 := (x 1).isLt
  have key := pairAt_apply i arg2 harg2 arg3 harg3 arg4 harg4 arg5 harg5 arg6 harg6 arg7 harg7 arg8 harg8 x0 x1 x2 x3 x4 x5 x6 q k v S t b hi hx0 hx1 hx2 hx3 hx4 hx5 hx6 j ⟨(x 0).val, h0⟩ ⟨(x 1).val, h1⟩
  refine Eq.trans (congrArg (pairAt i arg2 harg2 arg3 harg3 arg4 harg4 arg5 harg5 arg6 harg6 arg7 harg7 arg8 harg8 x0 x1 x2 x3 x4 x5 x6 j)
    (funext fun a => by match a with | ⟨0, _⟩ => rfl | ⟨1, _⟩ => rfl)) (key.trans ?_)
  have e0 : (⟨(x 0).val, h0⟩ : Fin 128) = ((lanes j).emb x) 0 := Fin.ext (by show (x 0).val = 0 + 1 * (x 0).val; omega)
  have e1 : (((lanes j).emb x) 1).val = 128 * j.val + (x 1).val := by show 128 * j.val + 1 * (x 1).val = _; omega
  rw [e0]
  exact congrArg₂ (entry q k v S t b _ _) (Fin.ext (by show (128 * j.val + (x 1).val) / 64 = (((lanes j).emb x) 1).val / 64; rw [e1]))
    (Fin.ext (by show (128 * j.val + (x 1).val) % 64 = (((lanes j).emb x) 1).val % 64; rw [e1]))

end

variable (m : (ℓ : Loc nD τ sig) → Buf (Elt Ideal) ℓ)

/-- Where each window's block sits at grid point `t`: block `t % 64` of sequence `t / 64`, and the block before it. -/
theorem index_at : ∀ t : Fin cfg0.N,
    (win0_0.index t 0 = t.val ∧ win0_0.index t 1 = 0)
    ∧ (win0_1.index t 0 = 64 * (t.val / 64) + (t.val % 64 - 1) ∧ win0_1.index t 1 = 0)
    ∧ (win0_2.index t 0 = t.val ∧ win0_2.index t 1 = 0)
    ∧ (win0_3.index t 0 = 64 * (t.val / 64) + (t.val % 64 - 1) ∧ win0_3.index t 1 = 0)
    ∧ (win0_4.index t 0 = t.val ∧ win0_4.index t 1 = 0)
    ∧ (win0_5.index t 0 = 0 ∧ win0_5.index t 1 = 0 ∧ win0_5.index t 2 = 0)
    ∧ (win0_6.index t 0 = 0)
    ∧ (win0_7.index t 0 = t.val ∧ win0_7.index t 1 = 0)
    ∧ (grid0.coords t 1).val = t.val % 64 := by
  decide +kernel

/-- The query block: rows `128 · t` on. -/
theorem blk_q (c : Dev nD) (t : Fin cfg0.N) (p : Fin 128) (d : Fin 2048) (r : Fin 16384) (h : r.val = 128 * t.val + p.val) :
    iblk m c 0 t (ix2 p d) = V m c main_v0 (ix2 r d) := by
  obtain ⟨e0, e1⟩ := (index_at t).1
  refine congrArg (V m c main_v0 : Mat 16384 2048) (funext fun a => Fin.ext ?_)
  match a with
  | ⟨0, _⟩ => show win0_0.index t 0 * 128 + 1 * p.val = r.val; rw [e0]; omega
  | ⟨1, _⟩ => show win0_0.index t 1 * 2048 + 1 * d.val = d.val; rw [e1]; omega

/-- The key block before. -/
theorem blk_kp (c : Dev nD) (t : Fin cfg0.N) (p : Fin 128) (d : Fin 512) (r : Fin 16384) (h : r.val = 8192 * (t.val / 64) + 128 * (t.val % 64 - 1) + p.val) :
    iblk m c 1 t (ix2 p d) = V m c main_v3 (ix2 r d) := by
  obtain ⟨e0, e1⟩ := (index_at t).2.1
  refine congrArg (V m c main_v3 : Mat 16384 512) (funext fun a => Fin.ext ?_)
  match a with
  | ⟨0, _⟩ => show win0_1.index t 0 * 128 + 1 * p.val = r.val; rw [e0]; omega
  | ⟨1, _⟩ => show win0_1.index t 1 * 512 + 1 * d.val = d.val; rw [e1]; omega

/-- The key block. -/
theorem blk_ko (c : Dev nD) (t : Fin cfg0.N) (p : Fin 128) (d : Fin 512) (r : Fin 16384) (h : r.val = 128 * t.val + p.val) :
    iblk m c 2 t (ix2 p d) = V m c main_v3 (ix2 r d) := by
  obtain ⟨e0, e1⟩ := (index_at t).2.2.1
  refine congrArg (V m c main_v3 : Mat 16384 512) (funext fun a => Fin.ext ?_)
  match a with
  | ⟨0, _⟩ => show win0_2.index t 0 * 128 + 1 * p.val = r.val; rw [e0]; omega
  | ⟨1, _⟩ => show win0_2.index t 1 * 512 + 1 * d.val = d.val; rw [e1]; omega

/-- The value block before. -/
theorem blk_vp (c : Dev nD) (t : Fin cfg0.N) (p : Fin 128) (d : Fin 512) (r : Fin 16384) (h : r.val = 8192 * (t.val / 64) + 128 * (t.val % 64 - 1) + p.val) :
    iblk m c 3 t (ix2 p d) = V m c main_v6 (ix2 r d) := by
  obtain ⟨e0, e1⟩ := (index_at t).2.2.2.1
  refine congrArg (V m c main_v6 : Mat 16384 512) (funext fun a => Fin.ext ?_)
  match a with
  | ⟨0, _⟩ => show win0_3.index t 0 * 128 + 1 * p.val = r.val; rw [e0]; omega
  | ⟨1, _⟩ => show win0_3.index t 1 * 512 + 1 * d.val = d.val; rw [e1]; omega

/-- The value block. -/
theorem blk_vo (c : Dev nD) (t : Fin cfg0.N) (p : Fin 128) (d : Fin 512) (r : Fin 16384) (h : r.val = 128 * t.val + p.val) :
    iblk m c 4 t (ix2 p d) = V m c main_v6 (ix2 r d) := by
  obtain ⟨e0, e1⟩ := (index_at t).2.2.2.2.1
  refine congrArg (V m c main_v6 : Mat 16384 512) (funext fun a => Fin.ext ?_)
  match a with
  | ⟨0, _⟩ => show win0_4.index t 0 * 128 + 1 * p.val = r.val; rw [e0]; omega
  | ⟨1, _⟩ => show win0_4.index t 1 * 512 + 1 * d.val = d.val; rw [e1]; omega

/-- The bias stack, whole at every point. -/
theorem blk_bias (c : Dev nD) (t : Fin cfg0.N) (h : Fin 32) (p : Fin 128) (s : Fin 256) :
    iblk m c 5 t (ix3 h p s) = V m c main_v52 (ix3 h p s) := by
  obtain ⟨e0, e1, e2⟩ := (index_at t).2.2.2.2.2.1
  refine congrArg (V m c main_v52 : Vec Ideal S32x128x256 .f32) (funext fun a => Fin.ext ?_)
  match a with
  | ⟨0, _⟩ => show win0_5.index t 0 * 32 + 1 * h.val = h.val; rw [e0]; omega
  | ⟨1, _⟩ => show win0_5.index t 1 * 128 + 1 * p.val = p.val; rw [e1]; omega
  | ⟨2, _⟩ => show win0_5.index t 2 * 256 + 1 * s.val = s.val; rw [e2]; omega

/-- The sinks, whole at every point. -/
theorem blk_sink (c : Dev nD) (t : Fin cfg0.N) (h : Fin 32) : iblk m c 6 t (ix1 h) = V m c main_arg3 (ix1 h) := by
  have e0 := (index_at t).2.2.2.2.2.2.1
  refine congrArg (V m c main_arg3 : Vec Ideal S32 .f32) (funext fun a => Fin.ext ?_)
  match a with
  | ⟨0, _⟩ => show win0_6.index t 0 * 32 + 1 * h.val = h.val; rw [e0]; omega

section
variable (c : Dev nD) (q : Quad 2 8192 32 64) (k v : Quad 2 8192 4 64) (S : Row 32) (T : Mat 32 32)
  (hq : ∀ (r : Fin 16384) (d : Fin 2048), V m c main_v0 (ix2 r d) = q (ix4 ⟨r.val / 8192, by omega⟩ ⟨r.val % 8192, by omega⟩ ⟨d.val / 64, by omega⟩ ⟨d.val % 64, by omega⟩))
  (hk : ∀ (r : Fin 16384) (d : Fin 512), V m c main_v3 (ix2 r d) = k (ix4 ⟨r.val / 8192, by omega⟩ ⟨r.val % 8192, by omega⟩ ⟨d.val / 128, by omega⟩ ⟨d.val % 64, by omega⟩))
  (hv : ∀ (r : Fin 16384) (d : Fin 512), V m c main_v6 (ix2 r d) = v (ix4 ⟨r.val / 8192, by omega⟩ ⟨r.val % 8192, by omega⟩ ⟨d.val / 128, by omega⟩ ⟨d.val % 64, by omega⟩))
  (hb : ∀ (h : Fin 32) (p : Fin 128) (s : Fin 256), V m c main_v52 (ix3 h p s) = T (ix2 (slot (gap p s)) h))
  (hs : ∀ h : Fin 32, V m c main_arg3 (ix1 h) = S (ix1 h))

include hq hk hv hb hs in
/-- What point `t` writes back is its block of the attention's result. -/
theorem flushed_eq (t : Fin cfg0.N) :
    (dats m 0 c).flushed 7 t = (win0_7.blk t).view.read (Elt Ideal) (fun y : S16384x2048.Idx => attend q k v S T y) := by
  show (cfg0.win 7).cut (grid0.coords t) ((dats m 0 c).after 7 t) = _
  rw [after0_7]
  funext y
  have hN : cfg0.N = 128 := N_0
  have ht := t.isLt
  have hc := (index_at t).2.2.2.2.2.2.2.2
  obtain ⟨e0, e1⟩ := (index_at t).2.2.2.2.2.2.2.1
  have hi : (grid0.coords t 1).val < 64 := by omega
  have h0 : (y 0).val < 128 := (y 0).isLt
  have h1 : (y 1).val < 2048 := (y 1).isLt
  have row : ∀ (a : ℕ) (p : Fin 128) (ha : a < 64) (hr : 8192 * (t.val / 64) + 128 * a + p.val < 16384),
      (⟨(8192 * (t.val / 64) + 128 * a + p.val) / 8192, by omega⟩ : Fin 2) = ⟨t.val / 64, by omega⟩ ∧
      (⟨(8192 * (t.val / 64) + 128 * a + p.val) % 8192, by omega⟩ : Fin 8192) = ⟨128 * a + p.val, by omega⟩ :=
    fun a p ha hr => ⟨Fin.ext (by dsimp only; omega), Fin.ext (by dsimp only; omega)⟩
  have prev : ∀ p : Fin 128, 8192 * (t.val / 64) + 128 * ((grid0.coords t 1).val - 1) + p.val < 16384 := fun p => by omega
  have own : ∀ p : Fin 128, 8192 * (t.val / 64) + 128 * (grid0.coords t 1).val + p.val < 16384 := fun p => by omega
  have key := out_apply (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t) (iblk m c 6 t) q k v S T ⟨t.val / 64, by omega⟩ hi
    (fun p d => by rw [blk_q m c t p d ⟨_, own p⟩ (by dsimp only; omega), hq, (row _ p hi (own p)).1, (row _ p hi (own p)).2])
    (fun p d => by rw [blk_kp m c t p d ⟨_, prev p⟩ (by dsimp only; omega), hk, (row _ p (by omega) (prev p)).1, (row _ p (by omega) (prev p)).2])
    (fun p d => by rw [blk_ko m c t p d ⟨_, own p⟩ (by dsimp only; omega), hk, (row _ p hi (own p)).1, (row _ p hi (own p)).2])
    (fun p d => by rw [blk_vp m c t p d ⟨_, prev p⟩ (by dsimp only; omega), hv, (row _ p (by omega) (prev p)).1, (row _ p (by omega) (prev p)).2])
    (fun p d => by rw [blk_vo m c t p d ⟨_, own p⟩ (by dsimp only; omega), hv, (row _ p hi (own p)).1, (row _ p hi (own p)).2])
    (fun h p s => by rw [blk_bias, hb]) (fun h => by rw [blk_sink, hs]) c (ms0_7 t) (hs0_7 t) (fun a => y a)
  refine Eq.trans (congrArg (outsAt0 m c t) (funext fun a => by match a with | ⟨0, _⟩ => rfl | ⟨1, _⟩ => rfl)) (key.trans ?_)
  have r0 : (((win0_7.blk t).view.emb y : S16384x2048.Idx) 0).val = 128 * t.val + (y 0).val := by
    show win0_7.index t 0 * 128 + 1 * (y 0).val = _; rw [e0]; omega
  have r1 : (((win0_7.blk t).view.emb y : S16384x2048.Idx) 1).val = (y 1).val := by
    show win0_7.index t 1 * 2048 + 1 * (y 1).val = _; rw [e1]; omega
  show entry _ _ _ _ _ _ _ _ _ _ = entry _ _ _ _ _ _ _ _ _ _
  congr 1
  · exact Fin.ext (by show t.val / 64 = (((win0_7.blk t).view.emb y : S16384x2048.Idx) 0).val / 8192; rw [r0]; omega)
  · exact Fin.ext (by show (grid0.coords t 1).val = (((win0_7.blk t).view.emb y : S16384x2048.Idx) 0).val / 128 % 64; rw [r0, hc]; omega)
  · exact Fin.ext (by show (y 0).val = (((win0_7.blk t).view.emb y : S16384x2048.Idx) 0).val % 128; rw [r0]; omega)
  · exact Fin.ext (by show (y 1).val / 64 = (((win0_7.blk t).view.emb y : S16384x2048.Idx) 1).val / 64; rw [r1])
  · exact Fin.ext (by show (y 1).val % 64 = (((win0_7.blk t).view.emb y : S16384x2048.Idx) 1).val % 64; rw [r1])

/-- Every entry of the output lies in some point's block. -/
theorem cover (i : S16384x2048.Idx) : ∃ t : Fin cfg0.N, (cfg0.win 7).flush t = true ∧ i ∈ ((cfg0.win 7).blk t).view.set := by
  have h0 : (i 0).val < 16384 := (i 0).isLt
  have h1 : (i 1).val < 2048 := (i 1).isLt
  have hN : cfg0.N = 128 := N_0
  obtain ⟨t, ht⟩ : ∃ t : Fin cfg0.N, t.val = (i 0).val / 128 := ⟨⟨_, by omega⟩, rfl⟩
  refine ⟨t, flush0_7 t, ?_⟩
  obtain ⟨e0, e1⟩ := (index_at t).2.2.2.2.2.2.2.1
  show i ∈ ((View.whole main_v53).slice (win0_7.rect t)).set
  rw [View.set_slice_whole, Rect.mem_set_unit]
  intro a
  match a with
  | ⟨0, _⟩ => show win0_7.index t 0 * 128 ≤ (i 0).val ∧ (i 0).val < win0_7.index t 0 * 128 + 128; rw [e0]; omega
  | ⟨1, _⟩ => show win0_7.index t 1 * 2048 ≤ (i 1).val ∧ (i 1).val < win0_7.index t 1 * 2048 + 2048; rw [e1]; omega

include hq hk hv hb hs in
/-- The kernel's output array is the attention's result. -/
theorem covered : (dats m 0 c).arrAt 7 cfg0.N = fun y : S16384x2048.Idx => attend q k v S T y :=
  (dats m 0 c).arrAt_eq_of_cover 7 _ (fun t _ => flushed_eq m c q k v S T hq hk hv hb hs t) cover

end

/-- With the staged arrays laid out from the arguments, the result array ends as their attention. -/
theorem final (c : Dev nD) (q : Quad 2 8192 32 64) (k v : Quad 2 8192 4 64) (S : Row 32) (T : Mat 32 32)
    (hq : V m c main_v0 = rows q) (hk : V m c main_v3 = pairs k) (hv : V m c main_v6 = pairs v)
    (hb : ∀ (h : Fin 32) (p : Fin 128) (s : Fin 256), V m c main_v52 (ix3 h p s) = T (ix2 (slot (gap p s)) h))
    (hs : V m c main_arg3 = S) : (dats m 0 c).arrAt 7 cfg0.N = attend q k v S T :=
  covered m c q k v S T (fun r d => congrFun hq (ix2 r d)) (fun r d => congrFun hk (ix2 r d)) (fun r d => congrFun hv (ix2 r d)) hb
    (fun h => congrFun hs (ix1 h))

end Cert.Band

end
-- ==== Proof.SwaGather.lean ====
/- Reading rows of a table by a matrix of row numbers, as both attention programs do. -/
module

public import Idealize.ShloMosaic.Lib.Pointwise

@[expose] public section

set_option maxRecDepth 16384

noncomputable section

namespace Cert.Band

open Idealize.ShloMosaic

/-- The row numbers' place in the result's axes: the two leading axes number the rows, the last one runs along the row. -/
abbrev rowDims (n w a b : ℕ)
    (wf : GatherDims.WF ⟨2, ![n, w]⟩ ⟨3, ![a, b, 1]⟩ ⟨3, ![a, b, w]⟩ [2] [0] [] [0] [] 2 ![1, w]) :
    GatherDims ⟨2, ![n, w]⟩ ⟨3, ![a, b, 1]⟩ ⟨3, ![a, b, w]⟩ :=
  ⟨[2], [0], [], [], [0], 2, ![1, w], wf⟩

/-- Entry `(i, j, h)` of the rows read is the table's, at column `h` of the row the number at `(i, j)` names, clamped into the table. -/
theorem rows_apply {α : Type} {n w a b k : ℕ} (hn : 0 < n)
    (wf : GatherDims.WF ⟨2, ![n, w]⟩ ⟨3, ![a, b, 1]⟩ ⟨3, ![a, b, w]⟩ [2] [0] [] [0] [] 2 ![1, w])
    (x : (⟨2, ![n, w]⟩ : Shape).Idx → α) (v : IVec ⟨3, ![a, b, 1]⟩ k) (i : Fin a) (j : Fin b) (h : Fin w) :
    Host.gather (rowDims n w a b wf) x v (ix3 i j h) = x (ix2 ⟨min (v (ix3 i j (0 : Fin 1))).toInt.toNat (n - 1), by omega⟩ h) := by
  unfold Host.gather
  refine congrArg x (funext fun c => Fin.ext ?_)
  show (rowDims n w a b wf).start (ix3 i j h) v c + (rowDims n w a b wf).batchCoord (ix3 i j h) c + (rowDims n w a b wf).offCoord (ix3 i j h) c = _
  rw [GatherDims.batchCoord_eq_zero _ _ _ (fun hc => absurd hc List.not_mem_nil)]
  rcases (show c = (0 : Fin 2) ∨ c = (1 : Fin 2) from match c with | ⟨0, _⟩ => Or.inl rfl | ⟨1, _⟩ => Or.inr rfl) with rfl | rfl
  · rw [GatherDims.offCoord_eq_zero _ _ _ (fun hc => ((GatherDims.mem_sKept _ _).mp hc).1 (List.mem_singleton.mpr rfl))]
    unfold GatherDims.start
    rw [dif_pos (show (0 : Fin 2) ∈ (rowDims n w a b wf).startIndexMap from List.mem_singleton.mpr rfl)]
    have e : (rowDims n w a b wf).siIdx (ix3 i j h) ⟨List.idxOf (0 : Fin 2) (rowDims n w a b wf).startIndexMap, List.idxOf_lt_length_iff.2 (List.mem_singleton.mpr rfl)⟩ = ix3 i j (0 : Fin 1) := by
      funext d
      match d with
      | ⟨0, _⟩ => rfl
      | ⟨1, _⟩ => rfl
      | ⟨2, _⟩ => rfl
    rw [e]
    rfl
  · have e : (rowDims n w a b wf).start (ix3 i j h) v (1 : Fin 2) = 0 := by
      unfold GatherDims.start
      rw [dif_neg (show (1 : Fin 2) ∉ [(0 : Fin 2)] by decide)]
    have o : (rowDims n w a b wf).offCoord (ix3 i j h) (1 : Fin 2) = h.val := by
      unfold GatherDims.offCoord
      rw [dif_pos ((GatherDims.mem_sKept _ _).mpr ⟨show (1 : Fin 2) ∉ [(0 : Fin 2)] by decide, List.not_mem_nil⟩)]
      rfl
    show (rowDims n w a b wf).start (ix3 i j h) v (1 : Fin 2) + 0 + (rowDims n w a b wf).offCoord (ix3 i j h) (1 : Fin 2) = h.val
    rw [e, o]; omega

end Cert.Band

end
-- ==== Proof.SwaTiles.lean ====
/- The arrays the attention program prepares for its call, read at an index. -/
module

public import proofs.«01_k».proof.Proof.SwaSpec
public import proofs.«01_k».proof.Proof.SwaGather
public import proofs.«01_k».proof.Proof.Gen.SwaIdeal.Frame
public import Idealize.ShloMosaic.Lib.KernelVsHost
public import Idealize.ShloMosaic.Lib.IdealHost
public import Idealize.ShloMosaic.Lib.Claim
public import Idealize.ShloMosaic.Lib.StableHlo.Run
public import Idealize.ShloMosaic.Lib.StableHlo.RunRead

@[expose] public section

set_option maxRecDepth 16384

noncomputable section

namespace Cert.Band

open Idealize.ShloMosaic Idealize.ShloMosaic.TcCoe Idealize.SL.Sem
open Cert.SwaIdeal Cert.SwaIdeal.Gen
open Cert.Ffn (Mat)

/-- The distances of a band as a vector of 384 words, wrapped around at 256. -/
def lag : IVec S384 32 :=
  select (cmpi .slt (iotaInDim S384 32 0) (broadcastInDim S384 ![] bcast_S_S384 (constantI S_ 32 256#32)))
    (negi (iotaInDim S384 32 0)) (subi (broadcastInDim S384 ![] bcast_S_S384 (constantI S_ 32 384#32)) (iotaInDim S384 32 0))

/-- A word over the vector's place. -/
abbrev fill (w : BitVec 32) : IVec S1x384 32 := broadcastInDim S1x384 ![] bcast_S_S1x384 (constantI S_ 32 w)

/-- The distance from the first query of a block, plus the window. -/
def dist : IVec S1x384 32 :=
  addi (broadcastInDim S1x384 ![0, 1] bcast_S1x1_S1x384_0_1 (broadcastInDim S1x1 ![0] bcast_S1_S1x1_0 (constantI S1 32 128#32)))
    (broadcastInDim S1x384 ![1] bcast_S384_S1x384_1 lag)

/-- The distances' buckets. -/
def code (g : IVec S1x384 32) : IVec S1x384 32 :=
  select (cmpi .slt (maxsi g (fill 0#32)) (fill 16#32)) (maxsi g (fill 0#32))
    (minsi (addi (fill 16#32) (fptosi 32 (mulf (Host.divf (Host.log (Host.divf (sitofp (F := Ideal) .f32 (maxsi (maxsi g (fill 0#32)) (fill 1#32)))
      (broadcastInDim S1x384 ![] bcast_S_S1x384 (constant S_ .f32 0x41800000#32)))) (broadcastInDim S1x384 ![] bcast_S_S1x384 (constant S_ .f32 0x40051592#32)))
      (broadcastInDim S1x384 ![] bcast_S_S1x384 (constant S_ .f32 0x41800000#32))))) (fill 31#32))

/-- The bias of every distance and head. -/
def levels (g : IVec S1x384 32) (t : FVec Ideal S32x32 .f32) : FVec Ideal S1x384x32 .f32 :=
  Host.gather gather_S32x32_S1x384x1_S1x384x32_2_0_n_n_0_2_132 t
    (broadcastInDim S1x384x1 ![0, 1] bcast_S1x384_S1x384x1_0_1 (select (cmpi .slt (code g) (fill 0#32)) (addi (code g) (fill 32#32)) (code g)))

/-- The vector of biases laid out as a tile of rows, each shifted by one place against the one before. -/
def tiles (x : FVec Ideal S1x384x32 .f32) : FVec Ideal S32x128x256 .f32 :=
  shapeCast S32x128x256 (extractStridedSlice S1x32x128x256 ![0, 0, 0, 0] (shapeCast S1x32x128x383 (extractStridedSlice S1x32x49024 ![0, 0, 0]
    (shapeCast S1x32x49152 (broadcastInDim S1x1x1x32x128x384 ![0, 1, 2, 3, 4, 5] bcast_S1x1x1x32x1x384_S1x1x1x32x128x384_0_1_2_3_4_5
      (shapeCast S1x1x1x32x1x384 (transpose S1x32x384 [0, 2, 1] x transposes_S1x384x32_S1x32x384_0_2_1) shapeCasts_S1x32x384_S1x1x1x32x1x384))
      shapeCasts_S1x1x1x32x128x384_S1x32x49152) slices_S1x32x49152_S1x32x49024_0_0_0) shapeCasts_S1x32x49024_S1x32x128x383)
    slices_S1x32x128x383_S1x32x128x256_0_0_0_0) shapeCasts_S1x32x128x256_S32x128x256

/-- A key or value array with every head's lanes twice. -/
def twice (x : FVec Ideal S2x8192x4x64 .bf16) : FVec Ideal S16384x512 .bf16 :=
  shapeCast S16384x512 (concatenate S16384x4x128 2 [⟨S16384x4x64, shapeCast S16384x4x64 x shapeCasts_S2x8192x4x64_S16384x4x64⟩,
    ⟨S16384x4x64, shapeCast S16384x4x64 x shapeCasts_S2x8192x4x64_S16384x4x64⟩] concatenates_S16384x4x64_S16384x4x64_S16384x4x128_d2) shapeCasts_S16384x4x128_S16384x512

/-- The distance words of a band are the gaps: a query further on reads the vector one place earlier. -/
theorem dist_apply (p : Fin 128) (s : Fin 256) (j : Fin 384) (hv : j.val = (p.val * 383 + s.val) % 384) : dist (ix2 (0 : Fin 1) j) = gap p s := by
  have hp := p.isLt
  have hs := s.isLt
  have hj : (p.val ≤ s.val ∧ j.val = s.val - p.val) ∨ (s.val < p.val ∧ j.val = 384 + s.val - p.val) := by
    by_cases h : p.val ≤ s.val
    · refine Or.inl ⟨h, ?_⟩
      rw [hv, show p.val * 383 + s.val = 384 * p.val + (s.val - p.val) by omega, Nat.mul_add_mod, Nat.mod_eq_of_lt (by omega)]
    · refine Or.inr ⟨by omega, ?_⟩
      rw [hv, show p.val * 383 + s.val = 384 * (p.val - 1) + (384 + s.val - p.val) by omega, Nat.mul_add_mod, Nat.mod_eq_of_lt (by omega)]
  clear hv
  have e : ∀ n : ℕ, n < 400 → (BitVec.ofNat 32 n).toInt = n := fun n hn => by
    rw [BitVec.toInt_eq_toNat_bmod, BitVec.toNat_ofNat, Nat.mod_eq_of_lt (by omega), Int.bmod_def]; omega
  have bm : ∀ x : ℤ, -1000 ≤ x → x ≤ 1000 → x.bmod (2 ^ 32) = x := fun x h1 h2 => by rw [Int.bmod_def]; omega
  refine BitVec.eq_of_toInt_eq ?_
  rw [gap_toInt]
  unfold dist lag
  pointwise
  have hc : (IntOp.cmpi CmpIPredicate.slt (BitVec.ofNat 32 j.val) 256#32 = 1) ↔ j.val < 256 := by
    unfold IntOp.cmpi
    have b1 : ∀ b : Bool, BitVec.ofBool b = 1 ↔ b = true := by decide
    rw [b1, BitVec.slt_iff_toInt_lt, e j.val (by omega), show (256#32 : BitVec 32).toInt = 256 from rfl]; omega
  unfold Scalar.select
  unfold IntOp.addi IntOp.subi
  split
  · rename_i h
    have hlt := hc.mp h
    rw [BitVec.toInt_add, BitVec.toInt_neg, e j.val (by omega), show (128#32 : BitVec 32).toInt = 128 from rfl, bm (-(j.val : ℤ)) (by omega) (by omega), bm _ (by omega) (by omega)]
    omega
  · rename_i h
    have hlt : ¬ j.val < 256 := fun q => h (hc.mpr q)
    rw [BitVec.toInt_add, BitVec.toInt_sub, e j.val (by omega), show (128#32 : BitVec 32).toInt = 128 from rfl, show (384#32 : BitVec 32).toInt = 384 from rfl,
      bm (384 - (j.val : ℤ)) (by omega) (by omega), bm _ (by omega) (by omega)]
    omega

/-- A query of the flattened array. -/
theorem q_apply (x : FVec Ideal S2x8192x32x64 .bf16) (r : Fin 16384) (d : Fin 2048) :
    shapeCast S16384x2048 x shapeCasts_S2x8192x32x64_S16384x2048 (ix2 r d) = x (ix4 ⟨r.val / 8192, by omega⟩ ⟨r.val % 8192, by omega⟩ ⟨d.val / 64, by omega⟩ ⟨d.val % 64, by omega⟩) := by
  pointwise

/-- The flattened queries, as a whole. -/
theorem q_eq (x : FVec Ideal S2x8192x32x64 .bf16) : shapeCast S16384x2048 x shapeCasts_S2x8192x32x64_S16384x2048 = rows x := by
  funext y
  have e : y = ix2 (y 0) (y 1) := funext fun z => by match z with | ⟨0, _⟩ => rfl | ⟨1, _⟩ => rfl
  rw [e]
  exact q_apply x (y 0) (y 1)

/-- Either copy of a head's lanes reads the argument. -/
theorem twice_apply (x : FVec Ideal S2x8192x4x64 .bf16) (r : Fin 16384) (d : Fin 512) :
    twice x (ix2 r d) = x (ix4 ⟨r.val / 8192, by omega⟩ ⟨r.val % 8192, by omega⟩ ⟨d.val / 128, by omega⟩ ⟨d.val % 64, by omega⟩) := by
  unfold twice
  pointwise
  split
  · exact congrArg (fun z => x (ix4 _ _ _ z)) (Fin.ext (by dsimp only; omega))
  · exact congrArg (fun z => x (ix4 _ _ _ z)) (Fin.ext (by dsimp only; omega))

/-- The doubled lanes, as a whole. -/
theorem twice_eq (x : FVec Ideal S2x8192x4x64 .bf16) : twice x = pairs x := by
  funext y
  have e : y = ix2 (y 0) (y 1) := funext fun z => by match z with | ⟨0, _⟩ => rfl | ⟨1, _⟩ => rfl
  rw [e]
  exact twice_apply x (y 0) (y 1)

/-- A distance's bucket. -/
theorem code_apply (g : IVec S1x384 32) (j : Fin 384) : code g (ix2 (0 : Fin 1) j) = bucket (g (ix2 (0 : Fin 1) j)) := by
  unfold code bucket
  pointwise

/-- An entry of the bias stack. -/
theorem tiles_apply (x : FVec Ideal S1x384x32 .f32) (h : Fin 32) (p : Fin 128) (s : Fin 256) :
    tiles x (ix3 h p s) = x (ix3 (0 : Fin 1) ⟨(p.val * 383 + s.val) % 384, by omega⟩ h) := by
  unfold tiles
  pointwise

/-- The table read of the program is a read of rows. -/
theorem gather_rows : gather_S32x32_S1x384x1_S1x384x32_2_0_n_n_0_2_132 = rowDims 32 32 1 384 gather_S32x32_S1x384x1_S1x384x32_2_0_n_n_0_2_132_wf := rfl

/-- The row number of a bucket: a negative one counts from the end. -/
theorem row_apply (w : IVec S1x384 32) (j : Fin 384) :
    broadcastInDim S1x384x1 ![0, 1] bcast_S1x384_S1x384x1_0_1 (select (cmpi .slt w (fill 0#32)) (addi w (fill 32#32)) w) (ix3 (0 : Fin 1) j (0 : Fin 1))
      = Scalar.select (IntOp.cmpi .slt (w (ix2 (0 : Fin 1) j)) 0#32) (IntOp.addi (w (ix2 (0 : Fin 1) j)) 32#32) (w (ix2 (0 : Fin 1) j)) := by
  pointwise

/-- A distance's bias: the table's row for its bucket. -/
theorem levels_apply (g : IVec S1x384 32) (t : FVec Ideal S32x32 .f32) (j : Fin 384) (h : Fin 32) :
    levels g t (ix3 (0 : Fin 1) j h) = t (ix2 (slot (g (ix2 (0 : Fin 1) j))) h) := by
  unfold levels
  rw [gather_rows]
  refine (rows_apply (n := 32) (w := 32) (a := 1) (b := 384) (by decide) gather_S32x32_S1x384x1_S1x384x32_2_0_n_n_0_2_132_wf t _ (0 : Fin 1) j h).trans ?_
  have e : ∀ (r : Fin 32), r.val = (slot (g (ix2 (0 : Fin 1) j))).val → t (ix2 r h) = t (ix2 (slot (g (ix2 (0 : Fin 1) j))) h) :=
    fun r hr => by rw [Fin.ext hr]
  refine e _ ?_
  unfold slot
  dsimp only
  rw [row_apply, code_apply]

/-- The bias stack holds the bias of every head and gap. -/
theorem bias_apply (t : FVec Ideal S32x32 .f32) (h : Fin 32) (p : Fin 128) (s : Fin 256) :
    tiles (levels dist t) (ix3 h p s) = t (ix2 (slot (gap p s)) h) := by
  rw [tiles_apply, levels_apply, dist_apply p s _ rfl]

end Cert.Band

end
-- ==== Proof.SwaHost.lean ====
/- What the attention kernel's arrays hold when the call starts, in terms of the arguments. -/
module

public import proofs.«01_k».proof.Proof.SwaTiles
public import Idealize.ShloMosaic.Lib.Claim
public import Idealize.ShloMosaic.Lib.StableHlo.Run
public import Idealize.ShloMosaic.Lib.StableHlo.RunRead

@[expose] public section

set_option maxRecDepth 16384

noncomputable section

namespace Cert.Band

open Idealize.ShloMosaic Idealize.ShloMosaic.TcCoe Idealize.SL.Sem
open Cert.SwaIdeal Cert.SwaIdeal.Gen
open Cert.Ffn (Mat)

variable (m : (ℓ : Loc nD τ sig) → Buf (Elt Ideal) ℓ)

/-- The query array is the argument with heads flattened. -/
theorem V_q (c : Dev nD) : V m c main_v0 = shapeCast S16384x2048 (m ((c : Thread nD τ).loc main_arg0) : FVec Ideal S2x8192x32x64 .bf16) shapeCasts_S2x8192x32x64_S16384x2048 := by
  simp only [V, hostOps0, hostOps0_1, hostOps0_2, hostOps0_3, hostOps0_4, List.flatten_cons, List.flatten_nil, List.cons_append, List.nil_append]
  after_reads_simp
  rfl

/-- The key array is the argument with every head's lanes twice. -/
theorem V_k (c : Dev nD) : V m c main_v3 = twice (m ((c : Thread nD τ).loc main_arg1)) := by
  unfold twice
  simp only [V, hostOps0, hostOps0_1, hostOps0_2, hostOps0_3, hostOps0_4, List.flatten_cons, List.flatten_nil, List.cons_append, List.nil_append]
  after_reads_simp
  rfl

/-- The value array is the argument with every head's lanes twice. -/
theorem V_v (c : Dev nD) : V m c main_v6 = twice (m ((c : Thread nD τ).loc main_arg2)) := by
  unfold twice
  simp only [V, hostOps0, hostOps0_1, hostOps0_2, hostOps0_3, hostOps0_4, List.flatten_cons, List.flatten_nil, List.cons_append, List.nil_append]
  after_reads_simp
  rfl

set_option maxHeartbeats 4000000 in
/-- The bias stack is laid out from the biases of the distances. -/
theorem V_b (c : Dev nD) : V m c main_v52 = tiles (levels dist (m ((c : Thread nD τ).loc main_arg4))) := by
  unfold tiles levels code dist lag
  simp only [V, hostOps0, hostOps0_1, hostOps0_2, hostOps0_3, hostOps0_4, List.flatten_cons, List.flatten_nil, List.cons_append, List.nil_append]
  after_reads_simp
  rfl

end Cert.Band

end
-- ==== Proof.SwaRun.lean ====
/- The attention program's run ends with the attention's result. -/
module

public import proofs.«01_k».proof.Proof.SwaBlock
public import proofs.«01_k».proof.Proof.SwaHost

@[expose] public section

set_option maxRecDepth 16384

noncomputable section

namespace Cert.Band

open Idealize.ShloMosaic Idealize.ShloMosaic.TcCoe Idealize.SL.Sem
open Cert.SwaIdeal Cert.SwaIdeal.Gen

variable (m : (ℓ : Loc nD τ sig) → Buf (Elt Ideal) ℓ) (ρ : Dev nD → PrngReg)

/-- The call's result array ends as the attention of the arguments. -/
theorem value (c : Dev nD) : (dats m 0 c).arrAt 7 cfg0.N
    = attend (m ((c : Thread nD τ).loc main_arg0)) (m ((c : Thread nD τ).loc main_arg1)) (m ((c : Thread nD τ).loc main_arg2))
        (m ((c : Thread nD τ).loc main_arg3)) (m ((c : Thread nD τ).loc main_arg4)) :=
  final m c _ _ _ _ _ ((V_q m c).trans (q_eq _)) ((V_k m c).trans (twice_eq _)) ((V_v m c).trans (twice_eq _))
    (fun h p s => (congrFun (V_b m c) (ix3 h p s)).trans (bias_apply _ h p s)) (V_main_arg3 m c)

/-- The program runs, its result the attention and its arguments unchanged. -/
theorem run : θ_run defs (onTc (τ := τ) (main (F := Ideal))) ⟨m, fun _ => 0, ρ⟩ (fun r => ∀ c : Dev nD,
      r.2.mem ((c.tc : Thread nD τ).loc main_v53)
        = attend (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 7).trans (value m c), h.2 c⟩) (θ_run_and (run_main m ρ) (unchanged m ρ))

end Cert.Band

end
-- ==== Proof.SwaRef.lean ====
/- The attention's reference read at an index. -/
module

public import proofs.«01_k».proof.Proof.SwaHead
public import proofs.«01_k».proof.Proof.SwaGather
public import proofs.«01_k».proof.Proof.Gen.SwaReferenceIdeal
public import proofs.«01_k».proof.Proof.Gen.SwaReferenceIdeal.Run
public import proofs.«01_k».proof.Proof.Gen.SwaReferenceIdeal.Read
public import Idealize.ShloMosaic.Lib.KernelVsHost
public import Idealize.ShloMosaic.Lib.IdealHost

@[expose] public section

set_option maxRecDepth 16384

noncomputable section

namespace Cert.Band.Ref

open Idealize.ShloMosaic
open Cert.SwaReferenceIdeal Cert.SwaReferenceIdeal.Gen Cert.SwaReferenceIdeal.Read Cert.Band
open Cert.Ffn (Mat)
open scoped BigOperators

/-- A key array cut into blocks. -/
theorem blocks_apply (a : Quad 2 8192 4 64) (b : Fin 2) (i : Fin 64) (p : Fin 128) (g : Fin 4) (d : Fin 64) :
    val_main_v4 (F := Ideal) a (ix5 b i p g d) = a (ix4 b ⟨128 * i.val + p.val, by omega⟩ g d) := by
  unfold val_main_v4 val_main_v1
  pointwise
  exact congrArg (fun r : Fin 8192 => a (ix4 b r g d)) (Fin.ext (by show i.val * 128 + p.val = 128 * i.val + p.val; omega))

/-- The blocks with an empty one before the first. -/
theorem padded_apply (a : Quad 2 8192 4 64) (b : Fin 2) (i : Fin 65) (p : Fin 128) (g : Fin 4) (d : Fin 64) :
    val_main_v5 (F := Ideal) a (ix5 b i p g d) = if h : 1 ≤ i.val then val_main_v4 (F := Ideal) a (ix5 b ⟨i.val - 1, by omega⟩ p g d) else 0 := by
  unfold val_main_v5
  split
  · refine pad_apply_of_inside _ _ _ _ _ _ _ _ (ix5 b ⟨i.val - 1, by omega⟩ p g d) (fun z => ?_)
    match z with
    | ⟨0, _⟩ => show b.val = 0 + b.val * 1; omega
    | ⟨1, _⟩ => show i.val = 1 + (i.val - 1) * 1; omega
    | ⟨2, _⟩ => show p.val = 0 + p.val * 1; omega
    | ⟨3, _⟩ => show g.val = 0 + g.val * 1; omega
    | ⟨4, _⟩ => show d.val = 0 + d.val * 1; omega
  · refine (pad_apply_of_not_inside _ _ _ _ _ _ _ _ ⟨1, by decide⟩ (fun hc => ?_)).trans ?_
    · have : 1 ≤ i.val := hc.1
      omega
    · unfold val_main_call0_v0 val_main_c
      pointwise
      show ((((0#32 : BitVec 32).toInt : ℤ) : ℝ) : EReal) = 0
      simp

/-- The band of keys: the previous block and then the block itself. -/
theorem band_apply (a : Quad 2 8192 4 64) (b : Fin 2) (i : Fin 64) (s : Fin 256) (g : Fin 4) (d : Fin 64) :
    val_main_v7 (F := Ideal) a (ix5 b i s g d) = band a b i s g d := by
  have e : ∀ r r' : Fin 8192, r.val = r'.val → a (ix4 b r g d) = a (ix4 b r' g d) := fun r r' h => by rw [Fin.ext h]
  unfold val_main_v7 val_main_v6 band
  have h5 := padded_apply a b
  have h4 := blocks_apply a b
  generalize val_main_v5 (F := Ideal) a = y at h5
  generalize val_main_v4 (F := Ideal) a = z at h4 h5
  pointwise
  by_cases h : s.val < 128
  · rw [dif_pos h, h5]
    by_cases h' : 1 ≤ i.val
    · rw [dif_pos h', dif_pos (by omega), h4]
      exact e _ _ (by show 128 * (i.val - 1) + s.val = 128 * i.val + s.val - 128; omega)
    · rw [dif_neg h', dif_neg (by omega)]
  · rw [dif_neg h, dif_pos (by omega), h4]
    exact e _ _ (by show 128 * i.val + (s.val - 128) = 128 * i.val + s.val - 128; omega)

/-- The distance word. -/
theorem gap_apply (p : Fin 128) (s : Fin 256) : val_main_v24 (F := Ideal) (ix2 p s) = gap p s := by
  unfold val_main_v24 val_main_v23 val_main_v22 val_main_v21 val_main_v20 val_main_v19 val_main_c_1 val_main_v18 val_main_v17 val_main_v16 gap
  pointwise

/-- The row word of the bias table. -/
theorem word_apply (p : Fin 128) (s : Fin 256) :
    val_main_v69 (F := Ideal) (ix2 p s) = Scalar.select (IntOp.cmpi .slt (bucket (gap p s)) 0#32) (IntOp.addi (bucket (gap p s)) 32#32) (bucket (gap p s)) := by
  have hg := gap_apply p s
  unfold val_main_v69 val_main_v68 val_main_v67 val_main_c_15 val_main_v66 val_main_v65 val_main_c_14 val_main_v64 val_main_v63 val_main_v62 val_main_c_13 val_main_v61 val_main_v60 val_main_c_12 val_main_v59 val_main_v58 val_main_c_11 val_main_v57 val_main_v56 val_main_v55 val_main_cst_10 val_main_v54 val_main_v53 val_main_cst_9 val_main_v52 val_main_v51 val_main_v50 val_main_cst_8 val_main_v49 val_main_v48 val_main_v47 val_main_c_7 val_main_v46 val_main_v45 val_main_c_6
  generalize val_main_v24 (F := Ideal) = g at hg ⊢
  pointwise
  rw [hg]
  rfl

/-- The reference's row reading is the plain one. -/
theorem gather_rows : gather_S32x32_S128x256x1_S128x256x32_2_0_n_n_0_2_132 = rowDims 32 32 128 256 gather_S32x32_S128x256x1_S128x256x32_2_0_n_n_0_2_132_wf := rfl

/-- The bias of a gap. -/
theorem level_apply (t : Mat 32 32) (p : Fin 128) (s : Fin 256) (h : Fin 32) :
    val_main_v71 (F := Ideal) t (ix3 p s h) = t (ix2 (slot (gap p s)) h) := by
  have hw : val_main_v70 (F := Ideal) (ix3 p s (0 : Fin 1)) = val_main_v69 (F := Ideal) (ix2 p s) := by
    unfold val_main_v70
    generalize val_main_v69 (F := Ideal) = y
    pointwise
  rw [word_apply] at hw
  unfold val_main_v71
  generalize val_main_v70 (F := Ideal) = v at hw ⊢
  rw [gather_rows, rows_apply (by decide)]
  have e : ∀ r r' : Fin 32, r.val = r'.val → t (ix2 r h) = t (ix2 r' h) := fun r r' hr => by rw [Fin.ext hr]
  refine e _ _ ?_
  unfold slot
  dsimp only
  rw [hw]

/-- The key word of the band. -/
theorem key_apply (s : Fin 256) : val_main_v17 (F := Ideal) (ix1 s) = BitVec.ofNat 32 s.val := by
  unfold val_main_v17
  pointwise

/-- The mask's bit. -/
theorem seen_apply (i : Fin 64) (p : Fin 128) (s : Fin 256) : val_main_v44 (F := Ideal) (ix3 i p s) = 1 ↔ seen i p s := by
  have hs := s.isLt
  have hi := i.isLt
  have hg := gap_toInt p s
  have e : ∀ n : ℕ, n < 256 → (BitVec.ofNat 32 n).toInt = n := fun n hn => by
    rw [BitVec.toInt_eq_toNat_bmod, BitVec.toNat_ofNat, Nat.mod_eq_of_lt (by omega), Int.bmod_def]; omega
  have hv := gap_apply p s
  have hk := key_apply s
  unfold val_main_v44 val_main_v43 val_main_v42 val_main_v41 val_main_v40 val_main_v39 val_main_v38 val_main_v37 val_main_v36 val_main_v35 val_main_c_5 val_main_v34 val_main_v33 val_main_v32 val_main_c_4 val_main_v31 val_main_v30 val_main_v29 val_main_v28 val_main_v27 val_main_c_3 val_main_v26 val_main_v25 val_main_c_2
  generalize val_main_v24 (F := Ideal) = g at hv ⊢
  generalize val_main_v17 (F := Ideal) = g1 at hk ⊢
  pointwise
  rw [hv, hk]
  generalize gap p s = w at hg ⊢
  have both : ∀ x y : BitVec 1, IntOp.andi x y = 1 ↔ (x = 1 ∧ y = 1) := by decide
  have some : ∀ x y : BitVec 1, IntOp.ori x y = 1 ↔ (x = 1 ∨ y = 1) := by decide
  rw [both, both, some]
  unfold IntOp.cmpi seen
  simp only [ofBool_one, BitVec.sle_iff_toInt_le, BitVec.slt_iff_toInt_lt, hg, e s.val hs, e i.val (by omega),
    show (128#32 : BitVec 32).toInt = 128 from rfl, show (0#32 : BitVec 32).toInt = 0 from rfl]
  omega

/-- The dot products of the queries with the band of keys. -/
theorem dots_apply (q : Quad 2 8192 32 64) (k : Quad 2 8192 4 64) (b : Fin 2) (i : Fin 64) (h : Fin 32) (p : Fin 128) (s : Fin 256) :
    val_main_v12 (F := Ideal) q k (ix6 b i ⟨h.val / 8, by omega⟩ s p ⟨h.val % 8, by omega⟩)
      = ∑ d : Fin 64, q (ix4 b ⟨128 * i.val + p.val, by omega⟩ h d) * band k b i s ⟨h.val / 8, by omega⟩ d := by
  rw [val_main_v12_apply]
  refine Finset.sum_congr rfl fun d _ => ?_
  rw [mul_comm]
  refine congrArg₂ (· * ·) ?_ ?_
  · refine Eq.trans (congrArg (val_main_v3 (F := Ideal) q) (a₂ := ix6 b i p ⟨h.val / 8, by omega⟩ ⟨h.val % 8, by omega⟩ d) (funext fun z => by match z with | ⟨0, _⟩ => rfl | ⟨1, _⟩ => rfl | ⟨2, _⟩ => rfl | ⟨3, _⟩ => rfl | ⟨4, _⟩ => rfl | ⟨5, _⟩ => rfl)) ?_
    unfold val_main_v3 val_main_v0
    pointwise
    exact congrArg (fun r : Fin 8192 => q (ix4 b r h d)) (Fin.ext (by show i.val * 128 + p.val = 128 * i.val + p.val; omega))
  · exact Eq.trans (congrArg (val_main_v7 (F := Ideal) k) (funext fun z => by match z with | ⟨0, _⟩ => rfl | ⟨1, _⟩ => rfl | ⟨2, _⟩ => rfl | ⟨3, _⟩ => rfl | ⟨4, _⟩ => rfl)) (band_apply k b i s _ d)

/-- The masked logits. -/
theorem logit_apply (q : Quad 2 8192 32 64) (k : Quad 2 8192 4 64) (t : Mat 32 32) (b : Fin 2) (i : Fin 64) (h : Fin 32) (p : Fin 128) (s : Fin 256) :
    val_main_v78 (F := Ideal) q k t (ix6 b i ⟨h.val / 8, by omega⟩ ⟨h.val % 8, by omega⟩ p s) = logit q k t b i p h s := by
  have hd := dots_apply q k b i h p s
  have hl := level_apply t p s h
  have hm := seen_apply i p s
  unfold val_main_v78 val_main_call3_v1 val_main_call3_v2 val_main_call3_v0 val_main_cst_16 val_main_v77 val_main_v76 val_main_v75 val_main_v74 val_main_v73 val_main_v72 val_main_v15 val_main_v14 val_main_cst val_main_v13
  generalize val_main_v12 (F := Ideal) q k = y at hd ⊢
  generalize val_main_v71 (F := Ideal) t = z at hl ⊢
  generalize val_main_v44 (F := Ideal) = m at hm ⊢
  pointwise
  unfold Scalar.select logit
  rw [hd, hl]
  simp only [hm]
  rw [← ninf]
  rfl

/-- The last axis is the one a row runs along. -/
theorem along : Shape.Reduces S2x64x4x8x128x256 [5] S2x64x4x8x128 := by decide

/-- The maximum over the entries of a row is the one over its coordinates. -/
theorem fold_row (y : S2x64x4x8x128x256.Idx → EReal) (c : EReal) (j : S2x64x4x8x128.Idx) :
    (Finset.univ.filter fun i => reducesTo_S2x64x4x8x128x256_S2x64x4x8x128_d5.drop i = j).fold max c y
      = (Finset.univ : Finset (Fin 256)).fold max c fun s => y (along.lift j s) := by
  rw [Shape.ReducesTo.drop_eq_drop reducesTo_S2x64x4x8x128x256_S2x64x4x8x128_d5 along]
  exact along.fold_filter_drop_single max c y j

/-- The largest logit of a row. -/
theorem top_apply (q : Quad 2 8192 32 64) (k : Quad 2 8192 4 64) (t : Mat 32 32) (b : Fin 2) (i : Fin 64) (h : Fin 32) (p : Fin 128) :
    val_main_v80 (F := Ideal) q k t (ix5 b i ⟨h.val / 8, by omega⟩ ⟨h.val % 8, by omega⟩ p)
      = Finset.univ.fold max (Ideal.ofBits .f32 0xFF800000#32) (logit q k t b i p h) := by
  have hl := logit_apply q k t b i h p
  unfold val_main_v80 val_main_cst_17
  generalize val_main_v78 (F := Ideal) q k t = y at hl ⊢
  pointwise
  rw [fold_row]
  refine Finset.fold_congr fun s _ => ?_
  exact (congrArg y (funext fun a => Fin.ext (by match a with | ⟨0, _⟩ => rfl | ⟨1, _⟩ => rfl | ⟨2, _⟩ => rfl | ⟨3, _⟩ => rfl | ⟨4, _⟩ => rfl | ⟨5, _⟩ => rfl))).trans (hl s)

/-- The sinks as a block. -/
theorem sinks_apply (S : Row 32) (h : Fin 32) :
    val_main_v79 (F := Ideal) S (ix6 (0 : Fin 1) (0 : Fin 1) ⟨h.val / 8, by omega⟩ ⟨h.val % 8, by omega⟩ (0 : Fin 1) (0 : Fin 1)) = S (ix1 h) := by
  unfold val_main_v79
  pointwise

/-- The sink beside a row. -/
theorem sink_apply (S : Row 32) (b : Fin 2) (i : Fin 64) (h : Fin 32) (p : Fin 128) :
    val_main_v82 (F := Ideal) S (ix6 b i ⟨h.val / 8, by omega⟩ ⟨h.val % 8, by omega⟩ p (0 : Fin 1)) = S (ix1 h) := by
  have hs := sinks_apply S h
  unfold val_main_v82
  generalize val_main_v79 (F := Ideal) S = y at hs ⊢
  pointwise
  exact hs

/-- The row maxima with a unit axis. -/
theorem column_apply (q : Quad 2 8192 32 64) (k : Quad 2 8192 4 64) (t : Mat 32 32) (b : Fin 2) (i : Fin 64) (g : Fin 4) (r : Fin 8) (p : Fin 128) :
    val_main_v81 (F := Ideal) q k t (ix6 b i g r p (0 : Fin 1)) = val_main_v80 (F := Ideal) q k t (ix5 b i g r p) := by
  unfold val_main_v81
  generalize val_main_v80 (F := Ideal) q k t = y
  pointwise

/-- The maximum of two arrays at an index. -/
theorem max_apply (y z : FVec Ideal S2x64x4x8x128x1 .f32) (j : S2x64x4x8x128x1.Idx) : maximumf y z j = max (y j) (z j) := rfl

/-- The maximum of a row's largest logit and its sink, whatever they are. -/
theorem larger_apply (q : Quad 2 8192 32 64) (k : Quad 2 8192 4 64) (S : Row 32) (t : Mat 32 32) (j : S2x64x4x8x128x1.Idx) (A B : EReal)
    (hA : val_main_v81 (F := Ideal) q k t j = A) (hB : val_main_v82 (F := Ideal) S j = B) :
    val_main_v83 (F := Ideal) q k S t j = max A B := by
  unfold val_main_v83
  rw [max_apply, hA, hB]

/-- The largest of the logits and the sink. -/
theorem peak_apply (q : Quad 2 8192 32 64) (k : Quad 2 8192 4 64) (S : Row 32) (t : Mat 32 32) (b : Fin 2) (i : Fin 64) (h : Fin 32) (p : Fin 128) :
    val_main_v83 (F := Ideal) q k S t (ix6 b i ⟨h.val / 8, by omega⟩ ⟨h.val % 8, by omega⟩ p (0 : Fin 1)) = peak (logit q k t b i p h) (S (ix1 h)) := by
  have hs := sink_apply S b i h p
  have ht := (column_apply q k t b i _ _ p).trans (top_apply q k t b i h p)
  unfold peak
  exact larger_apply q k S t _ _ _ ht hs

/-- The exponentials of a row. -/
theorem exp_apply (q : Quad 2 8192 32 64) (k : Quad 2 8192 4 64) (S : Row 32) (t : Mat 32 32) (b : Fin 2) (i : Fin 64) (h : Fin 32) (p : Fin 128) (s : Fin 256) :
    val_main_v86 (F := Ideal) q k S t (ix6 b i ⟨h.val / 8, by omega⟩ ⟨h.val % 8, by omega⟩ p s)
      = Ideal.exp (logit q k t b i p h s - peak (logit q k t b i p h) (S (ix1 h))) := by
  have hp := peak_apply q k S t b i h p
  have hl := logit_apply q k t b i h p s
  unfold val_main_v86 val_main_v85 val_main_v84
  generalize val_main_v83 (F := Ideal) q k S t = y at hp ⊢
  generalize val_main_v78 (F := Ideal) q k t = z at hl ⊢
  pointwise
  rw [hl]
  exact congrArg (fun u => Ideal.exp (_ - u)) hp

/-- The sum of a row's exponentials. -/
theorem sum_apply (q : Quad 2 8192 32 64) (k : Quad 2 8192 4 64) (S : Row 32) (t : Mat 32 32) (b : Fin 2) (i : Fin 64) (h : Fin 32) (p : Fin 128) :
    val_main_v87 (F := Ideal) q k S t (ix5 b i ⟨h.val / 8, by omega⟩ ⟨h.val % 8, by omega⟩ p)
      = ∑ s : Fin 256, Ideal.exp (logit q k t b i p h s - peak (logit q k t b i p h) (S (ix1 h))) := by
  rw [val_main_v87_apply]
  have hz : val_main_cst_18 (F := Ideal) (Shape.Idx.first h_S_) = (0 : EReal) := by
    show Ideal.ofBits .f32 0x00000000#32 = 0
    simp [Ideal.ofBits, Ideal.ieee]
  rw [hz, zero_add]
  refine Finset.sum_congr rfl fun s _ => ?_
  exact (congrArg (val_main_v86 (F := Ideal) q k S t) (funext fun a => by match a with | ⟨0, _⟩ => rfl | ⟨1, _⟩ => rfl | ⟨2, _⟩ => rfl | ⟨3, _⟩ => rfl | ⟨4, _⟩ => rfl | ⟨5, _⟩ => rfl)).trans (exp_apply q k S t b i h p s)

/-- The probabilities. -/
theorem prob_apply (q : Quad 2 8192 32 64) (k : Quad 2 8192 4 64) (S : Row 32) (t : Mat 32 32) (b : Fin 2) (i : Fin 64) (h : Fin 32) (p : Fin 128) (s : Fin 256) :
    val_main_v94 (F := Ideal) q k S t (ix6 b i ⟨h.val / 8, by omega⟩ ⟨h.val % 8, by omega⟩ p s)
      = Ideal.div (Ideal.exp (logit q k t b i p h s - peak (logit q k t b i p h) (S (ix1 h)))) (mass (logit q k t b i p h) (S (ix1 h))) := by
  have hp := peak_apply q k S t b i h p
  have he := exp_apply q k S t b i h p s
  have hs := sum_apply q k S t b i h p
  unfold val_main_v94 val_main_v93 val_main_v92 val_main_v91 val_main_v90 val_main_v89 val_main_v88 val_main_v79 mass
  generalize val_main_v86 (F := Ideal) q k S t = y at he ⊢
  generalize val_main_v83 (F := Ideal) q k S t = z at hp ⊢
  generalize val_main_v87 (F := Ideal) q k S t = w at hs ⊢
  pointwise
  rw [he, hs]
  exact congrArg (fun u => Ideal.div _ (_ + Ideal.exp (_ - u))) hp

/-- One entry of the result. -/
theorem entry_apply (q : Quad 2 8192 32 64) (k v : Quad 2 8192 4 64) (S : Row 32) (t : Mat 32 32) (b : Fin 2) (i : Fin 64) (h : Fin 32) (p : Fin 128) (d : Fin 64) :
    val_main_v95 (F := Ideal) q k v S t (ix6 b i ⟨h.val / 8, by omega⟩ d ⟨h.val % 8, by omega⟩ p) = entry q k v S t b i p h d := by
  rw [val_main_v95_apply]
  unfold entry soft
  refine Finset.sum_congr rfl fun s _ => ?_
  rw [mul_comm]
  refine congrArg₂ (· * ·) ?_ ?_
  · exact (congrArg (val_main_v94 (F := Ideal) q k S t) (funext fun z => by match z with | ⟨0, _⟩ => rfl | ⟨1, _⟩ => rfl | ⟨2, _⟩ => rfl | ⟨3, _⟩ => rfl | ⟨4, _⟩ => rfl | ⟨5, _⟩ => rfl)).trans (prob_apply q k S t b i h p s)
  · exact (congrArg (val_main_v7 (F := Ideal) v) (funext fun z => by match z with | ⟨0, _⟩ => rfl | ⟨1, _⟩ => rfl | ⟨2, _⟩ => rfl | ⟨3, _⟩ => rfl | ⟨4, _⟩ => rfl)).trans (band_apply v b i s _ d)

/-- The reference's result is the attention. -/
theorem res_apply (q : Quad 2 8192 32 64) (k v : Quad 2 8192 4 64) (S : Row 32) (t : Mat 32 32) (r : Fin 16384) (c : Fin 2048) :
    val_main_v99 (F := Ideal) q k v S t (ix2 r c) = attend q k v S t (ix2 r c) := by
  have he := entry_apply q k v S t ⟨r.val / 8192, by omega⟩ ⟨r.val / 128 % 64, by omega⟩ ⟨c.val / 64, by omega⟩ ⟨r.val % 128, by omega⟩ ⟨c.val % 64, by omega⟩
  unfold val_main_v99 val_main_v98 val_main_v97 val_main_v96
  generalize val_main_v95 (F := Ideal) q k v S t = y at he ⊢
  pointwise
  exact (congrArg (fun u : Fin 4 => y (ix6 _ _ u _ _ _)) (Fin.ext (by show c.val / 512 = c.val / 64 / 8; omega))).trans he

/-- The reference's result, as a whole. -/
theorem res_eq (q : Quad 2 8192 32 64) (k v : Quad 2 8192 4 64) (S : Row 32) (t : Mat 32 32) :
    val_main_v99 (F := Ideal) q k v S t = attend q k v S t := by
  funext y
  have e : y = ix2 (y 0) (y 1) := funext fun z => by match z with | ⟨0, _⟩ => rfl | ⟨1, _⟩ => rfl
  rw [e]
  exact res_apply q k v S t (y 0) (y 1)

end Cert.Band.Ref

end
-- ==== Proof.OutRun.lean ====
/- The output projection of a layer's two attention branches onto the residual stream: what its one call leaves. -/
module

public import proofs.«01_k».proof.Proof.GateUp
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame

@[expose] public section

set_option maxRecDepth 16384

noncomputable section

namespace Cert.Merge

open Idealize.ShloMosaic Idealize.ShloMosaic.TcCoe Idealize.SL.Sem
open Cert.OutIdeal Cert.OutIdeal.Gen
open Cert.Ffn (Mat)
open scoped BigOperators

/-- Row `r` of the two branches side by side against column `d` of the output weights, onto the residual stream. -/
def merge (A B : Mat 16384 2048) (D : Mat 4096 4096) (X : Mat 16384 4096) (r : Fin 16384) (d : Fin 4096) : EReal :=
  ((∑ f : Fin 2048, A (ix2 r f) * D (ix2 (Fin.castAdd 2048 f) d)) + ∑ f : Fin 2048, B (ix2 r f) * D (ix2 (Fin.natAdd 2048 f) d)) + X (ix2 r d)

variable (m : (ℓ : Loc nD τ sig) → Buf (Elt Ideal) ℓ) (ρ : Dev nD → PrngReg)

/-- Where each window's block sits at grid point `t`: row block `t / 4`, column block `t % 4`, the weights' upper and lower halves. -/
theorem index_at : ∀ t : Fin cfg0.N,
    (win0_0.index t 0 = t.val / 4 ∧ win0_0.index t 1 = 0)
    ∧ (win0_1.index t 0 = 0 ∧ win0_1.index t 1 = t.val % 4)
    ∧ (win0_2.index t 0 = t.val / 4 ∧ win0_2.index t 1 = 0)
    ∧ (win0_3.index t 0 = 1 ∧ win0_3.index t 1 = t.val % 4)
    ∧ (win0_4.index t 0 = t.val / 4 ∧ win0_4.index t 1 = t.val % 4)
    ∧ (win0_5.index t 0 = t.val / 4 ∧ win0_5.index t 1 = t.val % 4) := by
  decide +kernel

/-- The first branch's block: rows `1024 · (t / 4)` on. -/
theorem blk_one (c : Dev nD) (t : Fin cfg0.N) (p : Fin 1024) (f : Fin 2048) (r : Fin 16384) (h : r.val = 1024 * (t.val / 4) + p.val) :
    iblk m c 0 t (ix2 p f) = V m c main_arg0 (ix2 r f) := by
  refine congrArg (V m c main_arg0 : Mat 16384 2048) (funext fun a => Fin.ext ?_)
  obtain ⟨e0, e1⟩ := (index_at t).1
  match a with
  | ⟨0, _⟩ =>
    show win0_0.index t 0 * 1024 + 1 * p.val = r.val
    rw [e0]; omega
  | ⟨1, _⟩ =>
    show win0_0.index t 1 * 2048 + 1 * f.val = f.val
    rw [e1]; omega

/-- The upper weights' block: columns `1024 · (t % 4)` on. -/
theorem blk_up (c : Dev nD) (t : Fin cfg0.N) (f : Fin 2048) (q : Fin 1024) (d : Fin 4096) (h : d.val = 1024 * (t.val % 4) + q.val) :
    iblk m c 1 t (ix2 f q) = V m c main_v0 (ix2 (Fin.castAdd 2048 f) d) := by
  refine congrArg (V m c main_v0 : Mat 4096 4096) (funext fun a => Fin.ext ?_)
  obtain ⟨e0, e1⟩ := (index_at t).2.1
  match a with
  | ⟨0, _⟩ =>
    show win0_1.index t 0 * 2048 + 1 * f.val = f.val
    rw [e0]; omega
  | ⟨1, _⟩ =>
    show win0_1.index t 1 * 1024 + 1 * q.val = d.val
    rw [e1]; omega

/-- The second branch's block: rows `1024 · (t / 4)` on. -/
theorem blk_two (c : Dev nD) (t : Fin cfg0.N) (p : Fin 1024) (f : Fin 2048) (r : Fin 16384) (h : r.val = 1024 * (t.val / 4) + p.val) :
    iblk m c 2 t (ix2 p f) = V m c main_arg1 (ix2 r f) := by
  refine congrArg (V m c main_arg1 : Mat 16384 2048) (funext fun a => Fin.ext ?_)
  obtain ⟨e0, e1⟩ := (index_at t).2.2.1
  match a with
  | ⟨0, _⟩ =>
    show win0_2.index t 0 * 1024 + 1 * p.val = r.val
    rw [e0]; omega
  | ⟨1, _⟩ =>
    show win0_2.index t 1 * 2048 + 1 * f.val = f.val
    rw [e1]; omega

/-- The lower weights' block: rows 2048 on, columns `1024 · (t % 4)` on. -/
theorem blk_low (c : Dev nD) (t : Fin cfg0.N) (f : Fin 2048) (q : Fin 1024) (d : Fin 4096) (h : d.val = 1024 * (t.val % 4) + q.val) :
    iblk m c 3 t (ix2 f q) = V m c main_v0 (ix2 (Fin.natAdd 2048 f) d) := by
  refine congrArg (V m c main_v0 : Mat 4096 4096) (funext fun a => Fin.ext ?_)
  obtain ⟨e0, e1⟩ := (index_at t).2.2.2.1
  match a with
  | ⟨0, _⟩ =>
    show win0_3.index t 0 * 2048 + 1 * f.val = 2048 + f.val
    rw [e0]; omega
  | ⟨1, _⟩ =>
    show win0_3.index t 1 * 1024 + 1 * q.val = d.val
    rw [e1]; omega

/-- The residual's block. -/
theorem blk_res (c : Dev nD) (t : Fin cfg0.N) (p q : Fin 1024) (r : Fin 16384) (d : Fin 4096)
    (hr : r.val = 1024 * (t.val / 4) + p.val) (hd : d.val = 1024 * (t.val % 4) + q.val) :
    iblk m c 4 t (ix2 p q) = V m c main_arg3 (ix2 r d) := by
  refine congrArg (V m c main_arg3 : Mat 16384 4096) (funext fun a => Fin.ext ?_)
  obtain ⟨e0, e1⟩ := (index_at t).2.2.2.2.1
  match a with
  | ⟨0, _⟩ =>
    show win0_4.index t 0 * 1024 + 1 * p.val = r.val
    rw [e0]; omega
  | ⟨1, _⟩ =>
    show win0_4.index t 1 * 1024 + 1 * q.val = d.val
    rw [e1]; omega

/-- One entry of the body's two products onto the residual. -/
theorem pay1_apply (a : Vec Ideal S1024x2048 .bf16) (w : Vec Ideal S2048x1024 .bf16) (a' : Vec Ideal S1024x2048 .bf16) (w' : Vec Ideal S2048x1024 .bf16)
    (x : Vec Ideal S1024x1024 .f32) (p q : Fin 1024) :
    k0_pay1 (F := Ideal) a w a' w' x (ix2 p q)
      = ((∑ f : Fin 2048, a (ix2 p f) * w (ix2 f q)) + ∑ f : Fin 2048, a' (ix2 p f) * w' (ix2 f q)) + x (ix2 p q) := by
  unfold k0_pay1
  pointwise

/-- The output projection from its four argument arrays. -/
def merged (A B : Mat 16384 2048) (D : Mat 4096 4096) (X : Mat 16384 4096) : Mat 16384 4096 := fun y => merge A B D X (y 0) (y 1)

/-- One entry of the block the body writes is the result at its row and column. -/
theorem out_apply (c : Dev nD) (t : Fin cfg0.N) (p q : Fin 1024) (r : Fin 16384) (d : Fin 4096)
    (hr : r.val = 1024 * (t.val / 4) + p.val) (hd : d.val = 1024 * (t.val % 4) + q.val) :
    out0_5 (iblk m c 0 t) (iblk m c 1 t) (iblk m c 2 t) (iblk m c 3 t) (iblk m c 4 t) (ix2 p q)
      = merge (V m c main_arg0) (V m c main_arg1) (V m c main_v0) (V m c main_arg3) r d := by
  unfold out0_5
  rw [View.canon_unit_zero Ffn.GateUp.hz2, View.ld_unit_zero Ffn.GateUp.hz2, View.ld_unit_zero Ffn.GateUp.hz2, View.ld_unit_zero Ffn.GateUp.hz2,
    View.ld_unit_zero Ffn.GateUp.hz2, View.ld_unit_zero Ffn.GateUp.hz2, pay1_apply, blk_res m c t p q r d hr hd]
  unfold merge
  refine congrArg (· + _) (congrArg₂ (· + ·) (Finset.sum_congr rfl fun f _ => ?_) (Finset.sum_congr rfl fun f _ => ?_))
  · rw [blk_one m c t p f r hr, blk_up m c t f q d hd]
  · rw [blk_two m c t p f r hr, blk_low m c t f q d hd]

/-- What point `t` writes back is its block of the result array. -/
theorem flushed_eq (c : Dev nD) (A B : Mat 16384 2048) (D : Mat 4096 4096) (X : Mat 16384 4096)
    (hA : V m c main_arg0 = A) (hB : V m c main_arg1 = B) (hD : V m c main_v0 = D) (hX : V m c main_arg3 = X) (t : Fin cfg0.N) :
    (dats m 0 c).flushed 5 t = (win0_5.blk t).view.read (Elt Ideal) (merged A B D X) := by
  show (cfg0.win 5).cut (grid0.coords t) ((dats m 0 c).after 5 t) = _
  rw [after0_5]
  funext y
  have hN : cfg0.N = 64 := N_0
  have ht := t.isLt
  obtain ⟨e0, e1⟩ := (index_at t).2.2.2.2.2
  have h0 : (y 0).val < 1024 := (y 0).isLt
  have h1 : (y 1).val < 1024 := (y 1).isLt
  have key := out_apply m c t (y 0) (y 1) ⟨1024 * (t.val / 4) + (y 0).val, by omega⟩ ⟨1024 * (t.val % 4) + (y 1).val, by omega⟩ rfl rfl
  rw [hA, hB, hD, hX] at key
  refine Eq.trans (congrArg (out0_5 (iblk m c 0 t) (iblk m c 1 t) (iblk m c 2 t) (iblk m c 3 t) (iblk m c 4 t)) (funext fun a => by match a with | ⟨0, _⟩ => rfl | ⟨1, _⟩ => rfl)) (key.trans ?_)
  refine congrArg₂ (merge A B D X) ?_ ?_
  · exact Fin.ext (by show _ = win0_5.index t 0 * 1024 + 1 * (y 0).val; rw [e0]; dsimp only; omega)
  · exact Fin.ext (by show _ = win0_5.index t 1 * 1024 + 1 * (y 1).val; rw [e1]; dsimp only; omega)

/-- Every entry of the result array lies in some point's block. -/
theorem cover (i : S16384x4096.Idx) : ∃ t : Fin cfg0.N, (cfg0.win 5).flush t = true ∧ i ∈ ((cfg0.win 5).blk t).view.set := by
  have h0 : (i 0).val < 16384 := (i 0).isLt
  have h1 : (i 1).val < 4096 := (i 1).isLt
  have hN : cfg0.N = 64 := N_0
  obtain ⟨t, ht⟩ : ∃ t : Fin cfg0.N, t.val = (i 0).val / 1024 * 4 + (i 1).val / 1024 := ⟨⟨_, by omega⟩, rfl⟩
  refine ⟨t, flush0_5 t, ?_⟩
  obtain ⟨e0, e1⟩ := (index_at t).2.2.2.2.2
  show i ∈ ((View.whole main_v1).slice (win0_5.rect t)).set
  rw [View.set_slice_whole, Rect.mem_set_unit]
  intro a
  match a with
  | ⟨0, _⟩ =>
    show win0_5.index t 0 * 1024 ≤ (i 0).val ∧ (i 0).val < win0_5.index t 0 * 1024 + 1024
    rw [e0]; omega
  | ⟨1, _⟩ =>
    show win0_5.index t 1 * 1024 ≤ (i 1).val ∧ (i 1).val < win0_5.index t 1 * 1024 + 1024
    rw [e1]; omega

/-- The weights the call reads are the argument's. -/
theorem V_w (c : Dev nD) : V m c main_v0 = (m ((c : Thread nD τ).loc main_arg2) : Mat 4096 4096) := by
  unfold_abbrev_sides
  after_results
  rfl

/-- The call's result array ends as the output projection of the arguments. -/
theorem value (c : Dev nD) : (dats m 0 c).arrAt 5 cfg0.N
    = merged (m ((c : Thread nD τ).loc main_arg0)) (m ((c : Thread nD τ).loc main_arg1)) (m ((c : Thread nD τ).loc main_arg2)) (m ((c : Thread nD τ).loc main_arg3)) := by
  exact (dats m 0 c).arrAt_eq_of_cover 5 (merged _ _ _ _)
    (fun t _ => flushed_eq m c _ _ _ _ (V_main_arg0 m c) (V_main_arg1 m c) (V_w m c) (V_main_arg3 m c) t) cover

/-- The program runs, its result the output projection and its arguments unchanged. -/
theorem run : θ_run defs (onTc (τ := τ) (main (F := Ideal))) ⟨m, fun _ => 0, ρ⟩ (fun r => ∀ c : Dev nD,
      r.2.mem ((c.tc : Thread nD τ).loc main_v1)
        = merged (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 5).trans (value m c), h.2 c⟩) (θ_run_and (run_main m ρ) (unchanged m ρ))

end Cert.Merge

end
-- ==== Proof.OutRef.lean ====
/- The output projection's reference read at an index: the same sums. -/
module

public import proofs.«01_k».proof.Proof.OutRun
public import proofs.«01_k».proof.Proof.Gen.OutReferenceIdeal
public import proofs.«01_k».proof.Proof.Gen.OutReferenceIdeal.Run
public import proofs.«01_k».proof.Proof.Gen.OutReferenceIdeal.Read
public import Idealize.ShloMosaic.Lib.KernelVsHost
public import Idealize.ShloMosaic.Lib.IdealHost

@[expose] public section

set_option maxRecDepth 16384

noncomputable section

namespace Cert.Merge.Ref

open Idealize.ShloMosaic
open Cert.OutReferenceIdeal Cert.OutReferenceIdeal.Gen Cert.OutReferenceIdeal.Read
open Cert.Ffn (Mat)
open scoped BigOperators

variable (A B : Mat 16384 2048) (D : Mat 4096 4096) (X : Mat 16384 4096)

/-- The two branches side by side. -/
theorem both_apply (r : Fin 16384) (f : Fin 4096) :
    val_main_v2 (F := Ideal) A B (ix2 r f) = if h : f.val < 2048 then A (ix2 r ⟨f.val, h⟩) else B (ix2 r ⟨f.val - 2048, by omega⟩) := by
  unfold val_main_v2 val_main_v0 val_main_v1
  pointwise

/-- A row of the two branches against a column of the weights, the first branch's columns then the second's. -/
theorem dot_apply (r : Fin 16384) (d : Fin 4096) :
    val_main_v3 (F := Ideal) A B D (ix2 r d)
      = (∑ f : Fin 2048, A (ix2 r f) * D (ix2 (Fin.castAdd 2048 f) d)) + ∑ f : Fin 2048, B (ix2 r f) * D (ix2 (Fin.natAdd 2048 f) d) := by
  rw [val_main_v3_apply]
  have e : ∀ f : Fin 4096, val_main_v2 (F := Ideal) A B (lidx_main_v3 (ix2 r d) f) * D (ridx_main_v3 (ix2 r d) f)
      = val_main_v2 (F := Ideal) A B (ix2 r f) * D (ix2 f d) := fun f =>
    congrArg₂ (fun y z => val_main_v2 (F := Ideal) A B y * D z) (funext fun a => by match a with | ⟨0, _⟩ => rfl | ⟨1, _⟩ => rfl)
      (funext fun a => by match a with | ⟨0, _⟩ => rfl | ⟨1, _⟩ => rfl)
  rw [Finset.sum_congr rfl fun f _ => e f]
  refine (Fin.sum_univ_add (a := 2048) (b := 2048) _).trans (congrArg₂ (· + ·) (Finset.sum_congr rfl fun f _ => ?_) (Finset.sum_congr rfl fun f _ => ?_))
  · rw [both_apply, dif_pos (show (Fin.castAdd 2048 f).val < 2048 from f.isLt)]
    rfl
  · rw [both_apply, dif_neg (show ¬ (Fin.natAdd 2048 f).val < 2048 from by show ¬ 2048 + f.val < 2048; omega)]
    exact congrArg (fun g => B (ix2 r g) * D (ix2 (Fin.natAdd 2048 f) d)) (Fin.ext (by show 2048 + f.val - 2048 = f.val; omega))

/-- The sum of two host arrays at an index. -/
theorem add_apply (y z : Mat 16384 4096) (i : S16384x4096.Idx) : addf (F := Ideal) (φ := .f32) y z i = y i + z i := rfl

/-- The reference's result is the output projection. -/
theorem res_eq : val_main_v4 (F := Ideal) A B D X = merged A B D X := by
  funext y
  obtain ⟨r, d, rfl⟩ : ∃ (r : Fin 16384) (d : Fin 4096), y = ix2 r d :=
    ⟨y 0, y 1, by funext i; match i with | ⟨0, _⟩ => rfl | ⟨1, _⟩ => rfl⟩
  unfold val_main_v4
  rw [add_apply, dot_apply, add_comm]
  rfl

end Cert.Merge.Ref

end
-- ==== Proof.EvenRows.lean ====
/- The first layer's input projections as plain sums, and the first of their three calls: the token rows scaled by their root mean square. -/
module

public import proofs.«01_k».proof.Proof.GateUp
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame

@[expose] public section

set_option maxRecDepth 16384

noncomputable section

namespace Cert.EvenProj

open Idealize.ShloMosaic Idealize.ShloMosaic.TcCoe Idealize.SL.Sem
open Cert.Ffn (Mat)
open scoped BigOperators

/-- A vector of extended reals. -/
abbrev Line (a : ℕ) := (⟨1, ![a]⟩ : Shape).Idx → EReal

/-- Row `r` of a matrix divided by its root mean square, with the small constant the layer adds under the root, times the gains. -/
def scaled {n : ℕ} (X : Mat n 4096) (g : Line 4096) (r : Fin n) (k : Fin 4096) : EReal :=
  X (ix2 r k) * Ideal.rsqrt (Ideal.div (∑ j : Fin 4096, X (ix2 r j) * X (ix2 r j)) (Ideal.ofBits FTy.f32 1166016512#32) + Ideal.ofBits FTy.f32 897988541#32)
    * g (ix1 k)

/-- A row of one matrix against a column of another. -/
def dot {n k l : ℕ} (A : Mat n k) (B : Mat k l) (r : Fin n) (d : Fin l) : EReal := ∑ f : Fin k, A (ix2 r f) * B (ix2 f d)

/-- The scaled rows as a matrix. -/
def scaledRows {n : ℕ} (X : Mat n 4096) (g : Line 4096) : Mat n 4096 := fun y => scaled X g (y 0) (y 1)

/-- The product of two matrices. -/
def times {n k l : ℕ} (A : Mat n k) (B : Mat k l) : Mat n l := fun y => dot A B (y 0) (y 1)

/-- The columns of a matrix from column `o` on. -/
def cols {n l w : ℕ} (o : ℕ) (h : o + w ≤ l) (A : Mat n l) : Mat n w :=
  fun y => A (ix2 (y 0) ⟨o + (y 1).val, Nat.lt_of_lt_of_le (Nat.add_lt_add_left (show (y 1).val < w from (y 1).isLt) o) h⟩)

/-- The first result from the argument arrays. -/
def narrowOf (X : Mat 16384 4096) (g : Line 4096) (W : Mat 4096 7840) : Mat 16384 1792 := times (scaledRows X g) (cols 0 (by omega) W)
/-- The second result from the argument arrays. -/
def wideOf (X : Mat 16384 4096) (g : Line 4096) (W : Mat 4096 7840) : Mat 16384 6144 := times (scaledRows X g) (cols 1696 (by omega) W)

open Cert.EvenInIdeal Cert.EvenInIdeal.Gen

variable (V : (c : Dev nD) → (b : Ref sig .tc) → Buf (Elt Ideal) ((c : Thread nD τ).loc b))

namespace Rows

/-- Where each window's block sits at grid point `t`: row block `t`. -/
theorem index_at : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) := by
  decide +kernel

/-- The rows' block: rows `256 · t` on. -/
theorem blk_x (c : Dev nD) (t : Fin cfg0.N) (p : Fin 256) (k : Fin 4096) (r : Fin 16384) (h : r.val = 256 * t.val + p.val) :
    iblk0 V c 0 t (ix2 p k) = V c main_arg0 (ix2 r k) := by
  refine congrArg (V c main_arg0 : Mat 16384 4096) (funext fun a => Fin.ext ?_)
  obtain ⟨e0, e1⟩ := (index_at t).1
  match a with
  | ⟨0, _⟩ =>
    show win0_0.index t 0 * 256 + 1 * p.val = r.val
    rw [e0]; omega
  | ⟨1, _⟩ =>
    show win0_0.index t 1 * 4096 + 1 * k.val = k.val
    rw [e1]; omega

/-- The gains' block is the whole row of gains. -/
theorem blk_g (c : Dev nD) (t : Fin cfg0.N) (k : Fin 4096) : iblk0 V c 1 t (ix2 0 k) = V c main_v0 (ix2 0 k) := by
  refine congrArg (V c main_v0 : Mat 1 4096) (funext fun a => Fin.ext ?_)
  obtain ⟨e0, e1⟩ := (index_at t).2.1
  match a with
  | ⟨0, _⟩ =>
    show win0_1.index t 0 * 1 + 1 * 0 = 0
    rw [e0]
  | ⟨1, _⟩ =>
    show win0_1.index t 1 * 4096 + 1 * k.val = k.val
    rw [e1]; omega

/-- One entry of the body's result is the scaled row's. -/
theorem pay1_apply (x : Vec Ideal S256x4096 .f32) (g : Vec Ideal S1x4096 .f32) (p : Fin 256) (k : Fin 4096) :
    k0_pay1 (F := Ideal) x g (ix2 p k) = scaled (x : Mat 256 4096) (fun y => g (ix2 0 (y 0))) p k := by
  unfold k0_pay1 scaled
  pointwise

/-- A scaled row depends only on its own entries. -/
theorem scaled_congr {n n' : ℕ} (X : Mat n 4096) (X' : Mat n' 4096) (g g' : Line 4096) (r : Fin n) (r' : Fin n') (hx : ∀ k, X (ix2 r k) = X' (ix2 r' k))
    (hg : ∀ k, g (ix1 k) = g' (ix1 k)) (k : Fin 4096) : scaled X g r k = scaled X' g' r' k := by
  unfold scaled
  rw [hx k, hg k, Finset.sum_congr rfl fun j _ => congrArg₂ (· * ·) (hx j) (hx j)]

/-- One entry of the block the body writes is the scaled row's. -/
theorem out_apply (c : Dev nD) (X : Mat 16384 4096) (g : Line 4096) (hX : V c main_arg0 = X) (hg : ∀ k, V c main_v0 (ix2 0 k) = g (ix1 k))
    (t : Fin cfg0.N) (p : Fin 256) (k : Fin 4096) (r : Fin 16384) (hr : r.val = 256 * t.val + p.val) :
    out0_2 (iblk0 V c 0 t) (iblk0 V c 1 t) (ix2 p k) = scaled X g r k := by
  unfold out0_2
  rw [View.canon_unit_zero Ffn.GateUp.hz2, View.ld_unit_zero Ffn.GateUp.hz2, View.ld_unit_zero Ffn.GateUp.hz2, pay1_apply]
  exact scaled_congr _ _ _ _ _ _ (fun j => (blk_x V c t p j r hr).trans (congrFun hX _)) (fun j => (blk_g V c t j).trans (hg j)) k

/-- What point `t` writes back is its block of the scaled rows. -/
theorem flushed_eq (c : Dev nD) (X : Mat 16384 4096) (g : Line 4096) (hX : V c main_arg0 = X) (hg : ∀ k, V c main_v0 (ix2 0 k) = g (ix1 k)) (t : Fin cfg0.N) :
    (dat0 V c).flushed 2 t = (win0_2.blk t).view.read (Elt Ideal) (scaledRows X g) := by
  show (cfg0.win 2).cut (grid0.coords t) ((dat0 V c).after 2 t) = _
  rw [after0_2]
  funext y
  have hN : cfg0.N = 64 := N_0
  have ht := t.isLt
  obtain ⟨e0, e1⟩ := (index_at t).2.2
  have h0 : (y 0).val < 256 := (y 0).isLt
  have h1 : (y 1).val < 4096 := (y 1).isLt
  have key := out_apply V c X g hX hg t (y 0) (y 1) ⟨256 * t.val + (y 0).val, by omega⟩ rfl
  refine Eq.trans (congrArg (out0_2 (iblk0 V c 0 t) (iblk0 V c 1 t)) (funext fun a => by match a with | ⟨0, _⟩ => rfl | ⟨1, _⟩ => rfl)) (key.trans ?_)
  refine congrArg₂ (scaled X g) ?_ ?_
  · exact Fin.ext (by show _ = win0_2.index t 0 * 256 + 1 * (y 0).val; rw [e0]; dsimp only; omega)
  · exact Fin.ext (by show _ = win0_2.index t 1 * 4096 + 1 * (y 1).val; rw [e1]; omega)

/-- Every entry of the scaled rows lies in some point's block. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  have hN : cfg0.N = 64 := N_0
  obtain ⟨t, ht⟩ : ∃ t : Fin cfg0.N, t.val = (i 0).val / 256 := ⟨⟨_, by omega⟩, rfl⟩
  refine ⟨t, flush0_2 t, ?_⟩
  obtain ⟨e0, e1⟩ := (index_at t).2.2
  show i ∈ ((View.whole main_v1).slice (win0_2.rect t)).set
  rw [View.set_slice_whole, Rect.mem_set_unit]
  intro a
  match a with
  | ⟨0, _⟩ =>
    show win0_2.index t 0 * 256 ≤ (i 0).val ∧ (i 0).val < win0_2.index t 0 * 256 + 256
    rw [e0]; omega
  | ⟨1, _⟩ =>
    show win0_2.index t 1 * 4096 ≤ (i 1).val ∧ (i 1).val < win0_2.index t 1 * 4096 + 4096
    rw [e1]; omega

/-- The first call leaves the scaled rows. -/
theorem final (c : Dev nD) (X : Mat 16384 4096) (g : Line 4096) (hX : V c main_arg0 = X) (hg : ∀ k, V c main_v0 (ix2 0 k) = g (ix1 k)) :
    (dat0 V c).arrAt 2 cfg0.N = scaledRows X g :=
  (dat0 V c).arrAt_eq_of_cover 2 (scaledRows X g) (fun t _ => flushed_eq V c X g hX hg t) cover

end Rows

end Cert.EvenProj

end
-- ==== Proof.EvenProj.lean ====
/- The first layer's input projections: what the two product calls leave. -/
module

public import proofs.«01_k».proof.Proof.EvenRows

@[expose] public section

set_option maxRecDepth 16384

noncomputable section

namespace Cert.EvenProj

open Idealize.ShloMosaic Idealize.ShloMosaic.TcCoe Idealize.SL.Sem
open Cert.Ffn (Mat)
open scoped BigOperators
open Cert.EvenInIdeal Cert.EvenInIdeal.Gen

variable (V : (c : Dev nD) → (b : Ref sig .tc) → Buf (Elt Ideal) ((c : Thread nD τ).loc b))

/-- Two products of a row with a column agree where their entries do. -/
theorem dot_congr {n n' k l l' : ℕ} (A : Mat n k) (A' : Mat n' k) (B : Mat k l) (B' : Mat k l') (r : Fin n) (r' : Fin n') (d : Fin l) (d' : Fin l')
    (hA : ∀ f, A (ix2 r f) = A' (ix2 r' f)) (hB : ∀ f, B (ix2 f d) = B' (ix2 f d')) : dot A B r d = dot A' B' r' d' :=
  Finset.sum_congr rfl fun f _ => congrArg₂ (· * ·) (hA f) (hB f)

namespace Narrow

/-- Where each window's block sits at grid point `t`: row block `t / 7`, column block `t % 7`. -/
theorem index_at : ∀ t : Fin cfg1.N,
    (win1_0.index t 0 = t.val / 7 ∧ win1_0.index t 1 = 0) ∧ (win1_1.index t 0 = 0 ∧ win1_1.index t 1 = t.val % 7)
    ∧ (win1_2.index t 0 = t.val / 7 ∧ win1_2.index t 1 = t.val % 7) := by
  decide +kernel

/-- The rows' block: rows `1024 · (t / 7)` on. -/
theorem blk_x (c : Dev nD) (t : Fin cfg1.N) (p : Fin 1024) (k : Fin 4096) (r : Fin 16384) (h : r.val = 1024 * (t.val / 7) + p.val) :
    iblk1 V c 0 t (ix2 p k) = V c main_v1 (ix2 r k) := by
  refine congrArg (V c main_v1 : Mat 16384 4096) (funext fun a => Fin.ext ?_)
  obtain ⟨e0, e1⟩ := (index_at t).1
  match a with
  | ⟨0, _⟩ =>
    show win1_0.index t 0 * 1024 + 1 * p.val = r.val
    rw [e0]; omega
  | ⟨1, _⟩ =>
    show win1_0.index t 1 * 4096 + 1 * k.val = k.val
    rw [e1]; omega

/-- The weights' block: columns `256 · (t % 7)` on. -/
theorem blk_w (c : Dev nD) (t : Fin cfg1.N) (k : Fin 4096) (q : Fin 256) (d : Fin 1792) (h : d.val = 256 * (t.val % 7) + q.val) :
    iblk1 V c 1 t (ix2 k q) = V c main_v3 (ix2 k d) := by
  refine congrArg (V c main_v3 : Mat 4096 1792) (funext fun a => Fin.ext ?_)
  obtain ⟨e0, e1⟩ := (index_at t).2.1
  match a with
  | ⟨0, _⟩ =>
    show win1_1.index t 0 * 4096 + 1 * k.val = k.val
    rw [e0]; omega
  | ⟨1, _⟩ =>
    show win1_1.index t 1 * 256 + 1 * q.val = d.val
    rw [e1]; omega

/-- One entry of the body's product. -/
theorem pay1_apply (a : Vec Ideal S1024x4096 .bf16) (w : Vec Ideal S4096x256 .bf16) (p : Fin 1024) (q : Fin 256) :
    k1_pay1 (F := Ideal) a w (ix2 p q) = dot (a : Mat 1024 4096) (w : Mat 4096 256) p q := by
  unfold k1_pay1 dot
  pointwise

/-- What point `t` writes back is its block of the product. -/
theorem flushed_eq (c : Dev nD) (A : Mat 16384 4096) (B : Mat 4096 1792) (hA : V c main_v1 = A) (hB : V c main_v3 = B) (t : Fin cfg1.N) :
    (dat1 V c).flushed 2 t = (win1_2.blk t).view.read (Elt Ideal) (times A B) := by
  show (cfg1.win 2).cut (grid1.coords t) ((dat1 V c).after 2 t) = _
  rw [after1_2]
  funext y
  have hN : cfg1.N = 112 := N_1
  have ht := t.isLt
  obtain ⟨e0, e1⟩ := (index_at t).2.2
  have h0 : (y 0).val < 1024 := (y 0).isLt
  have h1 : (y 1).val < 256 := (y 1).isLt
  have key : out1_2 (iblk1 V c 0 t) (iblk1 V c 1 t) (ix2 (y 0) (y 1))
      = dot A B ⟨1024 * (t.val / 7) + (y 0).val, by omega⟩ ⟨256 * (t.val % 7) + (y 1).val, by omega⟩ := by
    unfold out1_2
    rw [View.canon_unit_zero Ffn.GateUp.hz2, View.ld_unit_zero Ffn.GateUp.hz2, View.ld_unit_zero Ffn.GateUp.hz2]
    refine (pay1_apply _ _ (y 0) (y 1)).trans (dot_congr _ _ _ _ _ _ _ _ (fun f => ?_) (fun f => ?_))
    · exact (blk_x V c t (y 0) f _ rfl).trans (congrFun hA _)
    · exact (blk_w V c t f (y 1) _ rfl).trans (congrFun hB _)
  refine Eq.trans (congrArg (out1_2 (iblk1 V c 0 t) (iblk1 V c 1 t)) (funext fun a => by match a with | ⟨0, _⟩ => rfl | ⟨1, _⟩ => rfl)) (key.trans ?_)
  refine congrArg₂ (dot A B) ?_ ?_
  · exact Fin.ext (by show _ = win1_2.index t 0 * 1024 + 1 * (y 0).val; rw [e0]; dsimp only; omega)
  · exact Fin.ext (by show _ = win1_2.index t 1 * 256 + 1 * (y 1).val; rw [e1]; dsimp only; omega)

/-- Every entry of the product lies in some point's block. -/
theorem cover (i : S16384x1792.Idx) : ∃ t : Fin cfg1.N, (cfg1.win 2).flush t = true ∧ i ∈ ((cfg1.win 2).blk t).view.set := by
  have h0 : (i 0).val < 16384 := (i 0).isLt
  have h1 : (i 1).val < 1792 := (i 1).isLt
  have hN : cfg1.N = 112 := N_1
  obtain ⟨t, ht⟩ : ∃ t : Fin cfg1.N, t.val = (i 0).val / 1024 * 7 + (i 1).val / 256 := ⟨⟨_, by omega⟩, rfl⟩
  refine ⟨t, flush1_2 t, ?_⟩
  obtain ⟨e0, e1⟩ := (index_at t).2.2
  show i ∈ ((View.whole main_v6).slice (win1_2.rect t)).set
  rw [View.set_slice_whole, Rect.mem_set_unit]
  intro a
  match a with
  | ⟨0, _⟩ =>
    show win1_2.index t 0 * 1024 ≤ (i 0).val ∧ (i 0).val < win1_2.index t 0 * 1024 + 1024
    rw [e0]; omega
  | ⟨1, _⟩ =>
    show win1_2.index t 1 * 256 ≤ (i 1).val ∧ (i 1).val < win1_2.index t 1 * 256 + 256
    rw [e1]; omega

/-- The second call leaves the product. -/
theorem final (c : Dev nD) (A : Mat 16384 4096) (B : Mat 4096 1792) (hA : V c main_v1 = A) (hB : V c main_v3 = B) :
    (dat1 V c).arrAt 2 cfg1.N = times A B :=
  (dat1 V c).arrAt_eq_of_cover 2 (times A B) (fun t _ => flushed_eq V c A B hA hB t) cover

end Narrow

namespace Wide

/-- Where each window's block sits at grid point `t`: row block `t / 6`, column block `t % 6`. -/
theorem index_at : ∀ t : Fin cfg2.N,
    (win2_0.index t 0 = t.val / 6 ∧ win2_0.index t 1 = 0) ∧ (win2_1.index t 0 = 0 ∧ win2_1.index t 1 = t.val % 6)
    ∧ (win2_2.index t 0 = t.val / 6 ∧ win2_2.index t 1 = t.val % 6) := by
  decide +kernel

/-- The rows' block: rows `1024 · (t / 6)` on. -/
theorem blk_x (c : Dev nD) (t : Fin cfg2.N) (p : Fin 1024) (k : Fin 4096) (r : Fin 16384) (h : r.val = 1024 * (t.val / 6) + p.val) :
    iblk2 V c 0 t (ix2 p k) = V c main_v1 (ix2 r k) := by
  refine congrArg (V c main_v1 : Mat 16384 4096) (funext fun a => Fin.ext ?_)
  obtain ⟨e0, e1⟩ := (index_at t).1
  match a with
  | ⟨0, _⟩ =>
    show win2_0.index t 0 * 1024 + 1 * p.val = r.val
    rw [e0]; omega
  | ⟨1, _⟩ =>
    show win2_0.index t 1 * 4096 + 1 * k.val = k.val
    rw [e1]; omega

/-- The weights' block: columns `1024 · (t % 6)` on. -/
theorem blk_w (c : Dev nD) (t : Fin cfg2.N) (k : Fin 4096) (q : Fin 1024) (d : Fin 6144) (h : d.val = 1024 * (t.val % 6) + q.val) :
    iblk2 V c 1 t (ix2 k q) = V c main_v5 (ix2 k d) := by
  refine congrArg (V c main_v5 : Mat 4096 6144) (funext fun a => Fin.ext ?_)
  obtain ⟨e0, e1⟩ := (index_at t).2.1
  match a with
  | ⟨0, _⟩ =>
    show win2_1.index t 0 * 4096 + 1 * k.val = k.val
    rw [e0]; omega
  | ⟨1, _⟩ =>
    show win2_1.index t 1 * 1024 + 1 * q.val = d.val
    rw [e1]; omega

/-- One entry of the body's product. -/
theorem pay1_apply (a : Vec Ideal S1024x4096 .bf16) (w : Vec Ideal S4096x1024 .bf16) (p q : Fin 1024) :
    k2_pay1 (F := Ideal) a w (ix2 p q) = dot (a : Mat 1024 4096) (w : Mat 4096 1024) p q := by
  unfold k2_pay1 dot
  pointwise

/-- What point `t` writes back is its block of the product. -/
theorem flushed_eq (c : Dev nD) (A : Mat 16384 4096) (B : Mat 4096 6144) (hA : V c main_v1 = A) (hB : V c main_v5 = B) (t : Fin cfg2.N) :
    (dat2 V c).flushed 2 t = (win2_2.blk t).view.read (Elt Ideal) (times A B) := by
  show (cfg2.win 2).cut (grid2.coords t) ((dat2 V c).after 2 t) = _
  rw [after2_2]
  funext y
  have hN : cfg2.N = 96 := N_2
  have ht := t.isLt
  obtain ⟨e0, e1⟩ := (index_at t).2.2
  have h0 : (y 0).val < 1024 := (y 0).isLt
  have h1 : (y 1).val < 1024 := (y 1).isLt
  have key : out2_2 (iblk2 V c 0 t) (iblk2 V c 1 t) (ix2 (y 0) (y 1))
      = dot A B ⟨1024 * (t.val / 6) + (y 0).val, by omega⟩ ⟨1024 * (t.val % 6) + (y 1).val, by omega⟩ := by
    unfold out2_2
    rw [View.canon_unit_zero Ffn.GateUp.hz2, View.ld_unit_zero Ffn.GateUp.hz2, View.ld_unit_zero Ffn.GateUp.hz2]
    refine (pay1_apply _ _ (y 0) (y 1)).trans (dot_congr _ _ _ _ _ _ _ _ (fun f => ?_) (fun f => ?_))
    · exact (blk_x V c t (y 0) f _ rfl).trans (congrFun hA _)
    · exact (blk_w V c t f (y 1) _ rfl).trans (congrFun hB _)
  refine Eq.trans (congrArg (out2_2 (iblk2 V c 0 t) (iblk2 V c 1 t)) (funext fun a => by match a with | ⟨0, _⟩ => rfl | ⟨1, _⟩ => rfl)) (key.trans ?_)
  refine congrArg₂ (dot A B) ?_ ?_
  · exact Fin.ext (by show _ = win2_2.index t 0 * 1024 + 1 * (y 0).val; rw [e0]; dsimp only; omega)
  · exact Fin.ext (by show _ = win2_2.index t 1 * 1024 + 1 * (y 1).val; rw [e1]; dsimp only; omega)

/-- Every entry of the product lies in some point's block. -/
theorem cover (i : S16384x6144.Idx) : ∃ t : Fin cfg2.N, (cfg2.win 2).flush t = true ∧ i ∈ ((cfg2.win 2).blk t).view.set := by
  have h0 : (i 0).val < 16384 := (i 0).isLt
  have h1 : (i 1).val < 6144 := (i 1).isLt
  have hN : cfg2.N = 96 := N_2
  obtain ⟨t, ht⟩ : ∃ t : Fin cfg2.N, t.val = (i 0).val / 1024 * 6 + (i 1).val / 1024 := ⟨⟨_, by omega⟩, rfl⟩
  refine ⟨t, flush2_2 t, ?_⟩
  obtain ⟨e0, e1⟩ := (index_at t).2.2
  show i ∈ ((View.whole main_v7).slice (win2_2.rect t)).set
  rw [View.set_slice_whole, Rect.mem_set_unit]
  intro a
  match a with
  | ⟨0, _⟩ =>
    show win2_2.index t 0 * 1024 ≤ (i 0).val ∧ (i 0).val < win2_2.index t 0 * 1024 + 1024
    rw [e0]; omega
  | ⟨1, _⟩ =>
    show win2_2.index t 1 * 1024 ≤ (i 1).val ∧ (i 1).val < win2_2.index t 1 * 1024 + 1024
    rw [e1]; omega

/-- The third call leaves the product. -/
theorem final (c : Dev nD) (A : Mat 16384 4096) (B : Mat 4096 6144) (hA : V c main_v1 = A) (hB : V c main_v5 = B) :
    (dat2 V c).arrAt 2 cfg2.N = times A B :=
  (dat2 V c).arrAt_eq_of_cover 2 (times A B) (fun t _ => flushed_eq V c A B hA hB t) cover

end Wide

end Cert.EvenProj

end
-- ==== Proof.Heads.lean ====
/- Heads side by side in the rows of a matrix, each divided by its root mean square and multiplied by its gains. -/
module

public import proofs.«01_k».proof.Proof.EvenRows

@[expose] public section

noncomputable section

namespace Cert.Heads

open Idealize.ShloMosaic Idealize.ShloMosaic.TcCoe
open Cert.Ffn (Mat)
open Cert.EvenProj (Line)
open scoped BigOperators

/-- A head divided by its root mean square, the mean taken by dividing by `q` and with the small constant the layer adds under the root, times the gains. -/
def normed {b : ℕ} (q : EReal) (u : Fin b → EReal) (g : Line b) (k : Fin b) : EReal :=
  u k * Ideal.rsqrt (Ideal.div (∑ j : Fin b, u j * u j) q + Ideal.ofBits FTy.f32 897988541#32) * g (ix1 k)

/-- A normed head depends only on its lanes, its gains and the lane read. -/
theorem normed_congr {b : ℕ} (q : EReal) (u u' : Fin b → EReal) (g g' : Line b) (k k' : Fin b) (hu : ∀ j, u j = u' j) (hg : ∀ j, g (ix1 j) = g' (ix1 j))
    (hk : k = k') : normed q u g k = normed q u' g' k' := by
  subst hk
  unfold normed
  rw [hu k, hg k, Finset.sum_congr rfl fun j _ => congrArg₂ (· * ·) (hu j) (hu j)]

/-- The lane of column `d` within its head of `b` lanes. -/
def lane {b w : ℕ} [NeZero b] (d : Fin w) : Fin b := ⟨d.val % b, Nat.mod_lt _ (Nat.pos_of_neZero b)⟩

/-- Lane `j` of the head column `d` lies in is a column too. -/
theorem spot_lt {b w : ℕ} (hb : b ∣ w) (d : Fin w) (j : Fin b) : b * (d.val / b) + j.val < w := by
  obtain ⟨e, rfl⟩ := hb
  have h : d.val / b + 1 ≤ e := Nat.div_lt_of_lt_mul d.isLt
  calc b * (d.val / b) + j.val < b * (d.val / b) + b := Nat.add_lt_add_left j.isLt _
    _ = b * (d.val / b + 1) := (Nat.mul_succ _ _).symm
    _ ≤ b * e := Nat.mul_le_mul_left b h

/-- Lane `j` of the head column `d` lies in. -/
def spot {b w : ℕ} (hb : b ∣ w) (d : Fin w) (j : Fin b) : Fin w := ⟨b * (d.val / b) + j.val, spot_lt hb d j⟩

/-- Every head of a row normed. -/
def heads {n w b : ℕ} [NeZero b] (q : EReal) (hb : b ∣ w) (P : Mat n w) (g : Line b) (r : Fin n) (d : Fin w) : EReal :=
  normed q (fun j => P (ix2 r (spot hb d j))) g (lane d)

/-- A row's heads normed, read at lane `k` of head `e`. -/
theorem heads_at {n w b : ℕ} [NeZero b] (q : EReal) (hb : b ∣ w) (P : Mat n w) (g : Line b) (r : Fin n) (d : Fin w) (e : ℕ) (k : Fin b) (hd : d.val = b * e + k.val)
    (u : Fin b → EReal) (hu : ∀ (j : Fin b) (c : Fin w), c.val = b * e + j.val → u j = P (ix2 r c)) : normed q u g k = heads q hb P g r d := by
  have hq : d.val / b = e := by rw [hd, Nat.mul_add_div (Nat.pos_of_neZero b), Nat.div_eq_of_lt k.isLt, Nat.add_zero]
  refine normed_congr _ _ _ _ _ _ _ (fun j => hu j _ ?_) (fun _ => rfl) (Fin.ext ?_)
  · show b * (d.val / b) + j.val = _
    rw [hq]
  · show k.val = d.val % b
    rw [hd, Nat.mul_add_mod, Nat.mod_eq_of_lt k.isLt]

/-- Normed heads of two matrices agree where the second, some whole heads further on, holds the first. -/
theorem heads_congr {n n' w w' b : ℕ} [NeZero b] (q : EReal) (hb : b ∣ w) (hb' : b ∣ w') (P : Mat n w) (P' : Mat n' w') (g g' : Line b) (r : Fin n) (r' : Fin n')
    (d : Fin w) (d' : Fin w') (e : ℕ) (hd : d'.val = b * e + d.val) (hP : ∀ (c : Fin w) (c' : Fin w'), c'.val = b * e + c.val → P (ix2 r c) = P' (ix2 r' c'))
    (hg : ∀ j, g (ix1 j) = g' (ix1 j)) : heads q hb P g r d = heads q hb' P' g' r' d' := by
  refine normed_congr _ _ _ _ _ _ _ (fun j => hP _ _ ?_) hg (Fin.ext ?_)
  · show b * (d'.val / b) + j.val = b * e + (b * (d.val / b) + j.val)
    rw [hd, Nat.mul_add_div (Nat.pos_of_neZero b), Nat.mul_add, Nat.add_assoc]
  · show d.val % b = d'.val % b
    rw [hd, Nat.mul_add_mod]

/-- The four heads of a row side by side are the row's heads normed. -/
theorem four_heads {n w b : ℕ} [NeZero b] (q : EReal) (z : Mat n w) (g : Line b) (p : Fin n) (d : Fin w) (o o' o'' : ℕ) (ho : o = b * 1) (ho' : o' = b * 2)
    (ho'' : o'' = b * 3) (hw : w = b * 4) :
    (if h : d.val < b then normed q (fun j : Fin b => z (ix2 p ⟨j.val, by omega⟩)) g ⟨d.val, h⟩
      else if h : d.val - b < b then normed q (fun j : Fin b => z (ix2 p ⟨o + j.val, by omega⟩)) g ⟨d.val - b, h⟩
      else if h : d.val - b - b < b then normed q (fun j : Fin b => z (ix2 p ⟨o' + j.val, by omega⟩)) g ⟨d.val - b - b, h⟩
      else normed q (fun j : Fin b => z (ix2 p ⟨o'' + j.val, by omega⟩)) g ⟨d.val - b - b - b, by omega⟩)
    = heads q ⟨4, hw⟩ z g p d := by
  split_ifs with h0 h1 h2
  · exact heads_at q _ z g p d 0 _ (by dsimp only; omega) _ fun j e he => congrArg (fun e => z (ix2 p e)) (Fin.ext (by dsimp only; omega))
  · exact heads_at q _ z g p d 1 _ (by dsimp only; omega) _ fun j e he => congrArg (fun e => z (ix2 p e)) (Fin.ext (by dsimp only; omega))
  · exact heads_at q _ z g p d 2 _ (by dsimp only; omega) _ fun j e he => congrArg (fun e => z (ix2 p e)) (Fin.ext (by dsimp only; omega))
  · exact heads_at q _ z g p d 3 _ (by dsimp only; omega) _ fun j e he => congrArg (fun e => z (ix2 p e)) (Fin.ext (by dsimp only; omega))

/-- An index of a matrix is the pair of coordinates it has. -/
theorem at_pair {a b : ℕ} (y : (⟨2, ![a, b]⟩ : Shape).Idx) (r : Fin a) (k : Fin b) (h0 : (y 0).val = r.val) (h1 : (y 1).val = k.val) : y = ix2 r k :=
  funext fun i => by
    match i with
    | ⟨0, _⟩ => exact Fin.ext h0
    | ⟨1, _⟩ => exact Fin.ext h1

end Cert.Heads

end
-- ==== Proof.DsaRows.lean ====
/- The sparse mixer's query projections as plain sums, and the bodies of their calls read at an index. -/
module

public import proofs.«01_k».proof.Proof.EvenProj
public import proofs.«01_k».proof.Proof.Heads
public import proofs.«01_k».proof.Proof.Gen.DsaInIdeal
public import proofs.«01_k».proof.Proof.Gen.DsaInIdeal.Skeleton
public import proofs.«01_k».proof.Proof.Gen.DsaInIdeal.Launch
public import proofs.«01_k».proof.Proof.Gen.DsaInIdeal.Points
public import proofs.«01_k».proof.Proof.Gen.DsaInIdeal.Frame

@[expose] public section

set_option maxRecDepth 16384

noncomputable section

namespace Cert.DsaProj

open Idealize.ShloMosaic Idealize.ShloMosaic.TcCoe Idealize.SL.Sem
open Cert.Ffn (Mat)
open Cert.EvenProj (Line dot dot_congr times)
open Cert.Heads (normed heads four_heads)
open scoped BigOperators
open Cert.DsaInIdeal Cert.DsaInIdeal.Gen

/-- A stack of weights, one matrix of `b` columns for each of `a` heads. -/
abbrev Stack (n a b : ℕ) : Type := (⟨3, ![n, a, b]⟩ : Shape).Idx → EReal

/-- The heads' weights side by side, one matrix. -/
def flat {n a b : ℕ} [NeZero b] (w : ℕ) (hw : w = a * b) (B : Stack n a b) : Mat n w := fun y =>
  B (ix3 (y 0) ⟨(y 1).val / b, Nat.div_lt_of_lt_mul (by rw [Nat.mul_comm, ← hw]; exact (y 1).isLt)⟩ ⟨(y 1).val % b, Nat.mod_lt _ (Nat.pos_of_neZero b)⟩)

/-- A lane of a head is a column of the product with the weights side by side. -/
theorem column {n c a b w : ℕ} [NeZero b] (hw : w = a * b) (D : Mat n c) (S : Stack c a b) (r : Fin n) (h : Fin a) (j : Fin b) (d : Fin w)
    (hd : d.val = b * h.val + j.val) : ∑ k : Fin c, D (ix2 r k) * S (ix3 k h j) = dot D (flat w hw S) r d := by
  refine Finset.sum_congr rfl fun k _ => congrArg (fun i => D (ix2 r k) * S i) ?_
  refine congrArg₂ (ix3 k) (Fin.ext ?_) (Fin.ext ?_)
  · show h.val = d.val / b
    rw [hd, Nat.mul_add_div (Nat.pos_of_neZero b), Nat.div_eq_of_lt j.isLt, Nat.add_zero]
  · show j.val = d.val % b
    rw [hd, Nat.mul_add_mod, Nat.mod_eq_of_lt j.isLt]

/-- The count of a query's lanes, the divisor of its mean. -/
abbrev lanes : EReal := Ideal.ofBits FTy.f32 1140850688#32

/-- One entry of the queries' product, before the norm. -/
theorem queriesDot_apply (a : Vec Ideal S512x1024 .bf16) (w : Vec Ideal S1024x2048 .bf16) (p : Fin 512) (q : Fin 2048) :
    k0_pay2 (F := Ideal) a w (ix2 p q) = dot (a : Mat 512 1024) (w : Mat 1024 2048) p q := by
  unfold k0_pay2 dot
  pointwise

/-- One entry of the queries' body is a normed query's, rows and columns exchanged. -/
theorem queries_apply (a : Vec Ideal S512x1024 .bf16) (w : Vec Ideal S1024x2048 .bf16) (g : Vec Ideal S1x512 .f32) (q : Fin 2048) (p : Fin 512) :
    k0_pay1 (F := Ideal) (k0_pay2 a w) (k0_pay3 g) (k0_pay4 a w g) (k0_pay5 a w g) (k0_pay6 a w) (k0_pay7 a w) (ix2 q p)
      = heads (b := 512) lanes (by decide) (k0_pay2 (F := Ideal) a w : Mat 512 2048) (fun y => g (ix2 0 (y 0))) p q := by
  unfold k0_pay1 k0_pay4 k0_pay5 k0_pay7 k0_pay6 k0_pay3
  generalize k0_pay2 (F := Ideal) a w = z
  rw [← four_heads lanes z _ p q 512 1024 1536 rfl rfl rfl rfl]
  unfold normed
  pointwise

/-- One entry of the indexer's queries, rows and columns exchanged. -/
theorem picks_apply (a : Vec Ideal S1024x1024 .bf16) (w : Vec Ideal S1024x1024 .bf16) (q p : Fin 1024) :
    k1_pay1 (F := Ideal) a w (ix2 q p) = dot (a : Mat 1024 1024) (w : Mat 1024 1024) p q := by
  unfold k1_pay1 dot
  pointwise

/-- The attention's queries, normed, rows and columns exchanged. -/
def queriesOf (A : Mat 16384 1024) (B : Stack 1024 16 512) (g : Line 512) : Mat 8192 16384 :=
  fun y => heads (b := 512) lanes (by decide) (times A (flat 8192 rfl B) : Mat 16384 8192) g (y 1) (y 0)
/-- The indexer's queries, rows and columns exchanged. -/
def picksOf (A : Mat 16384 1024) (B : Stack 1024 32 128) : Mat 4096 16384 := fun y => dot A (flat 4096 rfl B) (y 1) (y 0)

end Cert.DsaProj

end
-- ==== Proof.DsaProj.lean ====
/- The sparse mixer's query projections: what each of the two calls leaves. -/
module

public import proofs.«01_k».proof.Proof.DsaRows

@[expose] public section

set_option maxRecDepth 16384

noncomputable section

namespace Cert.DsaProj

open Idealize.ShloMosaic Idealize.ShloMosaic.TcCoe Idealize.SL.Sem
open Cert.Ffn (Mat)
open Cert.EvenProj (Line dot dot_congr times)
open Cert.Heads (heads heads_congr at_pair)
open Cert.DsaInIdeal Cert.DsaInIdeal.Gen

variable (V : (c : Dev nD) → (b : Ref sig .tc) → Buf (Elt Ideal) ((c : Thread nD τ).loc b))

namespace Queries

/-- Where each window's block sits at grid point `t`: row block `t / 4`, the weights' column block `t % 4`. -/
theorem index_at : ∀ t : Fin cfg0.N,
    (win0_0.index t 0 = t.val / 4 ∧ win0_0.index t 1 = 0) ∧ (win0_1.index t 0 = 0 ∧ win0_1.index t 1 = t.val % 4) ∧ (win0_2.index t 0 = 0 ∧ win0_2.index t 1 = 0)
    ∧ (win0_3.index t 0 = t.val % 4 ∧ win0_3.index t 1 = t.val / 4) := by
  decide +kernel

/-- One entry of the block the body writes. -/
theorem out_apply (c : Dev nD) (A : Mat 16384 1024) (B : Mat 1024 8192) (g : Line 512) (hA : V c main_arg0 = A) (hB : V c main_v1 = B)
    (hg : ∀ j, V c main_v5 (ix2 0 j) = g (ix1 j)) (t : Fin cfg0.N)
    (p : Fin 512) (q : Fin 2048) (r : Fin 16384) (d : Fin 8192) (hr : r.val = 512 * (t.val / 4) + p.val) (hd : d.val = 2048 * (t.val % 4) + q.val) :
    out0_3 (iblk0 V c 0 t) (iblk0 V c 1 t) (iblk0 V c 2 t) (ix2 q p) = heads (b := 512) lanes (by decide) (times A B : Mat 16384 8192) g r d := by
  obtain ⟨⟨a0, a1⟩, ⟨b0, b1⟩, ⟨c0, c1⟩, -⟩ := index_at t
  unfold out0_3
  rw [View.canon_unit_zero Ffn.GateUp.hz2, View.ld_unit_zero Ffn.GateUp.hz2, View.ld_unit_zero Ffn.GateUp.hz2, View.ld_unit_zero Ffn.GateUp.hz2]
  refine (queries_apply _ _ _ q p).trans (heads_congr _ (by decide) (by decide) _ _ _ _ _ _ _ _ (4 * (t.val % 4)) (by omega) (fun e e' he => ?_) (fun j => ?_))
  · refine (queriesDot_apply _ _ p e).trans (dot_congr _ _ _ _ _ _ _ _ (fun f => ?_) (fun f => ?_))
    · refine (congrArg (V c main_arg0 : Mat 16384 1024) (at_pair _ r f ?_ ?_)).trans (congrFun hA _)
      · show win0_0.index t 0 * 512 + 1 * p.val = r.val
        rw [a0]; omega
      · show win0_0.index t 1 * 1024 + 1 * f.val = f.val
        rw [a1]; omega
    · refine (congrArg (V c main_v1 : Mat 1024 8192) (at_pair _ f e' ?_ ?_)).trans (congrFun hB _)
      · show win0_1.index t 0 * 1024 + 1 * f.val = f.val
        rw [b0]; omega
      · show win0_1.index t 1 * 2048 + 1 * e.val = e'.val
        rw [b1]; omega
  · refine (congrArg (V c main_v5 : Mat 1 512) (at_pair _ 0 j ?_ ?_)).trans (hg j)
    · show win0_2.index t 0 * 1 + 1 * 0 = 0
      rw [c0]
    · show win0_2.index t 1 * 512 + 1 * j.val = j.val
      rw [c1]; omega

/-- What point `t` writes back is its block of the queries. -/
theorem flushed_eq (c : Dev nD) (A : Mat 16384 1024) (B : Stack 1024 16 512) (g : Line 512) (hA : V c main_arg0 = A) (hB : V c main_v1 = flat 8192 rfl B)
    (hg : ∀ j, V c main_v5 (ix2 0 j) = g (ix1 j)) (t : Fin cfg0.N) :
    (dat0 V c).flushed 3 t = (win0_3.blk t).view.read (Elt Ideal) (queriesOf A B g) := by
  show (cfg0.win 3).cut (grid0.coords t) ((dat0 V c).after 3 t) = _
  rw [after0_3]
  funext y
  have hN : cfg0.N = 128 := N_0
  have ht := t.isLt
  obtain ⟨e0, e1⟩ := (index_at t).2.2.2
  have h0 : (y 0).val < 2048 := (y 0).isLt
  have h1 : (y 1).val < 512 := (y 1).isLt
  have key := out_apply V c A _ g hA hB hg t (y 1) (y 0) ⟨512 * (t.val / 4) + (y 1).val, by omega⟩ ⟨2048 * (t.val % 4) + (y 0).val, by omega⟩ rfl rfl
  refine Eq.trans (congrArg (out0_3 (iblk0 V c 0 t) (iblk0 V c 1 t) (iblk0 V c 2 t)) (at_pair _ _ _ rfl rfl)) (key.trans ?_)
  refine congrArg₂ (heads (b := 512) lanes (by decide) (times A (flat 8192 rfl B) : Mat 16384 8192) g) ?_ ?_
  · exact Fin.ext (by show _ = win0_3.index t 1 * 512 + 1 * (y 1).val; rw [e1]; dsimp only; omega)
  · exact Fin.ext (by show _ = win0_3.index t 0 * 2048 + 1 * (y 0).val; rw [e0]; dsimp only; omega)

/-- Every entry of the queries lies in some point's block. -/
theorem cover (i : S8192x16384.Idx) : ∃ t : Fin cfg0.N, (cfg0.win 3).flush t = true ∧ i ∈ ((cfg0.win 3).blk t).view.set := by
  have h0 : (i 0).val < 8192 := (i 0).isLt
  have h1 : (i 1).val < 16384 := (i 1).isLt
  have hN : cfg0.N = 128 := N_0
  obtain ⟨t, ht⟩ : ∃ t : Fin cfg0.N, t.val = (i 1).val / 512 * 4 + (i 0).val / 2048 := ⟨⟨_, by omega⟩, rfl⟩
  refine ⟨t, flush0_3 t, ?_⟩
  obtain ⟨e0, e1⟩ := (index_at t).2.2.2
  show i ∈ ((View.whole main_v6).slice (win0_3.rect t)).set
  rw [View.set_slice_whole, Rect.mem_set_unit]
  intro a
  match a with
  | ⟨0, _⟩ =>
    show win0_3.index t 0 * 2048 ≤ (i 0).val ∧ (i 0).val < win0_3.index t 0 * 2048 + 2048
    rw [e0]; omega
  | ⟨1, _⟩ =>
    show win0_3.index t 1 * 512 ≤ (i 1).val ∧ (i 1).val < win0_3.index t 1 * 512 + 512
    rw [e1]; omega

/-- The first call leaves the attention's queries. -/
theorem final (c : Dev nD) (A : Mat 16384 1024) (B : Stack 1024 16 512) (g : Line 512) (hA : V c main_arg0 = A) (hB : V c main_v1 = flat 8192 rfl B)
    (hg : ∀ j, V c main_v5 (ix2 0 j) = g (ix1 j)) : (dat0 V c).arrAt 3 cfg0.N = queriesOf A B g :=
  (dat0 V c).arrAt_eq_of_cover 3 (queriesOf A B g) (fun t _ => flushed_eq V c A B g hA hB hg t) cover

end Queries

namespace Picks

/-- Where each window's block sits at grid point `t`: row block `t / 4`, the weights' column block `t % 4`. -/
theorem index_at : ∀ t : Fin cfg1.N,
    (win1_0.index t 0 = t.val / 4 ∧ win1_0.index t 1 = 0) ∧ (win1_1.index t 0 = 0 ∧ win1_1.index t 1 = t.val % 4)
    ∧ (win1_2.index t 0 = t.val % 4 ∧ win1_2.index t 1 = t.val / 4) := by
  decide +kernel

/-- One entry of the block the body writes. -/
theorem out_apply (c : Dev nD) (A : Mat 16384 1024) (B : Mat 1024 4096) (hA : V c main_arg0 = A) (hB : V c main_v8 = B) (t : Fin cfg1.N)
    (p q : Fin 1024) (r : Fin 16384) (d : Fin 4096) (hr : r.val = 1024 * (t.val / 4) + p.val) (hd : d.val = 1024 * (t.val % 4) + q.val) :
    out1_2 (iblk1 V c 0 t) (iblk1 V c 1 t) (ix2 q p) = dot A B r d := by
  obtain ⟨⟨a0, a1⟩, ⟨b0, b1⟩, -⟩ := index_at t
  unfold out1_2
  rw [View.canon_unit_zero Ffn.GateUp.hz2, View.ld_unit_zero Ffn.GateUp.hz2, View.ld_unit_zero Ffn.GateUp.hz2]
  refine (picks_apply _ _ q p).trans (dot_congr _ _ _ _ _ _ _ _ (fun f => ?_) (fun f => ?_))
  · refine (congrArg (V c main_arg0 : Mat 16384 1024) (at_pair _ r f ?_ ?_)).trans (congrFun hA _)
    · show win1_0.index t 0 * 1024 + 1 * p.val = r.val
      rw [a0]; omega
    · show win1_0.index t 1 * 1024 + 1 * f.val = f.val
      rw [a1]; omega
  · refine (congrArg (V c main_v8 : Mat 1024 4096) (at_pair _ f d ?_ ?_)).trans (congrFun hB _)
    · show win1_1.index t 0 * 1024 + 1 * f.val = f.val
      rw [b0]; omega
    · show win1_1.index t 1 * 1024 + 1 * q.val = d.val
      rw [b1]; omega

/-- What point `t` writes back is its block of the indexer's queries. -/
theorem flushed_eq (c : Dev nD) (A : Mat 16384 1024) (B : Stack 1024 32 128) (hA : V c main_arg0 = A) (hB : V c main_v8 = flat 4096 rfl B) (t : Fin cfg1.N) :
    (dat1 V c).flushed 2 t = (win1_2.blk t).view.read (Elt Ideal) (picksOf A B) := by
  show (cfg1.win 2).cut (grid1.coords t) ((dat1 V c).after 2 t) = _
  rw [after1_2]
  funext y
  have hN : cfg1.N = 64 := N_1
  have ht := t.isLt
  obtain ⟨e0, e1⟩ := (index_at t).2.2
  have h0 : (y 0).val < 1024 := (y 0).isLt
  have h1 : (y 1).val < 1024 := (y 1).isLt
  have key := out_apply V c A _ hA hB t (y 1) (y 0) ⟨1024 * (t.val / 4) + (y 1).val, by omega⟩ ⟨1024 * (t.val % 4) + (y 0).val, by omega⟩ rfl rfl
  refine Eq.trans (congrArg (out1_2 (iblk1 V c 0 t) (iblk1 V c 1 t)) (at_pair _ _ _ rfl rfl)) (key.trans ?_)
  refine congrArg₂ (dot A (flat 4096 rfl B)) ?_ ?_
  · exact Fin.ext (by show _ = win1_2.index t 1 * 1024 + 1 * (y 1).val; rw [e1]; dsimp only; omega)
  · exact Fin.ext (by show _ = win1_2.index t 0 * 1024 + 1 * (y 0).val; rw [e0]; dsimp only; omega)

/-- Every entry of the indexer's queries lies in some point's block. -/
theorem cover (i : S4096x16384.Idx) : ∃ t : Fin cfg1.N, (cfg1.win 2).flush t = true ∧ i ∈ ((cfg1.win 2).blk t).view.set := by
  have h0 : (i 0).val < 4096 := (i 0).isLt
  have h1 : (i 1).val < 16384 := (i 1).isLt
  have hN : cfg1.N = 64 := N_1
  obtain ⟨t, ht⟩ : ∃ t : Fin cfg1.N, t.val = (i 1).val / 1024 * 4 + (i 0).val / 1024 := ⟨⟨_, by omega⟩, rfl⟩
  refine ⟨t, flush1_2 t, ?_⟩
  obtain ⟨e0, e1⟩ := (index_at t).2.2
  show i ∈ ((View.whole main_v9).slice (win1_2.rect t)).set
  rw [View.set_slice_whole, Rect.mem_set_unit]
  intro a
  match a with
  | ⟨0, _⟩ =>
    show win1_2.index t 0 * 1024 ≤ (i 0).val ∧ (i 0).val < win1_2.index t 0 * 1024 + 1024
    rw [e0]; omega
  | ⟨1, _⟩ =>
    show win1_2.index t 1 * 1024 ≤ (i 1).val ∧ (i 1).val < win1_2.index t 1 * 1024 + 1024
    rw [e1]; omega

/-- The second call leaves the indexer's queries. -/
theorem final (c : Dev nD) (A : Mat 16384 1024) (B : Stack 1024 32 128) (hA : V c main_arg0 = A) (hB : V c main_v8 = flat 4096 rfl B) :
    (dat1 V c).arrAt 2 cfg1.N = picksOf A B :=
  (dat1 V c).arrAt_eq_of_cover 2 (picksOf A B) (fun t _ => flushed_eq V c A B hA hB t) cover

end Picks

end Cert.DsaProj

end
-- ==== Proof.DsaRun.lean ====
/- The sparse mixer's query projections in one run: what the two result arrays hold when @main ends. -/
module

public import proofs.«01_k».proof.Proof.DsaProj
public import Idealize.ShloMosaic.Lib.StableHlo.Run
public import Idealize.ShloMosaic.Lib.StableHlo.RunHlo
public import Idealize.ShloMosaic.Lib.Claim

@[expose] public section

set_option maxRecDepth 16384

noncomputable section

namespace Cert.DsaProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DsaInIdeal Cert.DsaInIdeal.Gen
open Cert.Ffn (Mat)
open Cert.EvenProj (Line)

local notation "𝕄" => MT nD τ sig Unit (Elt Ideal) ℕ (UR sig nD τ) ℕ

variable (m : (ℓ : Loc nD τ sig) → Buf (Elt Ideal) ℓ) (ρ : Dev nD → PrngReg)

/-- The heads' weights side by side, for the queries. -/
theorem flatQueries_apply (B : Stack 1024 16 512) : truncf (F := Ideal) .bf16 (shapeCast S1024x8192 (B : FVec Ideal S1024x16x512 .f32) shapeCasts_S1024x16x512_S1024x8192) bitsLt_bf16_f32
    = flat 8192 rfl B := by
  funext y
  obtain ⟨f, d, rfl⟩ : ∃ (f : Fin 1024) (d : Fin 8192), y = ix2 f d := ⟨y 0, y 1, Heads.at_pair _ _ _ rfl rfl⟩
  unfold flat
  pointwise

/-- The heads' weights side by side, for the indexer. -/
theorem flatPicks_apply (B : Stack 1024 32 128) : truncf (F := Ideal) .bf16 (shapeCast S1024x4096 (B : FVec Ideal S1024x32x128 .f32) shapeCasts_S1024x32x128_S1024x4096) bitsLt_bf16_f32
    = flat 4096 rfl B := by
  funext y
  obtain ⟨f, d, rfl⟩ : ∃ (f : Fin 1024) (d : Fin 4096), y = ix2 f d := ⟨y 0, y 1, Heads.at_pair _ _ _ rfl rfl⟩
  unfold flat
  pointwise

/-- The queries' gains as a one-row matrix. -/
theorem gains_apply (g : Line 512) (j : Fin 512) :
    shapeCast S1x512 (shapeCast S512 (broadcastInDim S1x512 ![0, 1] bcast_S1x512_S1x512_0_1 (shapeCast S1x512 g shapeCasts_S512_S1x512)) shapeCasts_S1x512_S512)
      shapeCasts_S512_S1x512 (ix2 0 j) = g (ix1 j) := by
  pointwise

/-- The weights the first call reads. -/
theorem V1_w (c : Dev nD) : V1 m ρ c main_v1 = flat 8192 rfl (m ((c : Thread nD τ).loc main_arg1) : Stack 1024 16 512) := by
  refine Eq.trans ?_ (flatQueries_apply (m ((c : Thread nD τ).loc main_arg1)))
  unfold_abbrev_sides
  after_results
  rfl

/-- The gains the first call reads. -/
theorem V1_g (c : Dev nD) (j : Fin 512) : V1 m ρ c main_v5 (ix2 0 j) = (m ((c : Thread nD τ).loc main_arg2) : Line 512) (ix1 j) := by
  refine (congrFun ?_ (ix2 0 j)).trans (gains_apply (m ((c : Thread nD τ).loc main_arg2)) j)
  unfold_abbrev_sides
  after_results
  rfl

/-- The weights the second call reads. -/
theorem V3_w (c : Dev nD) : V3 m ρ c main_v8 = flat 4096 rfl (m ((c : Thread nD τ).loc main_arg3) : Stack 1024 32 128) := by
  refine Eq.trans ?_ ((flatPicks_apply (W2 m ρ c (Proc.devRef .tc main_arg3))).trans (congrArg (flat 4096 rfl) (W2_args m ρ c main_arg3 (by decide))))
  unfold_abbrev_sides
  after_results
  rfl

/-- What the first result array holds at the end. -/
theorem queries (c : Dev nD) : W4 m ρ c (Proc.devRef .tc main_v6) = queriesOf (m ((c : Thread nD τ).loc main_arg0)) (m ((c : Thread nD τ).loc main_arg1)) (m ((c : Thread nD τ).loc main_arg2)) :=
  (W4_of m ρ c main_v6 (by decide)).trans ((W3_of m ρ c main_v6 (by decide)).trans
    ((W2_arr m ρ c 3).trans (Queries.final (V1 m ρ) c _ _ _ (W1_args m ρ c main_arg0 (by decide)) (V1_w m ρ c) (V1_g m ρ c))))

/-- What the second result array holds at the end. -/
theorem picks (c : Dev nD) : W4 m ρ c (Proc.devRef .tc main_v9) = picksOf (m ((c : Thread nD τ).loc main_arg0)) (m ((c : Thread nD τ).loc main_arg3)) :=
  (W4_arr m ρ c 2).trans (Picks.final (V3 m ρ) c _ _ (W3_args m ρ c main_arg0 (by decide)) (V3_w m ρ c))

set_option backward.isDefEq.respectTransparency.types false in
/-- Every weakly fair run ends with the two results in their arrays and the arguments as launched. -/
theorem run : θ_run defs (onTc (τ := τ) (main (F := Ideal))) ⟨m, fun _ => 0, ρ⟩ (fun r => ∀ c : Dev nD,
      r.2.mem ((c.tc : Thread nD τ).loc main_v6) = queriesOf (m ((c : Thread nD τ).loc main_arg0)) (m ((c : Thread nD τ).loc main_arg1)) (m ((c : Thread nD τ).loc main_arg2))
      ∧ r.2.mem ((c.tc : Thread nD τ).loc main_v9) = picksOf (m ((c : Thread nD τ).loc main_arg0)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v6 (by decide))).trans (queries m ρ c),
       (h c _ (mem_uc main_v9 (by decide))).trans (picks m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.DsaProj

end
-- ==== Proof.DsaRef.lean ====
/- The sparse mixer's query projections' reference read at an index: the same sums. -/
module

public import proofs.«01_k».proof.Proof.DsaRows
public import proofs.«01_k».proof.Proof.Gen.DsaInReferenceIdeal
public import proofs.«01_k».proof.Proof.Gen.DsaInReferenceIdeal.Run
public import proofs.«01_k».proof.Proof.Gen.DsaInReferenceIdeal.Read
public import Idealize.ShloMosaic.Lib.KernelVsHost
public import Idealize.ShloMosaic.Lib.IdealHost

@[expose] public section

set_option maxRecDepth 16384

noncomputable section

namespace Cert.DsaProj.Ref

open Idealize.ShloMosaic
open Cert.DsaInReferenceIdeal Cert.DsaInReferenceIdeal.Gen Cert.DsaInReferenceIdeal.Read
open Cert.Ffn (Mat)
open Cert.EvenProj (Line dot times)
open Cert.Heads (normed heads_at at_pair)
open scoped BigOperators

variable (A : Mat 16384 1024) (B : Stack 1024 16 512) (g : Line 512) (C : Stack 1024 32 128)

/-- A query before the norm. -/
theorem proj_apply (r : Fin 16384) (a : Fin 16) (j : Fin 512) : val_main_v1 (F := Ideal) A B (ix3 r a j) = ∑ k : Fin 1024, A (ix2 r k) * B (ix3 k a j) := by
  rw [val_main_v1_apply]
  refine Finset.sum_congr rfl fun k _ => congrArg₂ (· * ·) ?_ ?_
  · exact congrArg A (funext fun a => by match a with | ⟨0, _⟩ => rfl | ⟨1, _⟩ => rfl)
  · exact congrArg B (funext fun a => by match a with | ⟨0, _⟩ => rfl | ⟨1, _⟩ => rfl | ⟨2, _⟩ => rfl)

/-- The sum of squares of a query. -/
theorem squares_apply (r : Fin 16384) (a : Fin 16) :
    val_main_v3 (F := Ideal) A B (ix2 r a) = ∑ j : Fin 512, val_main_v1 (F := Ideal) A B (ix3 r a j) * val_main_v1 (F := Ideal) A B (ix3 r a j) := by
  rw [val_main_v3_apply]
  have z : val_main_cst (F := Ideal) (fun a => a.elim0) = 0 := by
    show Ideal.ofBits .f32 0x00000000#32 = 0
    exact Ideal.ofBits_zero .f32
  refine (congrArg₂ (· + ·) (?_ : _ = (0 : EReal)) (Finset.sum_congr rfl fun j _ => ?_)).trans (zero_add _)
  · exact z
  · rw [val_main_v2_apply]
    generalize val_main_v1 (F := Ideal) A B = u
    exact congrArg (fun i => u i * u i) (funext fun a => by match a with | ⟨0, _⟩ => rfl | ⟨1, _⟩ => rfl | ⟨2, _⟩ => rfl)

/-- A normed query. -/
theorem query_apply (r : Fin 16384) (a : Fin 16) (k : Fin 512) :
    val_main_v14 (F := Ideal) A B g (ix3 r a k) = normed lanes (fun j => val_main_v1 (F := Ideal) A B (ix3 r a j)) g k := by
  have e := squares_apply A B r a
  unfold val_main_v14 val_main_v13 val_main_v12 val_main_v11 val_main_v10 val_main_v9 val_main_v8 val_main_v7 val_main_v6 val_main_v5 val_main_v4 val_main_cst_0 val_main_cst_1 normed
  rw [← e]
  generalize val_main_v3 (F := Ideal) A B = y
  generalize val_main_v1 (F := Ideal) A B = u
  pointwise

/-- The reference's queries are the kernel's. -/
theorem queries_eq : val_main_v19 (F := Ideal) A B g = queriesOf A B g := by
  funext y
  obtain ⟨d, r, rfl⟩ : ∃ (d : Fin 8192) (r : Fin 16384), y = ix2 d r := ⟨y 0, y 1, at_pair _ _ _ rfl rfl⟩
  have e := query_apply A B g r ⟨d.val / 512, by omega⟩ ⟨d.val % 512, by omega⟩
  unfold val_main_v19 val_main_v18 val_main_v15
  generalize val_main_v14 (F := Ideal) A B g = z at e ⊢
  pointwise
  exact e.trans (heads_at _ (by decide) _ g r d (d.val / 512) _ (by show d.val = 512 * (d.val / 512) + d.val % 512; omega) _
    fun j e' he => (proj_apply A B r _ j).trans (column rfl A B r _ j e' he))

/-- The indexer's queries, head by head. -/
theorem picks_apply (r : Fin 16384) (a : Fin 32) (j : Fin 128) : val_main_v16 (F := Ideal) A C (ix3 r a j) = ∑ k : Fin 1024, A (ix2 r k) * C (ix3 k a j) := by
  rw [val_main_v16_apply]
  refine Finset.sum_congr rfl fun k _ => congrArg₂ (· * ·) ?_ ?_
  · exact congrArg A (funext fun a => by match a with | ⟨0, _⟩ => rfl | ⟨1, _⟩ => rfl)
  · exact congrArg C (funext fun a => by match a with | ⟨0, _⟩ => rfl | ⟨1, _⟩ => rfl | ⟨2, _⟩ => rfl)

/-- The reference's indexer queries are the kernel's. -/
theorem picks_eq : val_main_v21 (F := Ideal) A C = picksOf A C := by
  funext y
  obtain ⟨d, r, rfl⟩ : ∃ (d : Fin 4096) (r : Fin 16384), y = ix2 d r := ⟨y 0, y 1, at_pair _ _ _ rfl rfl⟩
  have e := picks_apply A C r ⟨d.val / 128, by omega⟩ ⟨d.val % 128, by omega⟩
  unfold val_main_v21 val_main_v20 val_main_v17
  generalize val_main_v16 (F := Ideal) A C = z at e ⊢
  pointwise
  exact e.trans (column rfl A C r _ _ d (by show d.val = 128 * (d.val / 128) + d.val % 128; omega))

end Cert.DsaProj.Ref

end
-- ==== Proof.CrossRows.lean ====
/- Attention of the tokens to the memory as plain sums, and the bodies of its calls read at an index. -/
module

public import proofs.«01_k».proof.Proof.EvenProj
public import proofs.«01_k».proof.Proof.DsaRows
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame

@[expose] public section

set_option maxRecDepth 16384

noncomputable section

namespace Cert.Cross

open Idealize.ShloMosaic Idealize.ShloMosaic.TcCoe Idealize.SL.Sem
open Cert.Ffn (Mat)
open Cert.EvenProj (Line dot dot_congr times scaled scaledRows)
open Cert.Heads (normed normed_congr spot)
open Cert.DsaProj (Stack flat)
open scoped BigOperators

/-- The count of a head's lanes, the divisor of its mean. -/
abbrev lanes : EReal := Ideal.ofBits FTy.f32 1124073472#32

/-- How far a token's head agrees with memory row `s`: both normed, multiplied lane by lane and summed, times the layer's scale. -/
def level (u : Fin 128 → EReal) (K : Fin 256 → Fin 128 → EReal) (qg kg : Line 128) (s : Fin 256) : EReal :=
  (∑ j : Fin 128, normed lanes u qg j * normed lanes (K s) kg j) * Ideal.ofBits FTy.f32 0x3DB504F3#32

/-- The largest of a row. -/
def top (L : Fin 256 → EReal) : EReal := Finset.univ.fold max (Ideal.ofBits FTy.f32 0xFF800000#32) L

/-- The softmax of a row at `s`. -/
def share (L : Fin 256 → EReal) (s : Fin 256) : EReal := Ideal.div (Ideal.exp (L s - top L)) (∑ x : Fin 256, Ideal.exp (L x - top L))

/-- One head's result in one lane: the memory's values weighted by the softmax of the levels. -/
def one (u : Fin 128 → EReal) (K : Fin 256 → Fin 128 → EReal) (v : Fin 256 → EReal) (qg kg : Line 128) : EReal :=
  ∑ s : Fin 256, share (level u K qg kg) s * v s

/-- Column `d` of token `r`'s attention to the memory rows `row s`, the heads side by side in the columns. -/
def attend {n m : ℕ} (Q : Mat n 512) (K V : Mat m 512) (qg kg : Line 128) (row : Fin 256 → Fin m) (r : Fin n) (d : Fin 512) : EReal :=
  one (fun i => Q (ix2 r (spot (b := 128) (by decide) d i))) (fun s i => K (ix2 (row s) (spot (b := 128) (by decide) d i))) (fun s => V (ix2 (row s) d)) qg kg

/-- One head's result depends only on the entries it reads. -/
theorem one_congr (u u' : Fin 128 → EReal) (K K' : Fin 256 → Fin 128 → EReal) (v v' : Fin 256 → EReal) (qg qg' kg kg' : Line 128) (hu : ∀ i, u i = u' i)
    (hK : ∀ s i, K s i = K' s i) (hv : ∀ s, v s = v' s) (hq : ∀ j, qg (ix1 j) = qg' (ix1 j)) (hk : ∀ j, kg (ix1 j) = kg' (ix1 j)) :
    one u K v qg kg = one u' K' v' qg' kg' := by
  have e : level u K qg kg = level u' K' qg' kg' := funext fun s => by
    unfold level
    rw [Finset.sum_congr rfl fun j _ => congrArg₂ (· * ·) (normed_congr lanes u u' qg qg' j j hu hq rfl) (normed_congr lanes (K s) (K' s) kg kg' j j (hK s) hk rfl)]
  unfold one
  rw [e]
  exact Finset.sum_congr rfl fun s _ => congrArg (share _ s * ·) (hv s)

/-- The memory row token `r` sees at place `s`: the rows of its own sequence's memory. -/
def seen (r : Fin 16384) (s : Fin 256) : Fin 512 := ⟨256 * (r.val / 8192) + s.val, by omega⟩

/-- A matrix plus the attention's columns against the output weights. -/
def mixed {n m : ℕ} (X : Mat n 4096) (Q : Mat n 512) (K V : Mat m 512) (qg kg : Line 128) (row : Fin n → Fin 256 → Fin m) (Wo : Mat 512 4096) : Mat n 4096 :=
  fun y => X (ix2 (y 0) (y 1)) + ∑ d : Fin 512, attend Q K V qg kg (row (y 0)) (y 0) d * Wo (ix2 d (y 1))

open Cert.CrossIdeal Cert.CrossIdeal.Gen

/-- The memory's rows, scaled. -/
theorem memory_apply (x : Vec Ideal S256x4096 .f32) (g : Vec Ideal S1x4096 .f32) (p : Fin 256) (k : Fin 4096) :
    k0_pay1 (F := Ideal) x g (ix2 p k) = scaled (x : Mat 256 4096) (fun y => g (ix2 0 (y 0))) p k := by
  unfold k0_pay1 scaled
  pointwise

/-- One entry of the keys' product. -/
theorem keys_apply (a : Vec Ideal S512x4096 .bf16) (w : Vec Ideal S4096x512 .bf16) (p q : Fin 512) :
    k1_pay1 (F := Ideal) a w (ix2 p q) = dot (a : Mat 512 4096) (w : Mat 4096 512) p q := by
  unfold k1_pay1 dot
  pointwise

/-- One entry of the values' product. -/
theorem values_apply (a : Vec Ideal S512x4096 .bf16) (w : Vec Ideal S4096x512 .bf16) (p q : Fin 512) :
    k2_pay1 (F := Ideal) a w (ix2 p q) = dot (a : Mat 512 4096) (w : Mat 4096 512) p q := by
  unfold k2_pay1 dot
  pointwise

/-- One entry of the tokens' product, before the heads' norm. -/
theorem tokens_apply (x : Vec Ideal S256x4096 .f32) (g : Vec Ideal S1x4096 .f32) (w : Vec Ideal S4096x512 .bf16) (p : Fin 256) (q : Fin 512) :
    k3_pay4 (F := Ideal) x g w (ix2 p q) = dot (scaledRows (x : Mat 256 4096) (fun y => g (ix2 0 (y 0)))) (w : Mat 4096 512) p q := by
  unfold k3_pay4 k3_pay3 dot scaledRows scaled
  pointwise

/-- The first head. -/
theorem head0_apply (x : Vec Ideal S256x4096 .f32) (gx : Vec Ideal S1x4096 .f32) (w : Vec Ideal S4096x512 .bf16) (qg kg : Vec Ideal S1x128 .f32) (k : Vec Ideal S256x128 .f32)
    (v : Vec Ideal S256x128 .bf16) (p : Fin 256) (l : Fin 128) :
    k3_pay7 (F := Ideal) (k3_pay5 x gx w qg) (k3_pay6 k) kg v (ix2 p l)
      = one (fun i => k3_pay4 (F := Ideal) x gx w (ix2 p ⟨i.val, by omega⟩)) (fun s i => k (ix2 s i)) (fun s => v (ix2 s l)) (fun y => qg (ix2 0 (y 0))) (fun y => kg (ix2 0 (y 0))) := by
  unfold k3_pay7 k3_pay5 k3_pay6
  generalize k3_pay4 (F := Ideal) x gx w = z
  unfold one share top level normed
  pointwise

/-- The second head. -/
theorem head1_apply (z : Vec Ideal S256x512 .f32) (qg kg : Vec Ideal S1x128 .f32) (k : Vec Ideal S256x128 .f32) (v : Vec Ideal S256x128 .bf16) (p : Fin 256) (l : Fin 128) :
    k3_pay10 (F := Ideal) (k3_pay8 z) (k3_pay9 qg) k kg v (ix2 p l)
      = one (fun i => z (ix2 p ⟨128 + i.val, by omega⟩)) (fun s i => k (ix2 s i)) (fun s => v (ix2 s l)) (fun y => qg (ix2 0 (y 0))) (fun y => kg (ix2 0 (y 0))) := by
  unfold k3_pay10 k3_pay8 k3_pay9 one share top level normed
  pointwise

/-- The third head. -/
theorem head2_apply (z : Vec Ideal S256x512 .f32) (qg kg : Vec Ideal S1x128 .f32) (k : Vec Ideal S256x128 .f32) (v : Vec Ideal S256x128 .bf16) (p : Fin 256) (l : Fin 128) :
    k3_pay14 (F := Ideal) (k3_pay11 z) (k3_pay12 qg) (k3_pay13 z) (Scalar.ofBits .f32 0x43000000#32) k kg v (ix2 p l)
      = one (fun i => z (ix2 p ⟨256 + i.val, by omega⟩)) (fun s i => k (ix2 s i)) (fun s => v (ix2 s l)) (fun y => qg (ix2 0 (y 0))) (fun y => kg (ix2 0 (y 0))) := by
  unfold k3_pay14 k3_pay13 k3_pay12 k3_pay11 one share top level normed
  pointwise

/-- The last head's softmax. -/
theorem share3_apply (z : Vec Ideal S256x512 .f32) (qg kg : Vec Ideal S1x128 .f32) (k : Vec Ideal S256x128 .f32) (p s : Fin 256) :
    k3_pay16 (F := Ideal) (k3_pay15 z) qg k kg (ix2 p s)
      = share (level (fun i => z (ix2 p ⟨384 + i.val, by omega⟩)) (fun s i => k (ix2 s i)) (fun y => qg (ix2 0 (y 0))) (fun y => kg (ix2 0 (y 0)))) s := by
  unfold k3_pay16 k3_pay15 share top level normed
  pointwise

/-- One entry of the block of tokens the body leaves, from its heads' columns `O`. -/
theorem sum_apply (x : FVec Ideal S256x4096 .f32) (a b c : FVec Ideal S256x128 .bf16) (s : FVec Ideal S256x256 .f32) (v : Vec Ideal S256x128 .bf16) (w : Vec Ideal S512x4096 .bf16)
    (O : Fin 512 → EReal) (p : Fin 256) (k : Fin 4096)
    (h0 : ∀ (l : Fin 128) (d : Fin 512), d.val = l.val → a (ix2 p l) = O d) (h1 : ∀ (l : Fin 128) (d : Fin 512), d.val = 128 + l.val → b (ix2 p l) = O d)
    (h2 : ∀ (l : Fin 128) (d : Fin 512), d.val = 256 + l.val → c (ix2 p l) = O d)
    (h3 : ∀ (l : Fin 128) (d : Fin 512), d.val = 384 + l.val → (∑ i : Fin 256, s (ix2 p i) * v (ix2 i l)) = O d) :
    k3_pay1 (F := Ideal) x a b c s v w (ix2 p k) = x (ix2 p k) + ∑ d : Fin 512, O d * w (ix2 d k) := by
  unfold k3_pay1
  pointwise
  refine congrArg (x (ix2 p k) + ·) (Finset.sum_congr rfl fun d _ => congrArg (· * w (ix2 d k)) ?_)
  split_ifs <;> first
    | exact h0 _ d (by dsimp only)
    | exact h1 _ d (by dsimp only; omega)
    | exact h2 _ d (by dsimp only; omega)
    | exact h3 ⟨d.val - 128 - 128 - 128, by omega⟩ d (by dsimp only; omega)

/-- The second result's body scales the rows of the first's. -/
theorem rows_apply (x : FVec Ideal S256x4096 .f32) (a b c : FVec Ideal S256x128 .bf16) (s : FVec Ideal S256x256 .f32) (v : Vec Ideal S256x128 .bf16) (w : Vec Ideal S512x4096 .bf16)
    (g : Vec Ideal S1x4096 .f32) (p : Fin 256) (k : Fin 4096) :
    k3_pay2 (F := Ideal) x a b c s v w g (ix2 p k) = scaled (k3_pay1 (F := Ideal) x a b c s v w : Mat 256 4096) (fun y => g (ix2 0 (y 0))) p k := by
  unfold k3_pay2
  generalize k3_pay1 (F := Ideal) x a b c s v w = y
  unfold scaled
  pointwise

end Cert.Cross

end
-- ==== Proof.CrossProj.lean ====
/- Attention of the tokens to the memory: what each of the four calls leaves. -/
module

public import proofs.«01_k».proof.Proof.CrossRows

@[expose] public section

set_option maxRecDepth 16384

noncomputable section

namespace Cert.Cross

open Idealize.ShloMosaic Idealize.ShloMosaic.TcCoe Idealize.SL.Sem
open Cert.Ffn (Mat)
open Cert.EvenProj (Line dot dot_congr times scaled scaledRows)
open Cert.EvenProj.Rows (scaled_congr)
open Cert.Heads (at_pair spot)
open Cert.CrossIdeal Cert.CrossIdeal.Gen

variable (V : (c : Dev nD) → (b : Ref sig .tc) → Buf (Elt Ideal) ((c : Thread nD τ).loc b))

namespace Memory

/-- Where each window's block sits at grid point `t`: row block `t`. -/
theorem index_at : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) := by
  decide +kernel

/-- One entry of the block the body writes is the scaled row's. -/
theorem out_apply (c : Dev nD) (M : Mat 512 4096) (g : Line 4096) (hM : V c main_v0 = M) (hg : ∀ k, V c main_v1 (ix2 0 k) = g (ix1 k))
    (t : Fin cfg0.N) (p : Fin 256) (k : Fin 4096) (r : Fin 512) (hr : r.val = 256 * t.val + p.val) :
    out0_2 (iblk0 V c 0 t) (iblk0 V c 1 t) (ix2 p k) = scaled M g r k := by
  obtain ⟨⟨a0, a1⟩, ⟨b0, b1⟩, -⟩ := index_at t
  unfold out0_2
  rw [View.canon_unit_zero Ffn.GateUp.hz2, View.ld_unit_zero Ffn.GateUp.hz2, View.ld_unit_zero Ffn.GateUp.hz2]
  refine (memory_apply _ _ p k).trans (scaled_congr _ _ _ _ _ _ (fun j => ?_) (fun j => ?_) k)
  · refine (congrArg (V c main_v0 : Mat 512 4096) (at_pair _ r j ?_ ?_)).trans (congrFun hM _)
    · show win0_0.index t 0 * 256 + 1 * p.val = r.val
      rw [a0]; omega
    · show win0_0.index t 1 * 4096 + 1 * j.val = j.val
      rw [a1]; omega
  · refine (congrArg (V c main_v1 : Mat 1 4096) (at_pair _ 0 j ?_ ?_)).trans (hg j)
    · show win0_1.index t 0 * 1 + 1 * 0 = 0
      rw [b0]
    · show win0_1.index t 1 * 4096 + 1 * j.val = j.val
      rw [b1]; omega

/-- What point `t` writes back is its block of the scaled rows. -/
theorem flushed_eq (c : Dev nD) (M : Mat 512 4096) (g : Line 4096) (hM : V c main_v0 = M) (hg : ∀ k, V c main_v1 (ix2 0 k) = g (ix1 k)) (t : Fin cfg0.N) :
    (dat0 V c).flushed 2 t = (win0_2.blk t).view.read (Elt Ideal) (scaledRows M g) := by
  show (cfg0.win 2).cut (grid0.coords t) ((dat0 V c).after 2 t) = _
  rw [after0_2]
  funext y
  have hN : cfg0.N = 2 := N_0
  have ht := t.isLt
  obtain ⟨e0, e1⟩ := (index_at t).2.2
  have h0 : (y 0).val < 256 := (y 0).isLt
  have h1 : (y 1).val < 4096 := (y 1).isLt
  have key := out_apply V c M g hM hg t (y 0) (y 1) ⟨256 * t.val + (y 0).val, by omega⟩ rfl
  refine Eq.trans (congrArg (out0_2 (iblk0 V c 0 t) (iblk0 V c 1 t)) (at_pair _ _ _ rfl rfl)) (key.trans ?_)
  refine congrArg₂ (scaled M g) ?_ ?_
  · exact Fin.ext (by show _ = win0_2.index t 0 * 256 + 1 * (y 0).val; rw [e0]; dsimp only; omega)
  · exact Fin.ext (by show _ = win0_2.index t 1 * 4096 + 1 * (y 1).val; rw [e1]; omega)

/-- Every entry of the scaled rows lies in some point's block. -/
theorem cover (i : S512x4096.Idx) : ∃ t : Fin cfg0.N, (cfg0.win 2).flush t = true ∧ i ∈ ((cfg0.win 2).blk t).view.set := by
  have h0 : (i 0).val < 512 := (i 0).isLt
  have h1 : (i 1).val < 4096 := (i 1).isLt
  have hN : cfg0.N = 2 := N_0
  obtain ⟨t, ht⟩ : ∃ t : Fin cfg0.N, t.val = (i 0).val / 256 := ⟨⟨_, by omega⟩, rfl⟩
  refine ⟨t, flush0_2 t, ?_⟩
  obtain ⟨e0, e1⟩ := (index_at t).2.2
  show i ∈ ((View.whole main_v2).slice (win0_2.rect t)).set
  rw [View.set_slice_whole, Rect.mem_set_unit]
  intro a
  match a with
  | ⟨0, _⟩ =>
    show win0_2.index t 0 * 256 ≤ (i 0).val ∧ (i 0).val < win0_2.index t 0 * 256 + 256
    rw [e0]; omega
  | ⟨1, _⟩ =>
    show win0_2.index t 1 * 4096 ≤ (i 1).val ∧ (i 1).val < win0_2.index t 1 * 4096 + 4096
    rw [e1]; omega

/-- The first call leaves the memory's scaled rows. -/
theorem final (c : Dev nD) (M : Mat 512 4096) (g : Line 4096) (hM : V c main_v0 = M) (hg : ∀ k, V c main_v1 (ix2 0 k) = g (ix1 k)) :
    (dat0 V c).arrAt 2 cfg0.N = scaledRows M g :=
  (dat0 V c).arrAt_eq_of_cover 2 (scaledRows M g) (fun t _ => flushed_eq V c M g hM hg t) cover

end Memory

namespace Keys

/-- Every window's block is its whole array. -/
theorem index_at : ∀ t : Fin cfg1.N,
    (win1_0.index t 0 = 0 ∧ win1_0.index t 1 = 0) ∧ (win1_1.index t 0 = 0 ∧ win1_1.index t 1 = 0) ∧ (win1_2.index t 0 = 0 ∧ win1_2.index t 1 = 0) := by
  decide +kernel

/-- What the one point writes back is the product. -/
theorem flushed_eq (c : Dev nD) (A : Mat 512 4096) (B : Mat 4096 512) (hA : V c main_v2 = A) (hB : V c main_v5 = B) (t : Fin cfg1.N) :
    (dat1 V c).flushed 2 t = (win1_2.blk t).view.read (Elt Ideal) (times A B) := by
  show (cfg1.win 2).cut (grid1.coords t) ((dat1 V c).after 2 t) = _
  rw [after1_2]
  funext y
  obtain ⟨⟨a0, a1⟩, ⟨b0, b1⟩, e0, e1⟩ := index_at t
  have key : out1_2 (iblk1 V c 0 t) (iblk1 V c 1 t) (ix2 (y 0) (y 1)) = dot A B (y 0) (y 1) := by
    unfold out1_2
    rw [View.canon_unit_zero Ffn.GateUp.hz2, View.ld_unit_zero Ffn.GateUp.hz2, View.ld_unit_zero Ffn.GateUp.hz2]
    refine (keys_apply _ _ (y 0) (y 1)).trans (dot_congr _ _ _ _ _ _ _ _ (fun f => ?_) (fun f => ?_))
    · refine (congrArg (V c main_v2 : Mat 512 4096) (at_pair _ (y 0) f ?_ ?_)).trans (congrFun hA _)
      · show win1_0.index t 0 * 512 + 1 * (y 0).val = (y 0).val
        rw [a0]; omega
      · show win1_0.index t 1 * 4096 + 1 * f.val = f.val
        rw [a1]; omega
    · refine (congrArg (V c main_v5 : Mat 4096 512) (at_pair _ f (y 1) ?_ ?_)).trans (congrFun hB _)
      · show win1_1.index t 0 * 4096 + 1 * f.val = f.val
        rw [b0]; omega
      · show win1_1.index t 1 * 512 + 1 * (y 1).val = (y 1).val
        rw [b1]; omega
  refine Eq.trans (congrArg (out1_2 (iblk1 V c 0 t) (iblk1 V c 1 t)) (at_pair _ _ _ rfl rfl)) (key.trans ?_)
  refine congrArg₂ (dot A B) ?_ ?_
  · exact Fin.ext (by show _ = win1_2.index t 0 * 512 + 1 * (y 0).val; rw [e0]; omega)
  · exact Fin.ext (by show _ = win1_2.index t 1 * 512 + 1 * (y 1).val; rw [e1]; omega)

/-- Every entry of the product lies in the one point's block. -/
theorem cover (i : S512x512.Idx) : ∃ t : Fin cfg1.N, (cfg1.win 2).flush t = true ∧ i ∈ ((cfg1.win 2).blk t).view.set := by
  have h0 : (i 0).val < 512 := (i 0).isLt
  have h1 : (i 1).val < 512 := (i 1).isLt
  have hN : cfg1.N = 1 := N_1
  obtain ⟨t, ht⟩ : ∃ t : Fin cfg1.N, t.val = 0 := ⟨⟨0, by omega⟩, rfl⟩
  refine ⟨t, flush1_2 t, ?_⟩
  obtain ⟨e0, e1⟩ := (index_at t).2.2
  show i ∈ ((View.whole main_v6).slice (win1_2.rect t)).set
  rw [View.set_slice_whole, Rect.mem_set_unit]
  intro a
  match a with
  | ⟨0, _⟩ =>
    show win1_2.index t 0 * 512 ≤ (i 0).val ∧ (i 0).val < win1_2.index t 0 * 512 + 512
    rw [e0]; omega
  | ⟨1, _⟩ =>
    show win1_2.index t 1 * 512 ≤ (i 1).val ∧ (i 1).val < win1_2.index t 1 * 512 + 512
    rw [e1]; omega

/-- The call leaves the product. -/
theorem final (c : Dev nD) (A : Mat 512 4096) (B : Mat 4096 512) (hA : V c main_v2 = A) (hB : V c main_v5 = B) : (dat1 V c).arrAt 2 cfg1.N = times A B :=
  (dat1 V c).arrAt_eq_of_cover 2 (times A B) (fun t _ => flushed_eq V c A B hA hB t) cover

end Keys

namespace Values

/-- Every window's block is its whole array. -/
theorem index_at : ∀ t : Fin cfg2.N,
    (win2_0.index t 0 = 0 ∧ win2_0.index t 1 = 0) ∧ (win2_1.index t 0 = 0 ∧ win2_1.index t 1 = 0) ∧ (win2_2.index t 0 = 0 ∧ win2_2.index t 1 = 0) := by
  decide +kernel

/-- What the one point writes back is the product. -/
theorem flushed_eq (c : Dev nD) (A : Mat 512 4096) (B : Mat 4096 512) (hA : V c main_v2 = A) (hB : V c main_v8 = B) (t : Fin cfg2.N) :
    (dat2 V c).flushed 2 t = (win2_2.blk t).view.read (Elt Ideal) (times A B) := by
  show (cfg2.win 2).cut (grid2.coords t) ((dat2 V c).after 2 t) = _
  rw [after2_2]
  funext y
  obtain ⟨⟨a0, a1⟩, ⟨b0, b1⟩, e0, e1⟩ := index_at t
  have key : out2_2 (iblk2 V c 0 t) (iblk2 V c 1 t) (ix2 (y 0) (y 1)) = dot A B (y 0) (y 1) := by
    unfold out2_2
    rw [View.canon_unit_zero Ffn.GateUp.hz2, View.ld_unit_zero Ffn.GateUp.hz2, View.ld_unit_zero Ffn.GateUp.hz2]
    refine (values_apply _ _ (y 0) (y 1)).trans (dot_congr _ _ _ _ _ _ _ _ (fun f => ?_) (fun f => ?_))
    · refine (congrArg (V c main_v2 : Mat 512 4096) (at_pair _ (y 0) f ?_ ?_)).trans (congrFun hA _)
      · show win2_0.index t 0 * 512 + 1 * (y 0).val = (y 0).val
        rw [a0]; omega
      · show win2_0.index t 1 * 4096 + 1 * f.val = f.val
        rw [a1]; omega
    · refine (congrArg (V c main_v8 : Mat 4096 512) (at_pair _ f (y 1) ?_ ?_)).trans (congrFun hB _)
      · show win2_1.index t 0 * 4096 + 1 * f.val = f.val
        rw [b0]; omega
      · show win2_1.index t 1 * 512 + 1 * (y 1).val = (y 1).val
        rw [b1]; omega
  refine Eq.trans (congrArg (out2_2 (iblk2 V c 0 t) (iblk2 V c 1 t)) (at_pair _ _ _ rfl rfl)) (key.trans ?_)
  refine congrArg₂ (dot A B) ?_ ?_
  · exact Fin.ext (by show _ = win2_2.index t 0 * 512 + 1 * (y 0).val; rw [e0]; omega)
  · exact Fin.ext (by show _ = win2_2.index t 1 * 512 + 1 * (y 1).val; rw [e1]; omega)

/-- Every entry of the product lies in the one point's block. -/
theorem cover (i : S512x512.Idx) : ∃ t : Fin cfg2.N, (cfg2.win 2).flush t = true ∧ i ∈ ((cfg2.win 2).blk t).view.set := by
  have h0 : (i 0).val < 512 := (i 0).isLt
  have h1 : (i 1).val < 512 := (i 1).isLt
  have hN : cfg2.N = 1 := N_2
  obtain ⟨t, ht⟩ : ∃ t : Fin cfg2.N, t.val = 0 := ⟨⟨0, by omega⟩, rfl⟩
  refine ⟨t, flush2_2 t, ?_⟩
  obtain ⟨e0, e1⟩ := (index_at t).2.2
  show i ∈ ((View.whole main_v9).slice (win2_2.rect t)).set
  rw [View.set_slice_whole, Rect.mem_set_unit]
  intro a
  match a with
  | ⟨0, _⟩ =>
    show win2_2.index t 0 * 512 ≤ (i 0).val ∧ (i 0).val < win2_2.index t 0 * 512 + 512
    rw [e0]; omega
  | ⟨1, _⟩ =>
    show win2_2.index t 1 * 512 ≤ (i 1).val ∧ (i 1).val < win2_2.index t 1 * 512 + 512
    rw [e1]; omega

/-- The call leaves the product. -/
theorem final (c : Dev nD) (A : Mat 512 4096) (B : Mat 4096 512) (hA : V c main_v2 = A) (hB : V c main_v8 = B) : (dat2 V c).arrAt 2 cfg2.N = times A B :=
  (dat2 V c).arrAt_eq_of_cover 2 (times A B) (fun t _ => flushed_eq V c A B hA hB t) cover

end Values

end Cert.Cross

end
-- ==== Proof.CrossMix.lean ====
/- Attention of the tokens to the memory: what the last call leaves. -/
module

public import proofs.«01_k».proof.Proof.CrossRows

@[expose] public section

set_option maxRecDepth 16384

noncomputable section

namespace Cert.Cross

open Idealize.ShloMosaic Idealize.ShloMosaic.TcCoe Idealize.SL.Sem
open Cert.Ffn (Mat Cube rows)
open Cert.EvenProj (Line dot dot_congr times scaled scaledRows)
open Cert.EvenProj.Rows (scaled_congr)
open Cert.Heads (at_pair spot)
open Cert.DsaProj (Stack flat)
open scoped BigOperators
open Cert.CrossIdeal Cert.CrossIdeal.Gen

/-- A row of gains as a vector. -/
abbrev gains {n : ℕ} (g : Mat 1 n) : Line n := fun y => g (ix2 0 (y 0))

/-- A load of 128 columns from column `o` on, at an index. -/
theorem ld_at {e : EltTy} (X : Vec Ideal S256x512 e) (o : ℕ) (inb) (s : Fin 256) (i : Fin 128) (d : Fin 512) (h : d.val = o + i.val) :
    View.ld X (Rect.unit (s := S256x512) ![0, o] S256x128.size inb) (ix2 s i) = X (ix2 s d) :=
  congrArg X (at_pair _ s d (by show 0 + 1 * s.val = s.val; omega) (by show o + 1 * i.val = d.val; omega))

/-- A head's result in one lane is its column of the attention, when the columns it loads are its own. -/
theorem head_at (Q : Mat 256 512) (K : Vec Ideal S256x512 .f32) (W : Vec Ideal S256x512 .bf16) (qg kg : Line 128) (o e : ℕ) (ho : o = 128 * e) (inb inb') (p : Fin 256)
    (l : Fin 128) (d : Fin 512) (hd : d.val = o + l.val) (u : Fin 128 → EReal) (hu : ∀ (i : Fin 128) (c : Fin 512), c.val = o + i.val → u i = Q (ix2 p c)) :
    one u (fun s i => View.ld K (Rect.unit (s := S256x512) ![0, o] S256x128.size inb) (ix2 s i))
        (fun s => View.ld W (Rect.unit (s := S256x512) ![0, o] S256x128.size inb') (ix2 s l)) qg kg
      = attend Q (K : Mat 256 512) (W : Mat 256 512) qg kg (fun s => s) p d := by
  have hs : ∀ i : Fin 128, (spot (b := 128) (w := 512) (by decide) d i).val = o + i.val := fun i => by
    show 128 * (d.val / 128) + i.val = _
    have := l.isLt
    omega
  exact one_congr _ _ _ _ _ _ _ _ _ _ (fun i => hu i _ (hs i)) (fun s i => ld_at K o inb s i _ (hs i)) (fun s => ld_at W o inb' s l d hd) (fun _ => rfl) (fun _ => rfl)

section
variable (x0 : Vec Ideal S256x4096 .f32) (x1 : Vec Ideal S1x4096 .f32) (x2 : Vec Ideal S4096x512 .bf16) (x3 : Vec Ideal S256x512 .f32) (x4 : Vec Ideal S256x512 .bf16)
  (x5 x6 : Vec Ideal S1x128 .f32) (x7 : Vec Ideal S512x4096 .bf16) (x8 : Vec Ideal S1x4096 .f32)

/-- One entry of the first result's block, from the blocks read. -/
theorem body_apply (p : Fin 256) (k : Fin 4096) :
    out3_9 x0 x1 x2 x3 x4 x5 x6 x7 x8 (ix2 p k)
      = mixed (x0 : Mat 256 4096) (times (scaledRows (x0 : Mat 256 4096) (gains x1)) (x2 : Mat 4096 512)) (x3 : Mat 256 512) (x4 : Mat 256 512) (gains x5) (gains x6) (fun _ s => s)
          (x7 : Mat 512 4096) (ix2 p k) := by
  unfold out3_9 k3_pay17 k3_pay19 k3_pay20 k3_pay21 k3_pay22 k3_pay18
  rw [View.canon_unit_zero Ffn.GateUp.hz2]
  have l0 : View.ld x0 r3_0 = x0 := View.ld_unit_zero Ffn.GateUp.hz2 _ _
  have l1 : View.ld x1 r3_1 = x1 := View.ld_unit_zero Ffn.GateUp.hz2 _ _
  have l2 : View.ld x2 r3_2 = x2 := View.ld_unit_zero Ffn.GateUp.hz2 _ _
  have l5 : View.ld x5 r3_3 = x5 := View.ld_unit_zero Ffn.GateUp.hz2 _ _
  have l6 : View.ld x6 r3_3 = x6 := View.ld_unit_zero Ffn.GateUp.hz2 _ _
  have l7 : View.ld x7 r3_8 = x7 := View.ld_unit_zero Ffn.GateUp.hz2 _ _
  rw [l0, l1, l2, l5, l6, l7]
  have hq : ∀ (c c' : Fin 512), c.val = c'.val → k3_pay4 (F := Ideal) x0 x1 x2 (ix2 p c)
      = times (scaledRows (x0 : Mat 256 4096) (gains x1)) (x2 : Mat 4096 512) (ix2 p c') := fun c c' h => by
    rw [Fin.ext h]
    exact tokens_apply x0 x1 x2 p c'
  refine (sum_apply _ _ _ _ _ _ _ (attend (times (scaledRows (x0 : Mat 256 4096) (gains x1)) (x2 : Mat 4096 512)) (x3 : Mat 256 512) (x4 : Mat 256 512) (gains x5) (gains x6)
    (fun s => s) p) p k (fun l d hd => ?_) (fun l d hd => ?_) (fun l d hd => ?_) (fun l d hd => ?_)).trans ?_
  · exact (head0_apply x0 x1 x2 x5 x6 _ _ p l).trans (head_at _ x3 x4 _ _ 0 0 rfl _ _ p l d (by omega) _ fun i c hc => hq _ c (by dsimp only; omega))
  · exact (head1_apply _ x5 x6 _ _ p l).trans (head_at _ x3 x4 _ _ 128 1 rfl _ _ p l d hd _ fun i c hc => hq _ c hc.symm)
  · exact (head2_apply _ x5 x6 _ _ p l).trans (head_at _ x3 x4 _ _ 256 2 rfl _ _ p l d hd _ fun i c hc => hq _ c hc.symm)
  · exact (Finset.sum_congr rfl fun s _ => congrArg (· * View.ld x4 r3_7 (ix2 s l)) (share3_apply _ x5 x6 _ p s)).trans
      (head_at _ x3 x4 _ _ 384 3 rfl _ _ p l d hd _ fun i c hc => hq _ c hc.symm)
  · have e : k3_pay3 (F := Ideal) x0 (ix2 p k) = x0 (ix2 p k) := by
      unfold k3_pay3
      pointwise
    exact congrArg (· + ∑ d : Fin 512, attend (times (scaledRows (x0 : Mat 256 4096) (gains x1)) (x2 : Mat 4096 512)) (x3 : Mat 256 512) (x4 : Mat 256 512) (gains x5) (gains x6)
      (fun s => s) p d * x7 (ix2 d k)) e

/-- One entry of the second result's block scales the first's rows. -/
theorem body_rows (p : Fin 256) (k : Fin 4096) :
    out3_10 x0 x1 x2 x3 x4 x5 x6 x7 x8 (ix2 p k) = scaled (out3_9 x0 x1 x2 x3 x4 x5 x6 x7 x8 : Mat 256 4096) (gains x8) p k := by
  unfold out3_10 out3_9
  rw [View.canon_unit_zero Ffn.GateUp.hz2, View.canon_unit_zero Ffn.GateUp.hz2]
  have l8 : View.ld x8 r3_1 = x8 := View.ld_unit_zero Ffn.GateUp.hz2 _ _
  rw [l8]
  exact rows_apply _ _ _ _ _ _ _ x8 p k

end

/-- Two entries of the sum agree where the rows, the tokens' products, the memory's and the weights do. -/
theorem mixed_congr {n n' m m' : ℕ} (X : Mat n 4096) (X' : Mat n' 4096) (Q : Mat n 512) (Q' : Mat n' 512) (K W : Mat m 512) (K' W' : Mat m' 512) (qg qg' kg kg' : Line 128)
    (row : Fin n → Fin 256 → Fin m) (row' : Fin n' → Fin 256 → Fin m') (Wo Wo' : Mat 512 4096) (r : Fin n) (r' : Fin n') (k : Fin 4096)
    (hX : X (ix2 r k) = X' (ix2 r' k)) (hQ : ∀ c, Q (ix2 r c) = Q' (ix2 r' c)) (hK : ∀ s c, K (ix2 (row r s) c) = K' (ix2 (row' r' s) c))
    (hW : ∀ s c, W (ix2 (row r s) c) = W' (ix2 (row' r' s) c)) (hq : ∀ j, qg (ix1 j) = qg' (ix1 j)) (hk : ∀ j, kg (ix1 j) = kg' (ix1 j))
    (hWo : ∀ d, Wo (ix2 d k) = Wo' (ix2 d k)) : mixed X Q K W qg kg row Wo (ix2 r k) = mixed X' Q' K' W' qg' kg' row' Wo' (ix2 r' k) :=
  congrArg₂ (· + ·) hX (Finset.sum_congr rfl fun d _ => congrArg₂ (· * ·)
    (one_congr _ _ _ _ _ _ _ _ _ _ (fun _ => hQ _) (fun s _ => hK s _) (fun s => hW s d) hq hk) (hWo d))

/-- The tokens with the attention added. -/
def mixOf (X : Mat 16384 4096) (g : Line 4096) (Wq : Mat 4096 512) (K W : Mat 512 512) (qg kg : Line 128) (Wo : Mat 512 4096) : Mat 16384 4096 :=
  mixed X (times (scaledRows X g) Wq) K W qg kg seen Wo

/-- A batch of two memories as one matrix of rows. -/
def pages (x : Cube 2 256 4096) : Mat 512 4096 := fun y => x (ix3 ⟨(y 0).val / 256, by have h : (y 0).val < 512 := (y 0).isLt; omega⟩ ⟨(y 0).val % 256, Nat.mod_lt _ (by omega)⟩ (y 1))

/-- The tokens with the attention to their memory added, from the argument arrays. -/
def tokensOf (x : Cube 2 8192 4096) (mem : Cube 2 256 4096) (mg g : Line 4096) (wq wk wv : Stack 4096 4 128) (qg kg : Line 128) (wo : Mat 512 4096) : Mat 16384 4096 :=
  mixOf (rows x) g (flat 512 rfl wq) (times (scaledRows (pages mem) mg) (flat 512 rfl wk)) (times (scaledRows (pages mem) mg) (flat 512 rfl wv)) qg kg wo

namespace Mix

variable (V : (c : Dev nD) → (b : Ref sig .tc) → Buf (Elt Ideal) ((c : Thread nD τ).loc b))

/-- What the last call's operands hold. -/
structure Reads (c : Dev nD) (X : Mat 16384 4096) (g : Line 4096) (Wq : Mat 4096 512) (K W : Mat 512 512) (qg kg : Line 128) (Wo : Mat 512 4096) (h : Line 4096) : Prop where
  /-- The tokens. -/
  x : V c main_v3 = X
  /-- The tokens' gains. -/
  g : ∀ k, V c main_v13 (ix2 0 k) = g (ix1 k)
  /-- The query weights. -/
  wq : V c main_v11 = Wq
  /-- The memory's keys. -/
  k : V c main_v6 = K
  /-- The memory's values. -/
  v : V c main_v9 = W
  /-- The queries' gains. -/
  qg : ∀ j, V c main_v14 (ix2 0 j) = qg (ix1 j)
  /-- The keys' gains. -/
  kg : ∀ j, V c main_v15 (ix2 0 j) = kg (ix1 j)
  /-- The output weights. -/
  wo : V c main_v12 = Wo
  /-- The second result's gains. -/
  h : ∀ k, V c main_v16 (ix2 0 k) = h (ix1 k)

/-- Where each window's block sits at grid point `t`: row block `t` of the tokens, row block `t / 32` of the memory. -/
theorem index_at : ∀ t : Fin cfg3.N,
    (win3_0.index t 0 = t.val ∧ win3_0.index t 1 = 0) ∧ (win3_1.index t 0 = 0 ∧ win3_1.index t 1 = 0) ∧ (win3_2.index t 0 = 0 ∧ win3_2.index t 1 = 0)
    ∧ (win3_3.index t 0 = t.val / 32 ∧ win3_3.index t 1 = 0) ∧ (win3_4.index t 0 = t.val / 32 ∧ win3_4.index t 1 = 0)
    ∧ (win3_5.index t 0 = 0 ∧ win3_5.index t 1 = 0) ∧ (win3_6.index t 0 = 0 ∧ win3_6.index t 1 = 0)
    ∧ (win3_7.index t 0 = 0 ∧ win3_7.index t 1 = 0) ∧ (win3_8.index t 0 = 0 ∧ win3_8.index t 1 = 0)
    ∧ (win3_9.index t 0 = t.val ∧ win3_9.index t 1 = 0) ∧ (win3_10.index t 0 = t.val ∧ win3_10.index t 1 = 0) := by
  decide +kernel

variable (c : Dev nD) (X : Mat 16384 4096) (g : Line 4096) (Wq : Mat 4096 512) (K W : Mat 512 512) (qg kg : Line 128) (Wo : Mat 512 4096) (h : Line 4096)

/-- One entry of the first result's block. -/
theorem out_apply (H : Reads V c X g Wq K W qg kg Wo h) (t : Fin cfg3.N) (p : Fin 256) (k : Fin 4096) (r : Fin 16384) (hr : r.val = 256 * t.val + p.val) :
    out3_9 (iblk3 V c 0 t) (iblk3 V c 1 t) (iblk3 V c 2 t) (iblk3 V c 3 t) (iblk3 V c 4 t) (iblk3 V c 5 t) (iblk3 V c 6 t) (iblk3 V c 7 t) (iblk3 V c 8 t) (ix2 p k)
      = mixOf X g Wq K W qg kg Wo (ix2 r k) := by
  obtain ⟨⟨a0, a1⟩, ⟨b0, b1⟩, ⟨c0, c1⟩, ⟨d0, d1⟩, ⟨e0, e1⟩, ⟨f0, f1⟩, ⟨g0, g1⟩, ⟨i0, i1⟩, -⟩ := index_at t
  have hx : ∀ j : Fin 4096, iblk3 V c 0 t (ix2 p j) = X (ix2 r j) := fun j => by
    refine (congrArg (V c main_v3 : Mat 16384 4096) (at_pair _ r j ?_ ?_)).trans (congrFun H.x _)
    · show win3_0.index t 0 * 256 + 1 * p.val = r.val
      rw [a0]; omega
    · show win3_0.index t 1 * 4096 + 1 * j.val = j.val
      rw [a1]; omega
  refine (body_apply _ _ _ _ _ _ _ _ _ p k).trans (mixed_congr _ _ _ _ _ _ _ _ _ _ _ _ _ _ _ _ _ _ _ (hx k) (fun q => ?_) (fun s q => ?_) (fun s q => ?_) (fun j => ?_) (fun j => ?_)
    (fun d => ?_))
  · refine dot_congr _ _ _ _ _ _ _ _ (fun f => scaled_congr _ _ _ _ _ _ hx (fun j => ?_) f) (fun f => ?_)
    · refine (congrArg (V c main_v13 : Mat 1 4096) (at_pair _ 0 j ?_ ?_)).trans (H.g j)
      · show win3_1.index t 0 * 1 + 1 * 0 = 0
        rw [b0]
      · show win3_1.index t 1 * 4096 + 1 * j.val = j.val
        rw [b1]; omega
    · refine (congrArg (V c main_v11 : Mat 4096 512) (at_pair _ f q ?_ ?_)).trans (congrFun H.wq _)
      · show win3_2.index t 0 * 4096 + 1 * f.val = f.val
        rw [c0]; omega
      · show win3_2.index t 1 * 512 + 1 * q.val = q.val
        rw [c1]; omega
  · refine (congrArg (V c main_v6 : Mat 512 512) (at_pair _ (seen r s) q ?_ ?_)).trans (congrFun H.k _)
    · show win3_3.index t 0 * 256 + 1 * s.val = 256 * (r.val / 8192) + s.val
      rw [d0]; omega
    · show win3_3.index t 1 * 512 + 1 * q.val = q.val
      rw [d1]; omega
  · refine (congrArg (V c main_v9 : Mat 512 512) (at_pair _ (seen r s) q ?_ ?_)).trans (congrFun H.v _)
    · show win3_4.index t 0 * 256 + 1 * s.val = 256 * (r.val / 8192) + s.val
      rw [e0]; omega
    · show win3_4.index t 1 * 512 + 1 * q.val = q.val
      rw [e1]; omega
  · refine (congrArg (V c main_v14 : Mat 1 128) (at_pair _ 0 j ?_ ?_)).trans (H.qg j)
    · show win3_5.index t 0 * 1 + 1 * 0 = 0
      rw [f0]
    · show win3_5.index t 1 * 128 + 1 * j.val = j.val
      rw [f1]; omega
  · refine (congrArg (V c main_v15 : Mat 1 128) (at_pair _ 0 j ?_ ?_)).trans (H.kg j)
    · show win3_6.index t 0 * 1 + 1 * 0 = 0
      rw [g0]
    · show win3_6.index t 1 * 128 + 1 * j.val = j.val
      rw [g1]; omega
  · refine (congrArg (V c main_v12 : Mat 512 4096) (at_pair _ d k ?_ ?_)).trans (congrFun H.wo _)
    · show win3_7.index t 0 * 512 + 1 * d.val = d.val
      rw [i0]; omega
    · show win3_7.index t 1 * 4096 + 1 * k.val = k.val
      rw [i1]; omega

/-- One entry of the second result's block. -/
theorem rows_out (H : Reads V c X g Wq K W qg kg Wo h) (t : Fin cfg3.N) (p : Fin 256) (k : Fin 4096) (r : Fin 16384) (hr : r.val = 256 * t.val + p.val) :
    out3_10 (iblk3 V c 0 t) (iblk3 V c 1 t) (iblk3 V c 2 t) (iblk3 V c 3 t) (iblk3 V c 4 t) (iblk3 V c 5 t) (iblk3 V c 6 t) (iblk3 V c 7 t) (iblk3 V c 8 t) (ix2 p k)
      = scaled (mixOf X g Wq K W qg kg Wo) h r k := by
  obtain ⟨j0, j1⟩ := (index_at t).2.2.2.2.2.2.2.2.1
  refine (body_rows _ _ _ _ _ _ _ _ _ p k).trans (scaled_congr _ _ _ _ _ _ (fun j => out_apply V c X g Wq K W qg kg Wo h H t p j r hr) (fun j => ?_) k)
  refine (congrArg (V c main_v16 : Mat 1 4096) (at_pair _ 0 j ?_ ?_)).trans (H.h j)
  · show win3_8.index t 0 * 1 + 1 * 0 = 0
    rw [j0]
  · show win3_8.index t 1 * 4096 + 1 * j.val = j.val
    rw [j1]; omega

/-- What point `t` writes back of the first result is its block of the sum. -/
theorem flushed_eq (H : Reads V c X g Wq K W qg kg Wo h) (t : Fin cfg3.N) :
    (dat3 V c).flushed 9 t = (win3_9.blk t).view.read (Elt Ideal) (mixOf X g Wq K W qg kg Wo) := by
  show (cfg3.win 9).cut (grid3.coords t) ((dat3 V c).after 9 t) = _
  rw [after3_9]
  funext y
  have hN : cfg3.N = 64 := N_3
  have ht := t.isLt
  obtain ⟨e0, e1⟩ := (index_at t).2.2.2.2.2.2.2.2.2.1
  have h0 : (y 0).val < 256 := (y 0).isLt
  have h1 : (y 1).val < 4096 := (y 1).isLt
  have key := out_apply V c X g Wq K W qg kg Wo h H t (y 0) (y 1) ⟨256 * t.val + (y 0).val, by omega⟩ rfl
  refine Eq.trans (congrArg (out3_9 (iblk3 V c 0 t) (iblk3 V c 1 t) (iblk3 V c 2 t) (iblk3 V c 3 t) (iblk3 V c 4 t) (iblk3 V c 5 t) (iblk3 V c 6 t) (iblk3 V c 7 t) (iblk3 V c 8 t))
    (at_pair _ _ _ rfl rfl)) (key.trans ?_)
  refine congrArg (mixOf X g Wq K W qg kg Wo) (at_pair _ _ _ ?_ ?_).symm
  · show win3_9.index t 0 * 256 + 1 * (y 0).val = 256 * t.val + (y 0).val
    rw [e0]; omega
  · show win3_9.index t 1 * 4096 + 1 * (y 1).val = (y 1).val
    rw [e1]; omega

/-- What point `t` writes back of the second result is its block of the scaled rows. -/
theorem flushed_rows (H : Reads V c X g Wq K W qg kg Wo h) (t : Fin cfg3.N) :
    (dat3 V c).flushed 10 t = (win3_10.blk t).view.read (Elt Ideal) (scaledRows (mixOf X g Wq K W qg kg Wo) h) := by
  show (cfg3.win 10).cut (grid3.coords t) ((dat3 V c).after 10 t) = _
  rw [after3_10]
  funext y
  have hN : cfg3.N = 64 := N_3
  have ht := t.isLt
  obtain ⟨e0, e1⟩ := (index_at t).2.2.2.2.2.2.2.2.2.2
  have h0 : (y 0).val < 256 := (y 0).isLt
  have h1 : (y 1).val < 4096 := (y 1).isLt
  have key := rows_out V c X g Wq K W qg kg Wo h H t (y 0) (y 1) ⟨256 * t.val + (y 0).val, by omega⟩ rfl
  refine Eq.trans (congrArg (out3_10 (iblk3 V c 0 t) (iblk3 V c 1 t) (iblk3 V c 2 t) (iblk3 V c 3 t) (iblk3 V c 4 t) (iblk3 V c 5 t) (iblk3 V c 6 t) (iblk3 V c 7 t) (iblk3 V c 8 t))
    (at_pair _ _ _ rfl rfl)) (key.trans ?_)
  refine congrArg₂ (scaled (mixOf X g Wq K W qg kg Wo) h) ?_ ?_
  · exact Fin.ext (by show _ = win3_10.index t 0 * 256 + 1 * (y 0).val; rw [e0]; dsimp only; omega)
  · exact Fin.ext (by show _ = win3_10.index t 1 * 4096 + 1 * (y 1).val; rw [e1]; omega)

/-- Every entry of the first result lies in some point's block. -/
theorem cover (i : S16384x4096.Idx) : ∃ t : Fin cfg3.N, (cfg3.win 9).flush t = true ∧ i ∈ ((cfg3.win 9).blk t).view.set := by
  have h0 : (i 0).val < 16384 := (i 0).isLt
  have h1 : (i 1).val < 4096 := (i 1).isLt
  have hN : cfg3.N = 64 := N_3
  obtain ⟨t, ht⟩ : ∃ t : Fin cfg3.N, t.val = (i 0).val / 256 := ⟨⟨_, by omega⟩, rfl⟩
  refine ⟨t, flush3_9 t, ?_⟩
  obtain ⟨e0, e1⟩ := (index_at t).2.2.2.2.2.2.2.2.2.1
  show i ∈ ((View.whole main_v17_0).slice (win3_9.rect t)).set
  rw [View.set_slice_whole, Rect.mem_set_unit]
  intro a
  match a with
  | ⟨0, _⟩ =>
    show win3_9.index t 0 * 256 ≤ (i 0).val ∧ (i 0).val < win3_9.index t 0 * 256 + 256
    rw [e0]; omega
  | ⟨1, _⟩ =>
    show win3_9.index t 1 * 4096 ≤ (i 1).val ∧ (i 1).val < win3_9.index t 1 * 4096 + 4096
    rw [e1]; omega

/-- Every entry of the second result lies in some point's block. -/
theorem cover_rows (i : S16384x4096.Idx) : ∃ t : Fin cfg3.N, (cfg3.win 10).flush t = true ∧ i ∈ ((cfg3.win 10).blk t).view.set := by
  have h0 : (i 0).val < 16384 := (i 0).isLt
  have h1 : (i 1).val < 4096 := (i 1).isLt
  have hN : cfg3.N = 64 := N_3
  obtain ⟨t, ht⟩ : ∃ t : Fin cfg3.N, t.val = (i 0).val / 256 := ⟨⟨_, by omega⟩, rfl⟩
  refine ⟨t, flush3_10 t, ?_⟩
  obtain ⟨e0, e1⟩ := (index_at t).2.2.2.2.2.2.2.2.2.2
  show i ∈ ((View.whole main_v17_1).slice (win3_10.rect t)).set
  rw [View.set_slice_whole, Rect.mem_set_unit]
  intro a
  match a with
  | ⟨0, _⟩ =>
    show win3_10.index t 0 * 256 ≤ (i 0).val ∧ (i 0).val < win3_10.index t 0 * 256 + 256
    rw [e0]; omega
  | ⟨1, _⟩ =>
    show win3_10.index t 1 * 4096 ≤ (i 1).val ∧ (i 1).val < win3_10.index t 1 * 4096 + 4096
    rw [e1]; omega

/-- The last call leaves the sum in its first result. -/
theorem final (H : Reads V c X g Wq K W qg kg Wo h) : (dat3 V c).arrAt 9 cfg3.N = mixOf X g Wq K W qg kg Wo :=
  (dat3 V c).arrAt_eq_of_cover 9 (mixOf X g Wq K W qg kg Wo) (fun t _ => flushed_eq V c X g Wq K W qg kg Wo h H t) cover

/-- The last call leaves the sum's scaled rows in its second result. -/
theorem final_rows (H : Reads V c X g Wq K W qg kg Wo h) : (dat3 V c).arrAt 10 cfg3.N = scaledRows (mixOf X g Wq K W qg kg Wo) h :=
  (dat3 V c).arrAt_eq_of_cover 10 (scaledRows (mixOf X g Wq K W qg kg Wo) h) (fun t _ => flushed_rows V c X g Wq K W qg kg Wo h H t) cover_rows

end Mix

end Cert.Cross

end
-- ==== Proof.CrossRun.lean ====
/- Attention of the tokens to the memory in one run: what the two result arrays hold when @main ends. -/
module

public import proofs.«01_k».proof.Proof.CrossProj
public import proofs.«01_k».proof.Proof.CrossMix
public import Idealize.ShloMosaic.Lib.StableHlo.Run
public import Idealize.ShloMosaic.Lib.StableHlo.RunHlo
public import Idealize.ShloMosaic.Lib.Claim

@[expose] public section

set_option maxRecDepth 16384

noncomputable section

namespace Cert.Cross

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.CrossIdeal Cert.CrossIdeal.Gen
open Cert.Ffn (Mat Cube rows)
open Cert.EvenProj (Line times scaledRows)
open Cert.DsaProj (Stack flat)

local notation "𝕄" => MT nD τ sig Unit (Elt Ideal) ℕ (UR sig nD τ) ℕ

variable (m : (ℓ : Loc nD τ sig) → Buf (Elt Ideal) ℓ) (ρ : Dev nD → PrngReg)

/-- The heads' weights side by side. -/
theorem flat_apply (B : Stack 4096 4 128) : truncf (F := Ideal) .bf16 (shapeCast S4096x512 (B : FVec Ideal S4096x4x128 .f32) shapeCasts_S4096x4x128_S4096x512) bitsLt_bf16_f32
    = flat 512 rfl B := by
  funext y
  obtain ⟨f, d, rfl⟩ : ∃ (f : Fin 4096) (d : Fin 512), y = ix2 f d := ⟨y 0, y 1, Heads.at_pair _ _ _ rfl rfl⟩
  unfold flat
  pointwise

/-- The tokens' rows. -/
theorem rows_flat (x : Cube 2 8192 4096) : shapeCast S16384x4096 (x : FVec Ideal S2x8192x4096 .f32) shapeCasts_S2x8192x4096_S16384x4096 = rows x := by
  funext y
  obtain ⟨r, k, rfl⟩ : ∃ (r : Fin 16384) (k : Fin 4096), y = ix2 r k := ⟨y 0, y 1, Heads.at_pair _ _ _ rfl rfl⟩
  unfold rows
  pointwise

/-- The memory's rows. -/
theorem pages_flat (x : Cube 2 256 4096) : shapeCast S512x4096 (x : FVec Ideal S2x256x4096 .f32) shapeCasts_S2x256x4096_S512x4096 = pages x := by
  funext y
  obtain ⟨r, k, rfl⟩ : ∃ (r : Fin 512) (k : Fin 4096), y = ix2 r k := ⟨y 0, y 1, Heads.at_pair _ _ _ rfl rfl⟩
  unfold pages
  pointwise

/-- Gains as a one-row matrix. -/
theorem wide_gains (g : Line 4096) (k : Fin 4096) : shapeCast S1x4096 (g : FVec Ideal S4096 .f32) shapeCasts_S4096_S1x4096 (ix2 0 k) = g (ix1 k) := by
  pointwise

/-- A head's gains as a one-row matrix. -/
theorem head_gains (g : Line 128) (k : Fin 128) : shapeCast S1x128 (g : FVec Ideal S128 .f32) shapeCasts_S128_S1x128 (ix2 0 k) = g (ix1 k) := by
  pointwise

/-- The memory's rows after the first call. -/
theorem W2_rows (c : Dev nD) : W2 m ρ c (Proc.devRef .tc main_v2) = scaledRows (pages (m ((c : Thread nD τ).loc main_arg1))) (m ((c : Thread nD τ).loc main_arg2)) := by
  refine (W2_arr m ρ c 2).trans (Memory.final (V1 m ρ) c _ _ (Eq.trans ?_ (pages_flat (m ((c : Thread nD τ).loc main_arg1)))) fun k =>
    (congrFun ?_ (ix2 0 k)).trans (wide_gains (m ((c : Thread nD τ).loc main_arg2)) k))
  · unfold_abbrev_sides
    after_results
    rfl
  · unfold_abbrev_sides
    after_results
    rfl

/-- The memory's keys after the second call. -/
theorem W4_keys (c : Dev nD) : W4 m ρ c (Proc.devRef .tc main_v6)
    = times (scaledRows (pages (m ((c : Thread nD τ).loc main_arg1))) (m ((c : Thread nD τ).loc main_arg2))) (flat 512 rfl (m ((c : Thread nD τ).loc main_arg5))) := by
  refine (W4_arr m ρ c 2).trans (Keys.final (V3 m ρ) c _ _ ((W3_of m ρ c main_v2 (by decide)).trans (W2_rows m ρ c))
    (Eq.trans ?_ ((flat_apply (W2 m ρ c (Proc.devRef .tc main_arg5))).trans (congrArg (flat 512 rfl) (W2_args m ρ c main_arg5 (by decide))))))
  unfold_abbrev_sides
  after_results
  rfl

/-- The tokens' rows after the second call. -/
theorem W4_tokens (c : Dev nD) : W4 m ρ c (Proc.devRef .tc main_v3) = rows (m ((c : Thread nD τ).loc main_arg0)) := by
  refine (W4_of m ρ c main_v3 (by decide)).trans (Eq.trans ?_ ((rows_flat (W2 m ρ c (Proc.devRef .tc main_arg0))).trans (congrArg rows (W2_args m ρ c main_arg0 (by decide)))))
  unfold_abbrev_sides
  after_results
  rfl

/-- The memory's values after the third call. -/
theorem W6_values (c : Dev nD) : W6 m ρ c (Proc.devRef .tc main_v9)
    = times (scaledRows (pages (m ((c : Thread nD τ).loc main_arg1))) (m ((c : Thread nD τ).loc main_arg2))) (flat 512 rfl (m ((c : Thread nD τ).loc main_arg6))) := by
  refine (W6_arr m ρ c 2).trans (Values.final (V5 m ρ) c _ _
    ((W5_of m ρ c main_v2 (by decide)).trans ((W4_of m ρ c main_v2 (by decide)).trans ((W3_of m ρ c main_v2 (by decide)).trans (W2_rows m ρ c))))
    (Eq.trans ?_ ((flat_apply (W4 m ρ c (Proc.devRef .tc main_arg6))).trans (congrArg (flat 512 rfl) (W4_args m ρ c main_arg6 (by decide))))))
  unfold_abbrev_sides
  after_results
  rfl

/-- What the last call's operands hold. -/
theorem reads (c : Dev nD) : Mix.Reads (V7 m ρ) c (rows (m ((c : Thread nD τ).loc main_arg0))) (m ((c : Thread nD τ).loc main_arg3)) (flat 512 rfl (m ((c : Thread nD τ).loc main_arg4)))
    (times (scaledRows (pages (m ((c : Thread nD τ).loc main_arg1))) (m ((c : Thread nD τ).loc main_arg2))) (flat 512 rfl (m ((c : Thread nD τ).loc main_arg5)))) (times (scaledRows (pages (m ((c : Thread nD τ).loc main_arg1))) (m ((c : Thread nD τ).loc main_arg2))) (flat 512 rfl (m ((c : Thread nD τ).loc main_arg6)))) (m ((c : Thread nD τ).loc main_arg7)) (m ((c : Thread nD τ).loc main_arg8)) (m ((c : Thread nD τ).loc main_arg9)) (m ((c : Thread nD τ).loc main_arg10)) where
  x := (W7_of m ρ c main_v3 (by decide)).trans ((W6_of m ρ c main_v3 (by decide)).trans ((W5_of m ρ c main_v3 (by decide)).trans (W4_tokens m ρ c)))
  k := (W7_of m ρ c main_v6 (by decide)).trans ((W6_of m ρ c main_v6 (by decide)).trans ((W5_of m ρ c main_v6 (by decide)).trans (W4_keys m ρ c)))
  v := (W7_of m ρ c main_v9 (by decide)).trans (W6_values m ρ c)
  g := fun k => by
    refine (congrFun ?_ (ix2 0 k)).trans ((wide_gains (W6 m ρ c (Proc.devRef .tc main_arg3)) k).trans (congrFun (W6_args m ρ c main_arg3 (by decide)) (ix1 k)))
    unfold_abbrev_sides
    after_results
    rfl
  wq := by
    refine Eq.trans ?_ ((flat_apply (W6 m ρ c (Proc.devRef .tc main_arg4))).trans (congrArg (flat 512 rfl) (W6_args m ρ c main_arg4 (by decide))))
    unfold_abbrev_sides
    after_results
    rfl
  qg := fun k => by
    refine (congrFun ?_ (ix2 0 k)).trans ((head_gains (W6 m ρ c (Proc.devRef .tc main_arg7)) k).trans (congrFun (W6_args m ρ c main_arg7 (by decide)) (ix1 k)))
    unfold_abbrev_sides
    after_results
    rfl
  kg := fun k => by
    refine (congrFun ?_ (ix2 0 k)).trans ((head_gains (W6 m ρ c (Proc.devRef .tc main_arg8)) k).trans (congrFun (W6_args m ρ c main_arg8 (by decide)) (ix1 k)))
    unfold_abbrev_sides
    after_results
    rfl
  wo := by
    refine Eq.trans ?_ (W6_args m ρ c main_arg9 (by decide))
    unfold_abbrev_sides
    after_results
    rfl
  h := fun k => by
    refine (congrFun ?_ (ix2 0 k)).trans ((wide_gains (W6 m ρ c (Proc.devRef .tc main_arg10)) k).trans (congrFun (W6_args m ρ c main_arg10 (by decide)) (ix1 k)))
    unfold_abbrev_sides
    after_results
    rfl

/-- What the first result array holds at the end. -/
theorem tokens (c : Dev nD) : W8 m ρ c (Proc.devRef .tc main_v17_0) = tokensOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W8_arr m ρ c 9).trans (Mix.final (V7 m ρ) c _ _ _ _ _ _ _ _ _ (reads m ρ c))

/-- What the second result array holds at the end. -/
theorem normedTokens (c : Dev nD) : W8 m ρ c (Proc.devRef .tc main_v17_1) = scaledRows (tokensOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) :=
  (W8_arr m ρ c 10).trans (Mix.final_rows (V7 m ρ) c _ _ _ _ _ _ _ _ _ (reads m ρ c))

set_option backward.isDefEq.respectTransparency.types false in
/-- Every weakly fair run ends with the two results in their arrays and the arguments as launched. -/
theorem run : θ_run defs (onTc (τ := τ) (main (F := Ideal))) ⟨m, fun _ => 0, ρ⟩ (fun r => ∀ c : Dev nD,
      r.2.mem ((c.tc : Thread nD τ).loc main_v17_0) = tokensOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v17_1) = scaledRows (tokensOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v17_0 (by decide))).trans (tokens m ρ c),
       (h c _ (mem_uc main_v17_1 (by decide))).trans (normedTokens m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.Cross

end
-- ==== Proof.CrossRef.lean ====
/- Attention of the tokens to the memory: the reference read at an index, the same sums. -/
module

public import proofs.«01_k».proof.Proof.CrossMix
public import proofs.«01_k».proof.Proof.Gen.CrossReferenceIdeal
public import proofs.«01_k».proof.Proof.Gen.CrossReferenceIdeal.Run
public import proofs.«01_k».proof.Proof.Gen.CrossReferenceIdeal.Read
public import Idealize.ShloMosaic.Lib.KernelVsHost
public import Idealize.ShloMosaic.Lib.IdealHost

@[expose] public section

set_option maxRecDepth 16384

noncomputable section

namespace Cert.Cross.Ref

open Idealize.ShloMosaic
open Cert.CrossReferenceIdeal Cert.CrossReferenceIdeal.Gen Cert.CrossReferenceIdeal.Read
open Cert.Ffn (Mat Cube rows)
open Cert.EvenProj (Line dot times scaled scaledRows)
open Cert.EvenProj.Rows (scaled_congr)
open Cert.DsaProj (Stack flat column)
open Cert.Heads (normed normed_congr spot at_pair)
open scoped BigOperators

variable (x : Cube 2 8192 4096) (mem : Cube 2 256 4096) (mg g : Line 4096) (wq wk wv : Stack 4096 4 128) (qg kg : Line 128) (wo : Mat 512 4096) (fg : Line 4096)

/-- One member of a batch of two matrices. -/
def page {n : ℕ} (X : Cube 2 n 4096) (b : Fin 2) : Mat n 4096 := fun y => X (ix3 b (y 0) (y 1))

/-- The sum of squares of a row of the memory. -/
theorem memory_squares (b : Fin 2) (s : Fin 256) : val_main_v1 (F := Ideal) mem (ix2 b s) = ∑ j : Fin 4096, mem (ix3 b s j) * mem (ix3 b s j) := by
  rw [val_main_v1_apply]
  refine (congrArg₂ (· + ·) (Ideal.ofBits_zero .f32 : _ = (0 : EReal)) (Finset.sum_congr rfl fun j _ => ?_)).trans (zero_add _)
  rw [val_main_v0_apply]
  exact congrArg (fun i => mem i * mem i) (funext fun a => by match a with | ⟨0, _⟩ => rfl | ⟨1, _⟩ => rfl | ⟨2, _⟩ => rfl)

/-- The scaled rows of the memory. -/
theorem memory_scaled (b : Fin 2) (s : Fin 256) (k : Fin 4096) : val_main_v12 (F := Ideal) mem mg (ix3 b s k) = scaled (page mem b) mg s k := by
  have e := memory_squares mem b s
  unfold val_main_v12 val_main_v11 val_main_v10 val_main_v9 val_main_v8 val_main_v7 val_main_v6 val_main_v5 val_main_v4 val_main_v3 val_main_v2 val_main_cst_0 val_main_cst_1
  generalize val_main_v1 (F := Ideal) mem = y at e ⊢
  pointwise
  rw [e]
  rfl

/-- The sum of squares of a row of the tokens. -/
theorem token_squares (b : Fin 2) (s : Fin 8192) : val_main_v14 (F := Ideal) x (ix2 b s) = ∑ j : Fin 4096, x (ix3 b s j) * x (ix3 b s j) := by
  rw [val_main_v14_apply]
  refine (congrArg₂ (· + ·) (Ideal.ofBits_zero .f32 : _ = (0 : EReal)) (Finset.sum_congr rfl fun j _ => ?_)).trans (zero_add _)
  rw [val_main_v13_apply]
  exact congrArg (fun i => x i * x i) (funext fun a => by match a with | ⟨0, _⟩ => rfl | ⟨1, _⟩ => rfl | ⟨2, _⟩ => rfl)

/-- The scaled rows of the tokens. -/
theorem token_scaled (b : Fin 2) (s : Fin 8192) (k : Fin 4096) : val_main_v25 (F := Ideal) x g (ix3 b s k) = scaled (page x b) g s k := by
  have e := token_squares x b s
  unfold val_main_v25 val_main_v24 val_main_v23 val_main_v22 val_main_v21 val_main_v20 val_main_v19 val_main_v18 val_main_v17 val_main_v16 val_main_v15 val_main_cst_3 val_main_cst_4
  generalize val_main_v14 (F := Ideal) x = y at e ⊢
  pointwise
  rw [e]
  rfl

/-- The tokens' product with the query weights. -/
theorem query_apply (b : Fin 2) (s : Fin 8192) (h : Fin 4) (j : Fin 128) (r : Fin 16384) (hr : r.val = 8192 * b.val + s.val) (d : Fin 512) (hd : d.val = 128 * h.val + j.val) :
    val_main_v26 (F := Ideal) x g wq (ix4 b s h j) = times (scaledRows (rows x) g) (flat 512 rfl wq) (ix2 r d) := by
  rw [val_main_v26_apply]
  refine (Finset.sum_congr rfl fun k _ => congrArg₂ (· * ·) ?_ ?_).trans (column rfl (scaledRows (rows x) g) wq r h j d hd)
  · refine (congrArg (val_main_v25 (F := Ideal) x g) (?_ : _ = ix3 b s k)).trans ((token_scaled x g b s k).trans (scaled_congr _ _ _ _ _ _ (fun i => ?_) (fun _ => rfl) k))
    · exact (funext fun a => by match a with | ⟨0, _⟩ => rfl | ⟨1, _⟩ => rfl | ⟨2, _⟩ => rfl)
    · exact congrArg x (congrArg₂ (fun p q => ix3 p q i) (Fin.ext (by show b.val = r.val / 8192; omega)) (Fin.ext (by show s.val = r.val % 8192; omega)))
  · exact congrArg wq (funext fun a => by match a with | ⟨0, _⟩ => rfl | ⟨1, _⟩ => rfl | ⟨2, _⟩ => rfl)

/-- The memory's product with the key weights. -/
theorem key_apply (b : Fin 2) (s : Fin 256) (h : Fin 4) (j : Fin 128) (r : Fin 512) (hr : r.val = 256 * b.val + s.val) (d : Fin 512) (hd : d.val = 128 * h.val + j.val) :
    val_main_v40 (F := Ideal) mem mg wk (ix4 b s h j) = times (scaledRows (pages mem) mg) (flat 512 rfl wk) (ix2 r d) := by
  rw [val_main_v40_apply]
  refine (Finset.sum_congr rfl fun k _ => congrArg₂ (· * ·) ?_ ?_).trans (column rfl (scaledRows (pages mem) mg) wk r h j d hd)
  · refine (congrArg (val_main_v12 (F := Ideal) mem mg) (?_ : _ = ix3 b s k)).trans ((memory_scaled mem mg b s k).trans (scaled_congr _ _ _ _ _ _ (fun i => ?_) (fun _ => rfl) k))
    · exact (funext fun a => by match a with | ⟨0, _⟩ => rfl | ⟨1, _⟩ => rfl | ⟨2, _⟩ => rfl)
    · exact congrArg mem (congrArg₂ (fun p q => ix3 p q i) (Fin.ext (by show b.val = r.val / 256; omega)) (Fin.ext (by show s.val = r.val % 256; omega)))
  · exact congrArg wk (funext fun a => by match a with | ⟨0, _⟩ => rfl | ⟨1, _⟩ => rfl | ⟨2, _⟩ => rfl)

/-- The memory's product with the value weights. -/
theorem value_apply (b : Fin 2) (s : Fin 256) (h : Fin 4) (j : Fin 128) (r : Fin 512) (hr : r.val = 256 * b.val + s.val) (d : Fin 512) (hd : d.val = 128 * h.val + j.val) :
    val_main_v54 (F := Ideal) mem mg wv (ix4 b s h j) = times (scaledRows (pages mem) mg) (flat 512 rfl wv) (ix2 r d) := by
  rw [val_main_v54_apply]
  refine (Finset.sum_congr rfl fun k _ => congrArg₂ (· * ·) ?_ ?_).trans (column rfl (scaledRows (pages mem) mg) wv r h j d hd)
  · refine (congrArg (val_main_v12 (F := Ideal) mem mg) (?_ : _ = ix3 b s k)).trans ((memory_scaled mem mg b s k).trans (scaled_congr _ _ _ _ _ _ (fun i => ?_) (fun _ => rfl) k))
    · exact (funext fun a => by match a with | ⟨0, _⟩ => rfl | ⟨1, _⟩ => rfl | ⟨2, _⟩ => rfl)
    · exact congrArg mem (congrArg₂ (fun p q => ix3 p q i) (Fin.ext (by show b.val = r.val / 256; omega)) (Fin.ext (by show s.val = r.val % 256; omega)))
  · exact congrArg wv (funext fun a => by match a with | ⟨0, _⟩ => rfl | ⟨1, _⟩ => rfl | ⟨2, _⟩ => rfl)

/-- The sum of squares of a head of the queries. -/
theorem query_squares (b : Fin 2) (s : Fin 8192) (h : Fin 4) :
    val_main_v28 (F := Ideal) x g wq (ix3 b s h) = ∑ j : Fin 128, val_main_v26 (F := Ideal) x g wq (ix4 b s h j) * val_main_v26 (F := Ideal) x g wq (ix4 b s h j) := by
  rw [val_main_v28_apply]
  refine (congrArg₂ (· + ·) (Ideal.ofBits_zero .f32 : _ = (0 : EReal)) (Finset.sum_congr rfl fun j _ => ?_)).trans (zero_add _)
  rw [val_main_v27_apply]
  generalize val_main_v26 (F := Ideal) x g wq = u
  exact congrArg (fun i => u i * u i) (funext fun a => by match a with | ⟨0, _⟩ => rfl | ⟨1, _⟩ => rfl | ⟨2, _⟩ => rfl | ⟨3, _⟩ => rfl)

/-- A normed head of the queries. -/
theorem query_normed (b : Fin 2) (s : Fin 8192) (h : Fin 4) (j : Fin 128) :
    val_main_v39 (F := Ideal) x g wq qg (ix4 b s h j) = normed lanes (fun i => val_main_v26 (F := Ideal) x g wq (ix4 b s h i)) qg j := by
  have e := query_squares x g wq b s h
  unfold val_main_v39 val_main_v38 val_main_v37 val_main_v36 val_main_v35 val_main_v34 val_main_v33 val_main_v32 val_main_v31 val_main_v30 val_main_v29 val_main_cst_6 val_main_cst_7 normed
  rw [← e]
  generalize val_main_v28 (F := Ideal) x g wq = y
  generalize val_main_v26 (F := Ideal) x g wq = u
  pointwise

/-- The sum of squares of a head of the keys. -/
theorem key_squares (b : Fin 2) (s : Fin 256) (h : Fin 4) :
    val_main_v42 (F := Ideal) mem mg wk (ix3 b s h) = ∑ j : Fin 128, val_main_v40 (F := Ideal) mem mg wk (ix4 b s h j) * val_main_v40 (F := Ideal) mem mg wk (ix4 b s h j) := by
  rw [val_main_v42_apply]
  refine (congrArg₂ (· + ·) (Ideal.ofBits_zero .f32 : _ = (0 : EReal)) (Finset.sum_congr rfl fun j _ => ?_)).trans (zero_add _)
  rw [val_main_v41_apply]
  generalize val_main_v40 (F := Ideal) mem mg wk = u
  exact congrArg (fun i => u i * u i) (funext fun a => by match a with | ⟨0, _⟩ => rfl | ⟨1, _⟩ => rfl | ⟨2, _⟩ => rfl | ⟨3, _⟩ => rfl)

/-- A normed head of the keys. -/
theorem key_normed (b : Fin 2) (s : Fin 256) (h : Fin 4) (j : Fin 128) :
    val_main_v53 (F := Ideal) mem mg wk kg (ix4 b s h j) = normed lanes (fun i => val_main_v40 (F := Ideal) mem mg wk (ix4 b s h i)) kg j := by
  have e := key_squares mem mg wk b s h
  unfold val_main_v53 val_main_v52 val_main_v51 val_main_v50 val_main_v49 val_main_v48 val_main_v47 val_main_v46 val_main_v45 val_main_v44 val_main_v43 val_main_cst_9 val_main_cst_10 normed
  rw [← e]
  generalize val_main_v42 (F := Ideal) mem mg wk = y
  generalize val_main_v40 (F := Ideal) mem mg wk = u
  pointwise

/-- The levels of a token's head. -/
def levels (b : Fin 2) (h : Fin 4) (r : Fin 8192) : Fin 256 → EReal :=
  level (fun i => val_main_v26 (F := Ideal) x g wq (ix4 b r h i)) (fun s i => val_main_v40 (F := Ideal) mem mg wk (ix4 b s h i)) qg kg

/-- The scaled logits are the levels. -/
theorem level_apply (b : Fin 2) (h : Fin 4) (r : Fin 8192) (s : Fin 256) : val_main_v57 (F := Ideal) x mem mg g wq wk qg kg (ix4 b h r s) = levels x mem mg g wq wk qg kg b h r s := by
  rw [val_main_v57_apply, val_main_v55_apply]
  refine congrArg₂ (· * ·) (Finset.sum_congr rfl fun j _ => congrArg₂ (· * ·) ?_ ?_) ?_
  · refine (congrArg (val_main_v39 (F := Ideal) x g wq qg) (?_ : _ = ix4 b r h j)).trans (query_normed x g wq qg b r h j)
    exact (funext fun a => by match a with | ⟨0, _⟩ => rfl | ⟨1, _⟩ => rfl | ⟨2, _⟩ => rfl | ⟨3, _⟩ => rfl)
  · refine (congrArg (val_main_v53 (F := Ideal) mem mg wk kg) (?_ : _ = ix4 b s h j)).trans (key_normed mem mg wk kg b s h j)
    exact (funext fun a => by match a with | ⟨0, _⟩ => rfl | ⟨1, _⟩ => rfl | ⟨2, _⟩ => rfl | ⟨3, _⟩ => rfl)
  · unfold val_main_v56 val_main_cst_11
    pointwise

/-- The largest level of a row. -/
theorem fold_apply (b : Fin 2) (h : Fin 4) (r : Fin 8192) : val_main_v58 (F := Ideal) x mem mg g wq wk qg kg (ix3 b h r) = top (levels x mem mg g wq wk qg kg b h r) := by
  have hl := level_apply x mem mg g wq wk qg kg b h r
  unfold val_main_v58 val_main_cst_12
  generalize val_main_v57 (F := Ideal) x mem mg g wq wk qg kg = y at hl ⊢
  pointwise
  exact Finset.fold_congr fun s _ => hl s

/-- The largest level, once more against the constant the row's maximum starts from. -/
theorem top_apply (b : Fin 2) (h : Fin 4) (r : Fin 8192) : val_main_v60 (F := Ideal) x mem mg g wq wk qg kg (ix3 b h r) = top (levels x mem mg g wq wk qg kg b h r) := by
  rw [val_main_v60_apply, fold_apply]
  have e : val_main_v59 (F := Ideal) (ix3 b h r) = Ideal.ofBits .f32 0xFF800000#32 := by
    unfold val_main_v59 val_main_cst_13
    pointwise
  rw [e]
  exact max_eq_right ((Finset.le_fold_max _).mpr (Or.inl le_rfl))

/-- The exponentials of a row. -/
theorem exp_apply (b : Fin 2) (h : Fin 4) (r : Fin 8192) (s : Fin 256) :
    val_main_v64 (F := Ideal) x mem mg g wq wk qg kg (ix4 b h r s) = Ideal.exp (levels x mem mg g wq wk qg kg b h r s - top (levels x mem mg g wq wk qg kg b h r)) := by
  have hl := level_apply x mem mg g wq wk qg kg b h r s
  have ht := top_apply x mem mg g wq wk qg kg b h r
  unfold val_main_v64 val_main_v63 val_main_v62 val_main_v61
  generalize val_main_v57 (F := Ideal) x mem mg g wq wk qg kg = y at hl ⊢
  generalize val_main_v60 (F := Ideal) x mem mg g wq wk qg kg = t at ht ⊢
  generalize levels x mem mg g wq wk qg kg b h r = l at hl ht ⊢
  pointwise
  rw [hl, ht]

/-- The sum of a row's exponentials. -/
theorem mass_apply (b : Fin 2) (h : Fin 4) (r : Fin 8192) :
    val_main_v65 (F := Ideal) x mem mg g wq wk qg kg (ix3 b h r) = ∑ s : Fin 256, Ideal.exp (levels x mem mg g wq wk qg kg b h r s - top (levels x mem mg g wq wk qg kg b h r)) := by
  rw [val_main_v65_apply]
  refine (congrArg₂ (· + ·) (Ideal.ofBits_zero .f32 : _ = (0 : EReal)) (Finset.sum_congr rfl fun s _ => ?_)).trans (zero_add _)
  refine (congrArg (val_main_v64 (F := Ideal) x mem mg g wq wk qg kg) (?_ : _ = ix4 b h r s)).trans (exp_apply x mem mg g wq wk qg kg b h r s)
  exact (funext fun a => by match a with | ⟨0, _⟩ => rfl | ⟨1, _⟩ => rfl | ⟨2, _⟩ => rfl | ⟨3, _⟩ => rfl)

/-- The softmax of a row. -/
theorem share_apply (b : Fin 2) (h : Fin 4) (r : Fin 8192) (s : Fin 256) : val_main_v68 (F := Ideal) x mem mg g wq wk qg kg (ix4 b h r s) = share (levels x mem mg g wq wk qg kg b h r) s := by
  have he := exp_apply x mem mg g wq wk qg kg b h r s
  have hm := mass_apply x mem mg g wq wk qg kg b h r
  unfold val_main_v68 val_main_v67 val_main_v66 share
  generalize val_main_v64 (F := Ideal) x mem mg g wq wk qg kg = y at he ⊢
  generalize val_main_v65 (F := Ideal) x mem mg g wq wk qg kg = t at hm ⊢
  generalize levels x mem mg g wq wk qg kg b h r = l at he hm ⊢
  pointwise
  rw [he, hm]

/-- One lane of a head's result. -/
theorem one_apply (b : Fin 2) (h : Fin 4) (j : Fin 128) (r : Fin 8192) :
    val_main_v69 (F := Ideal) x mem mg g wq wk wv qg kg (ix4 b h j r)
      = one (fun i => val_main_v26 (F := Ideal) x g wq (ix4 b r h i)) (fun s i => val_main_v40 (F := Ideal) mem mg wk (ix4 b s h i))
          (fun s => val_main_v54 (F := Ideal) mem mg wv (ix4 b s h j)) qg kg := by
  rw [val_main_v69_apply]
  refine Finset.sum_congr rfl fun s _ => (mul_comm _ _).trans (congrArg₂ (· * ·) ?_ ?_)
  · refine (congrArg (val_main_v68 (F := Ideal) x mem mg g wq wk qg kg) (?_ : _ = ix4 b h r s)).trans (share_apply x mem mg g wq wk qg kg b h r s)
    exact (funext fun a => by match a with | ⟨0, _⟩ => rfl | ⟨1, _⟩ => rfl | ⟨2, _⟩ => rfl | ⟨3, _⟩ => rfl)
  · exact congrArg (val_main_v54 (F := Ideal) mem mg wv) (funext fun a => by match a with | ⟨0, _⟩ => rfl | ⟨1, _⟩ => rfl | ⟨2, _⟩ => rfl | ⟨3, _⟩ => rfl)

/-- A column of a token's attention. -/
theorem attend_apply (b : Fin 2) (r : Fin 8192) (d : Fin 512) (t : Fin 16384) (ht : t.val = 8192 * b.val + r.val) :
    val_main_v71 (F := Ideal) x mem mg g wq wk wv qg kg (ix3 b r d)
      = attend (times (scaledRows (rows x) g) (flat 512 rfl wq)) (times (scaledRows (pages mem) mg) (flat 512 rfl wk)) (times (scaledRows (pages mem) mg) (flat 512 rfl wv)) qg kg
          (seen t) t d := by
  have e := one_apply x mem mg g wq wk wv qg kg b ⟨d.val / 128, by omega⟩ ⟨d.val % 128, by omega⟩ r
  unfold val_main_v71 val_main_v70
  generalize val_main_v69 (F := Ideal) x mem mg g wq wk wv qg kg = y at e ⊢
  pointwise
  refine e.trans (one_congr _ _ _ _ _ _ _ _ _ _ (fun i => ?_) (fun s i => ?_) (fun s => ?_) (fun _ => rfl) (fun _ => rfl))
  · exact query_apply x g wq b r _ i t ht _ rfl
  · exact key_apply mem mg wk b s _ i (seen t s) (by show 256 * (t.val / 8192) + s.val = _; omega) _ rfl
  · exact value_apply mem mg wv b s _ _ (seen t s) (by show 256 * (t.val / 8192) + s.val = _; omega) d (by show d.val = 128 * (d.val / 128) + d.val % 128; omega)

/-- A token with its attention added. -/
theorem sum_apply (b : Fin 2) (r : Fin 8192) (k : Fin 4096) (t : Fin 16384) (ht : t.val = 8192 * b.val + r.val) :
    val_main_v73 (F := Ideal) x mem mg g wq wk wv qg kg wo (ix3 b r k) = tokensOf x mem mg g wq wk wv qg kg wo (ix2 t k) := by
  rw [val_main_v73_apply, val_main_v72_apply]
  refine congrArg₂ (· + ·) ?_ (Finset.sum_congr rfl fun d _ => congrArg₂ (· * ·) ?_ ?_)
  · exact congrArg x (congrArg₂ (fun p q => ix3 p q k) (Fin.ext (by show b.val = t.val / 8192; omega)) (Fin.ext (by show r.val = t.val % 8192; omega)))
  · refine (congrArg (val_main_v71 (F := Ideal) x mem mg g wq wk wv qg kg) (?_ : _ = ix3 b r d)).trans (attend_apply x mem mg g wq wk wv qg kg b r d t ht)
    exact (funext fun a => by match a with | ⟨0, _⟩ => rfl | ⟨1, _⟩ => rfl | ⟨2, _⟩ => rfl)
  · exact congrArg wo (funext fun a => by match a with | ⟨0, _⟩ => rfl | ⟨1, _⟩ => rfl)

/-- The reference's first result is the kernel's. -/
theorem tokens_eq : val_main_v87 (F := Ideal) x mem mg g wq wk wv qg kg wo = tokensOf x mem mg g wq wk wv qg kg wo := by
  funext y
  obtain ⟨t, k, rfl⟩ : ∃ (t : Fin 16384) (k : Fin 4096), y = ix2 t k := ⟨y 0, y 1, at_pair _ _ _ rfl rfl⟩
  have e := sum_apply x mem mg g wq wk wv qg kg wo ⟨t.val / 8192, by omega⟩ ⟨t.val % 8192, by omega⟩ k t (by dsimp only; omega)
  unfold val_main_v87
  generalize val_main_v73 (F := Ideal) x mem mg g wq wk wv qg kg wo = z at e ⊢
  pointwise
  exact e

/-- The sum of squares of a row of the tokens with their attention. -/
theorem sum_squares (b : Fin 2) (s : Fin 8192) : val_main_v75 (F := Ideal) x mem mg g wq wk wv qg kg wo (ix2 b s) = ∑ j : Fin 4096, (val_main_v73 (F := Ideal) x mem mg g wq wk wv qg kg wo) (ix3 b s j) * (val_main_v73 (F := Ideal) x mem mg g wq wk wv qg kg wo) (ix3 b s j) := by
  rw [val_main_v75_apply]
  refine (congrArg₂ (· + ·) (Ideal.ofBits_zero .f32 : _ = (0 : EReal)) (Finset.sum_congr rfl fun j _ => ?_)).trans (zero_add _)
  rw [val_main_v74_apply]
  generalize val_main_v73 (F := Ideal) x mem mg g wq wk wv qg kg wo = z
  exact congrArg (fun i => z i * z i) (funext fun a => by match a with | ⟨0, _⟩ => rfl | ⟨1, _⟩ => rfl | ⟨2, _⟩ => rfl)

/-- The scaled rows of the tokens with their attention. -/
theorem sum_scaled (b : Fin 2) (s : Fin 8192) (k : Fin 4096) : val_main_v86 (F := Ideal) x mem mg g wq wk wv qg kg wo fg (ix3 b s k) = scaled (page (val_main_v73 (F := Ideal) x mem mg g wq wk wv qg kg wo) b) fg s k := by
  have e := sum_squares x mem mg g wq wk wv qg kg wo b s
  unfold val_main_v86 val_main_v85 val_main_v84 val_main_v83 val_main_v82 val_main_v81 val_main_v80 val_main_v79 val_main_v78 val_main_v77 val_main_v76 val_main_cst_16 val_main_cst_17
  generalize val_main_v75 (F := Ideal) x mem mg g wq wk wv qg kg wo = y at e ⊢
  generalize val_main_v73 (F := Ideal) x mem mg g wq wk wv qg kg wo = z at e ⊢
  pointwise
  rw [e]
  rfl

/-- The reference's second result is the kernel's. -/
theorem normed_eq : val_main_v89 (F := Ideal) x mem mg g wq wk wv qg kg wo fg = scaledRows (tokensOf x mem mg g wq wk wv qg kg wo) fg := by
  funext y
  obtain ⟨t, k, rfl⟩ : ∃ (t : Fin 16384) (k : Fin 4096), y = ix2 t k := ⟨y 0, y 1, at_pair _ _ _ rfl rfl⟩
  have e := (sum_scaled x mem mg g wq wk wv qg kg wo fg ⟨t.val / 8192, by omega⟩ ⟨t.val % 8192, by omega⟩ k).trans
    (scaled_congr _ (tokensOf x mem mg g wq wk wv qg kg wo) _ fg _ t (fun j => sum_apply x mem mg g wq wk wv qg kg wo _ _ j t (by show t.val = 8192 * (t.val / 8192) + t.val % 8192; omega)) (fun _ => rfl) k)
  unfold val_main_v89 val_main_v88
  generalize val_main_v86 (F := Ideal) x mem mg g wq wk wv qg kg wo fg = z at e ⊢
  pointwise
  exact e

end Cert.Cross.Ref

end
-- ==== Proof.OddRows.lean ====
/- The second layer's input projections as plain sums, and the bodies of their calls read at an index. -/
module

public import proofs.«01_k».proof.Proof.EvenProj
public import proofs.«01_k».proof.Proof.Heads
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame

@[expose] public section

set_option maxRecDepth 16384

noncomputable section

namespace Cert.OddProj

open Idealize.ShloMosaic Idealize.ShloMosaic.TcCoe Idealize.SL.Sem
open Cert.Ffn (Mat)
open Cert.EvenProj (Line dot dot_congr scaled scaledRows times cols)
open Cert.Heads (normed heads four_heads)
open scoped BigOperators

/-- The count of a head's lanes, the divisor of its mean. -/
abbrev lanes : EReal := Ideal.ofBits FTy.f32 1124073472#32

open Cert.OddInIdeal Cert.OddInIdeal.Gen

/-- One entry of the first body's result is the scaled row's. -/
theorem rows_apply (x : Vec Ideal S256x4096 .f32) (g : Vec Ideal S1x4096 .f32) (p : Fin 256) (k : Fin 4096) :
    k0_pay1 (F := Ideal) x g (ix2 p k) = scaled (x : Mat 256 4096) (fun y => g (ix2 0 (y 0))) p k := by
  unfold k0_pay1 scaled
  pointwise

/-- One entry of the plain product. -/
theorem plain_apply (a : Vec Ideal S1024x4096 .bf16) (w : Vec Ideal S4096x256 .bf16) (p : Fin 1024) (q : Fin 256) :
    k1_pay1 (F := Ideal) a w (ix2 p q) = dot (a : Mat 1024 4096) (w : Mat 4096 256) p q := by
  unfold k1_pay1 dot
  pointwise

/-- One entry of the transposed product. -/
theorem turned_apply (a : Vec Ideal S1024x4096 .bf16) (w : Vec Ideal S4096x512 .bf16) (q : Fin 512) (p : Fin 1024) :
    k4_pay1 (F := Ideal) a w (ix2 q p) = dot (a : Mat 1024 4096) (w : Mat 4096 512) p q := by
  unfold k4_pay1 dot
  pointwise

/-- One entry of the keys' product, before the norm. -/
theorem keysDot_apply (a : Vec Ideal S1024x4096 .bf16) (w : Vec Ideal S4096x512 .bf16) (p : Fin 1024) (q : Fin 512) :
    k3_pay2 (F := Ideal) a w (ix2 p q) = dot (a : Mat 1024 4096) (w : Mat 4096 512) p q := by
  unfold k3_pay2 dot
  pointwise

/-- One entry of the keys' body is a normed head's. -/
theorem keys_apply (a : Vec Ideal S1024x4096 .bf16) (w : Vec Ideal S4096x512 .bf16) (g : Vec Ideal S1x128 .f32) (p : Fin 1024) (q : Fin 512) :
    k3_pay1 (F := Ideal) (k3_pay2 a w) (k3_pay3 g) (k3_pay4 a w g) (k3_pay5 a w g) (k3_pay6 a w) (k3_pay7 a w) (ix2 p q)
      = heads (b := 128) lanes (by decide) (k3_pay2 (F := Ideal) a w : Mat 1024 512) (fun y => g (ix2 0 (y 0))) p q := by
  unfold k3_pay1 k3_pay4 k3_pay5 k3_pay7 k3_pay6 k3_pay3
  generalize k3_pay2 (F := Ideal) a w = z
  rw [← four_heads lanes z _ p q 128 256 384 rfl rfl rfl rfl]
  unfold normed
  pointwise

/-- One entry of the queries' product, before the norm. -/
theorem queriesDot_apply (a : Vec Ideal S1024x4096 .bf16) (w : Vec Ideal S4096x512 .bf16) (p : Fin 1024) (q : Fin 512) :
    k2_pay2 (F := Ideal) a w (ix2 p q) = dot (a : Mat 1024 4096) (w : Mat 4096 512) p q := by
  unfold k2_pay2 dot
  pointwise

/-- One entry of the queries' body is a normed head's, rows and columns exchanged. -/
theorem queries_apply (a : Vec Ideal S1024x4096 .bf16) (w : Vec Ideal S4096x512 .bf16) (g : Vec Ideal S1x128 .f32) (q : Fin 512) (p : Fin 1024) :
    k2_pay1 (F := Ideal) (k2_pay2 a w) (k2_pay3 g) (k2_pay4 a w g) (k2_pay5 a w g) (k2_pay6 a w) (k2_pay7 a w) (ix2 q p)
      = heads (b := 128) lanes (by decide) (k2_pay2 (F := Ideal) a w : Mat 1024 512) (fun y => g (ix2 0 (y 0))) p q := by
  unfold k2_pay1 k2_pay4 k2_pay5 k2_pay7 k2_pay6 k2_pay3
  generalize k2_pay2 (F := Ideal) a w = z
  rw [← four_heads lanes z _ p q 128 256 384 rfl rfl rfl rfl]
  unfold normed
  pointwise

/-- The values of the windowed heads: the columns of the projection from 2304 on. -/
def valuesOf (A : Mat 16384 4096) (B : Mat 4096 8704) : Mat 16384 256 := cols 2304 (by omega) (times A B)
/-- The differential heads' queries, normed, rows and columns exchanged. -/
def queriesOf (A : Mat 16384 4096) (B : Mat 4096 8704) (g : Line 128) : Mat 2048 16384 :=
  fun y => heads (b := 128) lanes (by decide) (cols 2560 (by omega) (times A B) : Mat 16384 2048) g (y 1) (y 0)
/-- The differential heads' keys, normed. -/
def keysOf (A : Mat 16384 4096) (B : Mat 4096 8704) (g : Line 128) : Mat 16384 2048 :=
  fun y => heads (b := 128) lanes (by decide) (cols 4608 (by omega) (times A B) : Mat 16384 2048) g (y 0) (y 1)
/-- The differential heads' values, rows and columns exchanged. -/
def turnedOf (A : Mat 16384 4096) (B : Mat 4096 8704) : Mat 2048 16384 := fun y => (cols 6656 (by omega) (times A B) : Mat 16384 2048) (ix2 (y 1) (y 0))

end Cert.OddProj

end
-- ==== Proof.OddProj.lean ====
/- The second layer's input projections: what each of the five calls leaves. -/
module

public import proofs.«01_k».proof.Proof.OddRows

@[expose] public section

set_option maxRecDepth 16384

noncomputable section

namespace Cert.OddProj

open Idealize.ShloMosaic Idealize.ShloMosaic.TcCoe Idealize.SL.Sem
open Cert.Ffn (Mat)
open Cert.EvenProj (Line dot dot_congr scaled scaledRows times cols)
open Cert.Heads (heads heads_congr at_pair)
open Cert.OddInIdeal Cert.OddInIdeal.Gen

variable (V : (c : Dev nD) → (b : Ref sig .tc) → Buf (Elt Ideal) ((c : Thread nD τ).loc b))

namespace Rows

/-- Where each window's block sits at grid point `t`: row block `t`. -/
theorem index_at : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) := by
  decide +kernel

/-- One entry of the block the body writes is the scaled row's. -/
theorem out_apply (c : Dev nD) (X : Mat 16384 4096) (g : Line 4096) (hX : V c main_arg0 = X) (hg : ∀ k, V c main_v0 (ix2 0 k) = g (ix1 k))
    (t : Fin cfg0.N) (p : Fin 256) (k : Fin 4096) (r : Fin 16384) (hr : r.val = 256 * t.val + p.val) :
    out0_2 (iblk0 V c 0 t) (iblk0 V c 1 t) (ix2 p k) = scaled X g r k := by
  obtain ⟨⟨a0, a1⟩, ⟨b0, b1⟩, -⟩ := index_at t
  unfold out0_2
  rw [View.canon_unit_zero Ffn.GateUp.hz2, View.ld_unit_zero Ffn.GateUp.hz2, View.ld_unit_zero Ffn.GateUp.hz2, rows_apply]
  refine EvenProj.Rows.scaled_congr _ _ _ _ _ _ (fun j => ?_) (fun j => ?_) k
  · refine (congrArg (V c main_arg0 : Mat 16384 4096) (at_pair _ r j ?_ ?_)).trans (congrFun hX _)
    · show win0_0.index t 0 * 256 + 1 * p.val = r.val
      rw [a0]; omega
    · show win0_0.index t 1 * 4096 + 1 * j.val = j.val
      rw [a1]; omega
  · refine (congrArg (V c main_v0 : Mat 1 4096) (at_pair _ 0 j ?_ ?_)).trans (hg j)
    · show win0_1.index t 0 * 1 + 1 * 0 = 0
      rw [b0]
    · show win0_1.index t 1 * 4096 + 1 * j.val = j.val
      rw [b1]; omega

/-- What point `t` writes back is its block of the scaled rows. -/
theorem flushed_eq (c : Dev nD) (X : Mat 16384 4096) (g : Line 4096) (hX : V c main_arg0 = X) (hg : ∀ k, V c main_v0 (ix2 0 k) = g (ix1 k)) (t : Fin cfg0.N) :
    (dat0 V c).flushed 2 t = (win0_2.blk t).view.read (Elt Ideal) (scaledRows X g) := by
  show (cfg0.win 2).cut (grid0.coords t) ((dat0 V c).after 2 t) = _
  rw [after0_2]
  funext y
  have hN : cfg0.N = 64 := N_0
  have ht := t.isLt
  obtain ⟨e0, e1⟩ := (index_at t).2.2
  have h0 : (y 0).val < 256 := (y 0).isLt
  have h1 : (y 1).val < 4096 := (y 1).isLt
  have key := out_apply V c X g hX hg t (y 0) (y 1) ⟨256 * t.val + (y 0).val, by omega⟩ rfl
  refine Eq.trans (congrArg (out0_2 (iblk0 V c 0 t) (iblk0 V c 1 t)) (at_pair _ _ _ rfl rfl)) (key.trans ?_)
  refine congrArg₂ (scaled X g) ?_ ?_
  · exact Fin.ext (by show _ = win0_2.index t 0 * 256 + 1 * (y 0).val; rw [e0]; dsimp only; omega)
  · exact Fin.ext (by show _ = win0_2.index t 1 * 4096 + 1 * (y 1).val; rw [e1]; omega)

/-- Every entry of the scaled rows lies in some point's block. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  have hN : cfg0.N = 64 := N_0
  obtain ⟨t, ht⟩ : ∃ t : Fin cfg0.N, t.val = (i 0).val / 256 := ⟨⟨_, by omega⟩, rfl⟩
  refine ⟨t, flush0_2 t, ?_⟩
  obtain ⟨e0, e1⟩ := (index_at t).2.2
  show i ∈ ((View.whole main_v1).slice (win0_2.rect t)).set
  rw [View.set_slice_whole, Rect.mem_set_unit]
  intro a
  match a with
  | ⟨0, _⟩ =>
    show win0_2.index t 0 * 256 ≤ (i 0).val ∧ (i 0).val < win0_2.index t 0 * 256 + 256
    rw [e0]; omega
  | ⟨1, _⟩ =>
    show win0_2.index t 1 * 4096 ≤ (i 1).val ∧ (i 1).val < win0_2.index t 1 * 4096 + 4096
    rw [e1]; omega

/-- The first call leaves the scaled rows. -/
theorem final (c : Dev nD) (X : Mat 16384 4096) (g : Line 4096) (hX : V c main_arg0 = X) (hg : ∀ k, V c main_v0 (ix2 0 k) = g (ix1 k)) :
    (dat0 V c).arrAt 2 cfg0.N = scaledRows X g :=
  (dat0 V c).arrAt_eq_of_cover 2 (scaledRows X g) (fun t _ => flushed_eq V c X g hX hg t) cover

end Rows

namespace Values

/-- Where each window's block sits at grid point `t`: row block `t`, the weights' block 9. -/
theorem index_at : ∀ t : Fin cfg1.N,
    (win1_0.index t 0 = t.val ∧ win1_0.index t 1 = 0) ∧ (win1_1.index t 0 = 0 ∧ win1_1.index t 1 = 9)
    ∧ (win1_2.index t 0 = t.val ∧ win1_2.index t 1 = 0) := by
  decide +kernel

/-- One entry of the product of the point's blocks. -/
theorem dot_at (c : Dev nD) (A : Mat 16384 4096) (B : Mat 4096 8704) (hA : V c main_v1 = A) (hB : V c main_v2 = B) (t : Fin cfg1.N)
    (p : Fin 1024) (q : Fin 256) (r : Fin 16384) (d : Fin 256) (hr : r.val = 1024 * (t.val) + p.val) (hd : d.val = q.val) :
    dot (iblk1 V c 0 t : Mat 1024 4096) (iblk1 V c 1 t : Mat 4096 256) p q = (cols 2304 (by omega) (times A B) : Mat 16384 256) (ix2 r d) := by
  have e := index_at t
  refine dot_congr _ _ _ _ _ _ _ _ (fun f => ?_) (fun f => ?_)
  · refine (congrArg (V c main_v1 : Mat 16384 4096) (at_pair _ r f ?_ ?_)).trans (congrFun hA _)
    · show win1_0.index t 0 * 1024 + 1 * p.val = r.val
      rw [e.1.1]; omega
    · show win1_0.index t 1 * 4096 + 1 * f.val = f.val
      rw [e.1.2]; omega
  · refine (congrArg (V c main_v2 : Mat 4096 8704) (at_pair _ f ⟨2304 + d.val, by omega⟩ ?_ ?_)).trans (congrFun hB _)
    · show win1_1.index t 0 * 4096 + 1 * f.val = f.val
      rw [e.2.1.1]; omega
    · show win1_1.index t 1 * 256 + 1 * q.val = 2304 + d.val
      rw [e.2.1.2]; omega

/-- One entry of the block the body writes. -/
theorem out_apply (c : Dev nD) (A : Mat 16384 4096) (B : Mat 4096 8704) (hA : V c main_v1 = A) (hB : V c main_v2 = B) (t : Fin cfg1.N)
    (p : Fin 1024) (q : Fin 256) (r : Fin 16384) (d : Fin 256) (hr : r.val = 1024 * (t.val) + p.val) (hd : d.val = q.val) :
    out1_2 (iblk1 V c 0 t) (iblk1 V c 1 t) (ix2 p q) = (cols 2304 (by omega) (times A B) : Mat 16384 256) (ix2 r d) := by
  unfold out1_2
  rw [View.canon_unit_zero Ffn.GateUp.hz2, View.ld_unit_zero Ffn.GateUp.hz2, View.ld_unit_zero Ffn.GateUp.hz2]
  exact (plain_apply _ _ p q).trans (dot_at V c A B hA hB t p q r d hr hd)

/-- What point `t` writes back is its block of the result. -/
theorem flushed_eq (c : Dev nD) (A : Mat 16384 4096) (B : Mat 4096 8704) (hA : V c main_v1 = A) (hB : V c main_v2 = B) (t : Fin cfg1.N) :
    (dat1 V c).flushed 2 t = (win1_2.blk t).view.read (Elt Ideal) (valuesOf A B) := by
  show (cfg1.win 2).cut (grid1.coords t) ((dat1 V c).after 2 t) = _
  rw [after1_2]
  funext y
  have hN : cfg1.N = 16 := N_1
  have ht := t.isLt
  obtain ⟨e0, e1⟩ := (index_at t).2.2
  have h0 : (y 0).val < 1024 := (y 0).isLt
  have h1 : (y 1).val < 256 := (y 1).isLt
  have key := out_apply V c A B hA hB t (y 0) (y 1) ⟨1024 * (t.val) + (y 0).val, by omega⟩ ⟨(y 1).val, by omega⟩ rfl rfl
  refine Eq.trans (congrArg (out1_2 (iblk1 V c 0 t) (iblk1 V c 1 t)) (at_pair _ _ _ rfl rfl)) (key.trans ?_)
  refine congrArg₂ (fun r d => (cols 2304 (by omega) (times A B) : Mat 16384 256) (ix2 r d)) ?_ ?_
  · exact Fin.ext (by show _ = win1_2.index t 0 * 1024 + 1 * (y 0).val; rw [e0]; dsimp only; omega)
  · exact Fin.ext (by show _ = win1_2.index t 1 * 256 + 1 * (y 1).val; rw [e1]; dsimp only; omega)

/-- Every entry of the result lies in some point's block. -/
theorem cover (i : S16384x256.Idx) : ∃ t : Fin cfg1.N, (cfg1.win 2).flush t = true ∧ i ∈ ((cfg1.win 2).blk t).view.set := by
  have h0 : (i 0).val < 16384 := (i 0).isLt
  have h1 : (i 1).val < 256 := (i 1).isLt
  have hN : cfg1.N = 16 := N_1
  obtain ⟨t, ht⟩ : ∃ t : Fin cfg1.N, t.val = (i 0).val / 1024 := ⟨⟨_, by omega⟩, rfl⟩
  refine ⟨t, flush1_2 t, ?_⟩
  obtain ⟨e0, e1⟩ := (index_at t).2.2
  show i ∈ ((View.whole main_v3).slice (win1_2.rect t)).set
  rw [View.set_slice_whole, Rect.mem_set_unit]
  intro a
  match a with
  | ⟨0, _⟩ =>
    show win1_2.index t 0 * 1024 ≤ (i 0).val ∧ (i 0).val < win1_2.index t 0 * 1024 + 1024
    rw [e0]; omega
  | ⟨1, _⟩ =>
    show win1_2.index t 1 * 256 ≤ (i 1).val ∧ (i 1).val < win1_2.index t 1 * 256 + 256
    rw [e1]; omega

/-- The second call leaves the windowed heads' values. -/
theorem final (c : Dev nD) (A : Mat 16384 4096) (B : Mat 4096 8704) (hA : V c main_v1 = A) (hB : V c main_v2 = B) :
    (dat1 V c).arrAt 2 cfg1.N = valuesOf A B :=
  (dat1 V c).arrAt_eq_of_cover 2 (valuesOf A B) (fun t _ => flushed_eq V c A B hA hB t) cover

end Values

namespace Queries

/-- Where each window's block sits at grid point `t`: row block `t / 4`, column block `t % 4`, the weights' blocks 5 further on. -/
theorem index_at : ∀ t : Fin cfg2.N,
    (win2_0.index t 0 = t.val / 4 ∧ win2_0.index t 1 = 0) ∧ (win2_1.index t 0 = 0 ∧ win2_1.index t 1 = t.val % 4 + 5) ∧ (win2_2.index t 0 = 0 ∧ win2_2.index t 1 = 0)
    ∧ (win2_3.index t 0 = t.val % 4 ∧ win2_3.index t 1 = t.val / 4) := by
  decide +kernel

/-- One entry of the product of the point's blocks. -/
theorem dot_at (c : Dev nD) (A : Mat 16384 4096) (B : Mat 4096 8704) (hA : V c main_v1 = A) (hB : V c main_v2 = B) (t : Fin cfg2.N)
    (p : Fin 1024) (q : Fin 512) (r : Fin 16384) (d : Fin 2048) (hr : r.val = 1024 * (t.val / 4) + p.val) (hd : d.val = 512 * (t.val % 4) + q.val) :
    dot (iblk2 V c 0 t : Mat 1024 4096) (iblk2 V c 1 t : Mat 4096 512) p q = (cols 2560 (by omega) (times A B) : Mat 16384 2048) (ix2 r d) := by
  have e := index_at t
  refine dot_congr _ _ _ _ _ _ _ _ (fun f => ?_) (fun f => ?_)
  · refine (congrArg (V c main_v1 : Mat 16384 4096) (at_pair _ r f ?_ ?_)).trans (congrFun hA _)
    · show win2_0.index t 0 * 1024 + 1 * p.val = r.val
      rw [e.1.1]; omega
    · show win2_0.index t 1 * 4096 + 1 * f.val = f.val
      rw [e.1.2]; omega
  · refine (congrArg (V c main_v2 : Mat 4096 8704) (at_pair _ f ⟨2560 + d.val, by omega⟩ ?_ ?_)).trans (congrFun hB _)
    · show win2_1.index t 0 * 4096 + 1 * f.val = f.val
      rw [e.2.1.1]; omega
    · show win2_1.index t 1 * 512 + 1 * q.val = 2560 + d.val
      rw [e.2.1.2]; omega

/-- One entry of the block the body writes. -/
theorem out_apply (c : Dev nD) (A : Mat 16384 4096) (B : Mat 4096 8704) (g : Line 128) (hA : V c main_v1 = A) (hB : V c main_v2 = B) (hg : ∀ j, V c main_v7 (ix2 0 j) = g (ix1 j)) (t : Fin cfg2.N)
    (p : Fin 1024) (q : Fin 512) (r : Fin 16384) (d : Fin 2048) (hr : r.val = 1024 * (t.val / 4) + p.val) (hd : d.val = 512 * (t.val % 4) + q.val) :
    out2_3 (iblk2 V c 0 t) (iblk2 V c 1 t) (iblk2 V c 2 t) (ix2 q p) = heads (b := 128) lanes (by decide) (cols 2560 (by omega) (times A B) : Mat 16384 2048) g r d := by
  unfold out2_3
  rw [View.canon_unit_zero Ffn.GateUp.hz2, View.ld_unit_zero Ffn.GateUp.hz2, View.ld_unit_zero Ffn.GateUp.hz2, View.ld_unit_zero Ffn.GateUp.hz2]
  refine (queries_apply _ _ _ q p).trans (heads_congr _ (by decide) (by decide) _ _ _ _ _ _ _ _ (4 * (t.val % 4)) (by omega) (fun e e' he => ?_) (fun j => ?_))
  · exact (queriesDot_apply _ _ p e).trans (dot_at V c A B hA hB t p e r e' hr (by omega))
  · have e := (index_at t).2.2.1
    refine (congrArg (V c main_v7 : Mat 1 128) (at_pair _ 0 j ?_ ?_)).trans (hg j)
    · show win2_2.index t 0 * 1 + 1 * 0 = 0
      rw [e.1]
    · show win2_2.index t 1 * 128 + 1 * j.val = j.val
      rw [e.2]; omega

/-- What point `t` writes back is its block of the result. -/
theorem flushed_eq (c : Dev nD) (A : Mat 16384 4096) (B : Mat 4096 8704) (g : Line 128) (hA : V c main_v1 = A) (hB : V c main_v2 = B) (hg : ∀ j, V c main_v7 (ix2 0 j) = g (ix1 j)) (t : Fin cfg2.N) :
    (dat2 V c).flushed 3 t = (win2_3.blk t).view.read (Elt Ideal) (queriesOf A B g) := by
  show (cfg2.win 3).cut (grid2.coords t) ((dat2 V c).after 3 t) = _
  rw [after2_3]
  funext y
  have hN : cfg2.N = 64 := N_2
  have ht := t.isLt
  obtain ⟨e0, e1⟩ := (index_at t).2.2.2
  have h0 : (y 0).val < 512 := (y 0).isLt
  have h1 : (y 1).val < 1024 := (y 1).isLt
  have key := out_apply V c A B g hA hB hg t (y 1) (y 0) ⟨1024 * (t.val / 4) + (y 1).val, by omega⟩ ⟨512 * (t.val % 4) + (y 0).val, by omega⟩ rfl rfl
  refine Eq.trans (congrArg (out2_3 (iblk2 V c 0 t) (iblk2 V c 1 t) (iblk2 V c 2 t)) (at_pair _ _ _ rfl rfl)) (key.trans ?_)
  refine congrArg₂ (heads (b := 128) lanes (by decide) (cols 2560 (by omega) (times A B) : Mat 16384 2048) g) ?_ ?_
  · exact Fin.ext (by show _ = win2_3.index t 1 * 1024 + 1 * (y 1).val; rw [e1]; dsimp only; omega)
  · exact Fin.ext (by show _ = win2_3.index t 0 * 512 + 1 * (y 0).val; rw [e0]; dsimp only; omega)

/-- Every entry of the result lies in some point's block. -/
theorem cover (i : S2048x16384.Idx) : ∃ t : Fin cfg2.N, (cfg2.win 3).flush t = true ∧ i ∈ ((cfg2.win 3).blk t).view.set := by
  have h0 : (i 0).val < 2048 := (i 0).isLt
  have h1 : (i 1).val < 16384 := (i 1).isLt
  have hN : cfg2.N = 64 := N_2
  obtain ⟨t, ht⟩ : ∃ t : Fin cfg2.N, t.val = (i 1).val / 1024 * 4 + (i 0).val / 512 := ⟨⟨_, by omega⟩, rfl⟩
  refine ⟨t, flush2_3 t, ?_⟩
  obtain ⟨e0, e1⟩ := (index_at t).2.2.2
  show i ∈ ((View.whole main_v8).slice (win2_3.rect t)).set
  rw [View.set_slice_whole, Rect.mem_set_unit]
  intro a
  match a with
  | ⟨0, _⟩ =>
    show win2_3.index t 0 * 512 ≤ (i 0).val ∧ (i 0).val < win2_3.index t 0 * 512 + 512
    rw [e0]; omega
  | ⟨1, _⟩ =>
    show win2_3.index t 1 * 1024 ≤ (i 1).val ∧ (i 1).val < win2_3.index t 1 * 1024 + 1024
    rw [e1]; omega

/-- The third call leaves the differential heads' queries. -/
theorem final (c : Dev nD) (A : Mat 16384 4096) (B : Mat 4096 8704) (g : Line 128) (hA : V c main_v1 = A) (hB : V c main_v2 = B) (hg : ∀ j, V c main_v7 (ix2 0 j) = g (ix1 j)) :
    (dat2 V c).arrAt 3 cfg2.N = queriesOf A B g :=
  (dat2 V c).arrAt_eq_of_cover 3 (queriesOf A B g) (fun t _ => flushed_eq V c A B g hA hB hg t) cover

end Queries

namespace Keys

/-- Where each window's block sits at grid point `t`: row block `t / 4`, column block `t % 4`, the weights' blocks 9 further on. -/
theorem index_at : ∀ t : Fin cfg3.N,
    (win3_0.index t 0 = t.val / 4 ∧ win3_0.index t 1 = 0) ∧ (win3_1.index t 0 = 0 ∧ win3_1.index t 1 = t.val % 4 + 9) ∧ (win3_2.index t 0 = 0 ∧ win3_2.index t 1 = 0)
    ∧ (win3_3.index t 0 = t.val / 4 ∧ win3_3.index t 1 = t.val % 4) := by
  decide +kernel

/-- One entry of the product of the point's blocks. -/
theorem dot_at (c : Dev nD) (A : Mat 16384 4096) (B : Mat 4096 8704) (hA : V c main_v1 = A) (hB : V c main_v2 = B) (t : Fin cfg3.N)
    (p : Fin 1024) (q : Fin 512) (r : Fin 16384) (d : Fin 2048) (hr : r.val = 1024 * (t.val / 4) + p.val) (hd : d.val = 512 * (t.val % 4) + q.val) :
    dot (iblk3 V c 0 t : Mat 1024 4096) (iblk3 V c 1 t : Mat 4096 512) p q = (cols 4608 (by omega) (times A B) : Mat 16384 2048) (ix2 r d) := by
  have e := index_at t
  refine dot_congr _ _ _ _ _ _ _ _ (fun f => ?_) (fun f => ?_)
  · refine (congrArg (V c main_v1 : Mat 16384 4096) (at_pair _ r f ?_ ?_)).trans (congrFun hA _)
    · show win3_0.index t 0 * 1024 + 1 * p.val = r.val
      rw [e.1.1]; omega
    · show win3_0.index t 1 * 4096 + 1 * f.val = f.val
      rw [e.1.2]; omega
  · refine (congrArg (V c main_v2 : Mat 4096 8704) (at_pair _ f ⟨4608 + d.val, by omega⟩ ?_ ?_)).trans (congrFun hB _)
    · show win3_1.index t 0 * 4096 + 1 * f.val = f.val
      rw [e.2.1.1]; omega
    · show win3_1.index t 1 * 512 + 1 * q.val = 4608 + d.val
      rw [e.2.1.2]; omega

/-- One entry of the block the body writes. -/
theorem out_apply (c : Dev nD) (A : Mat 16384 4096) (B : Mat 4096 8704) (g : Line 128) (hA : V c main_v1 = A) (hB : V c main_v2 = B) (hg : ∀ j, V c main_v12 (ix2 0 j) = g (ix1 j)) (t : Fin cfg3.N)
    (p : Fin 1024) (q : Fin 512) (r : Fin 16384) (d : Fin 2048) (hr : r.val = 1024 * (t.val / 4) + p.val) (hd : d.val = 512 * (t.val % 4) + q.val) :
    out3_3 (iblk3 V c 0 t) (iblk3 V c 1 t) (iblk3 V c 2 t) (ix2 p q) = heads (b := 128) lanes (by decide) (cols 4608 (by omega) (times A B) : Mat 16384 2048) g r d := by
  unfold out3_3
  rw [View.canon_unit_zero Ffn.GateUp.hz2, View.ld_unit_zero Ffn.GateUp.hz2, View.ld_unit_zero Ffn.GateUp.hz2, View.ld_unit_zero Ffn.GateUp.hz2]
  refine (keys_apply _ _ _ p q).trans (heads_congr _ (by decide) (by decide) _ _ _ _ _ _ _ _ (4 * (t.val % 4)) (by omega) (fun e e' he => ?_) (fun j => ?_))
  · exact (keysDot_apply _ _ p e).trans (dot_at V c A B hA hB t p e r e' hr (by omega))
  · have e := (index_at t).2.2.1
    refine (congrArg (V c main_v12 : Mat 1 128) (at_pair _ 0 j ?_ ?_)).trans (hg j)
    · show win3_2.index t 0 * 1 + 1 * 0 = 0
      rw [e.1]
    · show win3_2.index t 1 * 128 + 1 * j.val = j.val
      rw [e.2]; omega

/-- What point `t` writes back is its block of the result. -/
theorem flushed_eq (c : Dev nD) (A : Mat 16384 4096) (B : Mat 4096 8704) (g : Line 128) (hA : V c main_v1 = A) (hB : V c main_v2 = B) (hg : ∀ j, V c main_v12 (ix2 0 j) = g (ix1 j)) (t : Fin cfg3.N) :
    (dat3 V c).flushed 3 t = (win3_3.blk t).view.read (Elt Ideal) (keysOf A B g) := by
  show (cfg3.win 3).cut (grid3.coords t) ((dat3 V c).after 3 t) = _
  rw [after3_3]
  funext y
  have hN : cfg3.N = 64 := N_3
  have ht := t.isLt
  obtain ⟨e0, e1⟩ := (index_at t).2.2.2
  have h0 : (y 0).val < 1024 := (y 0).isLt
  have h1 : (y 1).val < 512 := (y 1).isLt
  have key := out_apply V c A B g hA hB hg t (y 0) (y 1) ⟨1024 * (t.val / 4) + (y 0).val, by omega⟩ ⟨512 * (t.val % 4) + (y 1).val, by omega⟩ rfl rfl
  refine Eq.trans (congrArg (out3_3 (iblk3 V c 0 t) (iblk3 V c 1 t) (iblk3 V c 2 t)) (at_pair _ _ _ rfl rfl)) (key.trans ?_)
  refine congrArg₂ (heads (b := 128) lanes (by decide) (cols 4608 (by omega) (times A B) : Mat 16384 2048) g) ?_ ?_
  · exact Fin.ext (by show _ = win3_3.index t 0 * 1024 + 1 * (y 0).val; rw [e0]; dsimp only; omega)
  · exact Fin.ext (by show _ = win3_3.index t 1 * 512 + 1 * (y 1).val; rw [e1]; dsimp only; omega)

/-- Every entry of the result lies in some point's block. -/
theorem cover (i : S16384x2048.Idx) : ∃ t : Fin cfg3.N, (cfg3.win 3).flush t = true ∧ i ∈ ((cfg3.win 3).blk t).view.set := by
  have h0 : (i 0).val < 16384 := (i 0).isLt
  have h1 : (i 1).val < 2048 := (i 1).isLt
  have hN : cfg3.N = 64 := N_3
  obtain ⟨t, ht⟩ : ∃ t : Fin cfg3.N, t.val = (i 0).val / 1024 * 4 + (i 1).val / 512 := ⟨⟨_, by omega⟩, rfl⟩
  refine ⟨t, flush3_3 t, ?_⟩
  obtain ⟨e0, e1⟩ := (index_at t).2.2.2
  show i ∈ ((View.whole main_v13).slice (win3_3.rect t)).set
  rw [View.set_slice_whole, Rect.mem_set_unit]
  intro a
  match a with
  | ⟨0, _⟩ =>
    show win3_3.index t 0 * 1024 ≤ (i 0).val ∧ (i 0).val < win3_3.index t 0 * 1024 + 1024
    rw [e0]; omega
  | ⟨1, _⟩ =>
    show win3_3.index t 1 * 512 ≤ (i 1).val ∧ (i 1).val < win3_3.index t 1 * 512 + 512
    rw [e1]; omega

/-- The fourth call leaves the differential heads' keys. -/
theorem final (c : Dev nD) (A : Mat 16384 4096) (B : Mat 4096 8704) (g : Line 128) (hA : V c main_v1 = A) (hB : V c main_v2 = B) (hg : ∀ j, V c main_v12 (ix2 0 j) = g (ix1 j)) :
    (dat3 V c).arrAt 3 cfg3.N = keysOf A B g :=
  (dat3 V c).arrAt_eq_of_cover 3 (keysOf A B g) (fun t _ => flushed_eq V c A B g hA hB hg t) cover

end Keys

namespace Turned

/-- Where each window's block sits at grid point `t`: row block `t / 4`, column block `t % 4`, the weights' blocks 13 further on. -/
theorem index_at : ∀ t : Fin cfg4.N,
    (win4_0.index t 0 = t.val / 4 ∧ win4_0.index t 1 = 0) ∧ (win4_1.index t 0 = 0 ∧ win4_1.index t 1 = t.val % 4 + 13)
    ∧ (win4_2.index t 0 = t.val % 4 ∧ win4_2.index t 1 = t.val / 4) := by
  decide +kernel

/-- One entry of the product of the point's blocks. -/
theorem dot_at (c : Dev nD) (A : Mat 16384 4096) (B : Mat 4096 8704) (hA : V c main_v1 = A) (hB : V c main_v2 = B) (t : Fin cfg4.N)
    (p : Fin 1024) (q : Fin 512) (r : Fin 16384) (d : Fin 2048) (hr : r.val = 1024 * (t.val / 4) + p.val) (hd : d.val = 512 * (t.val % 4) + q.val) :
    dot (iblk4 V c 0 t : Mat 1024 4096) (iblk4 V c 1 t : Mat 4096 512) p q = (cols 6656 (by omega) (times A B) : Mat 16384 2048) (ix2 r d) := by
  have e := index_at t
  refine dot_congr _ _ _ _ _ _ _ _ (fun f => ?_) (fun f => ?_)
  · refine (congrArg (V c main_v1 : Mat 16384 4096) (at_pair _ r f ?_ ?_)).trans (congrFun hA _)
    · show win4_0.index t 0 * 1024 + 1 * p.val = r.val
      rw [e.1.1]; omega
    · show win4_0.index t 1 * 4096 + 1 * f.val = f.val
      rw [e.1.2]; omega
  · refine (congrArg (V c main_v2 : Mat 4096 8704) (at_pair _ f ⟨6656 + d.val, by omega⟩ ?_ ?_)).trans (congrFun hB _)
    · show win4_1.index t 0 * 4096 + 1 * f.val = f.val
      rw [e.2.1.1]; omega
    · show win4_1.index t 1 * 512 + 1 * q.val = 6656 + d.val
      rw [e.2.1.2]; omega

/-- One entry of the block the body writes. -/
theorem out_apply (c : Dev nD) (A : Mat 16384 4096) (B : Mat 4096 8704) (hA : V c main_v1 = A) (hB : V c main_v2 = B) (t : Fin cfg4.N)
    (p : Fin 1024) (q : Fin 512) (r : Fin 16384) (d : Fin 2048) (hr : r.val = 1024 * (t.val / 4) + p.val) (hd : d.val = 512 * (t.val % 4) + q.val) :
    out4_2 (iblk4 V c 0 t) (iblk4 V c 1 t) (ix2 q p) = (cols 6656 (by omega) (times A B) : Mat 16384 2048) (ix2 r d) := by
  unfold out4_2
  rw [View.canon_unit_zero Ffn.GateUp.hz2, View.ld_unit_zero Ffn.GateUp.hz2, View.ld_unit_zero Ffn.GateUp.hz2]
  exact (turned_apply _ _ q p).trans (dot_at V c A B hA hB t p q r d hr hd)

/-- What point `t` writes back is its block of the result. -/
theorem flushed_eq (c : Dev nD) (A : Mat 16384 4096) (B : Mat 4096 8704) (hA : V c main_v1 = A) (hB : V c main_v2 = B) (t : Fin cfg4.N) :
    (dat4 V c).flushed 2 t = (win4_2.blk t).view.read (Elt Ideal) (turnedOf A B) := by
  show (cfg4.win 2).cut (grid4.coords t) ((dat4 V c).after 2 t) = _
  rw [after4_2]
  funext y
  have hN : cfg4.N = 64 := N_4
  have ht := t.isLt
  obtain ⟨e0, e1⟩ := (index_at t).2.2
  have h0 : (y 0).val < 512 := (y 0).isLt
  have h1 : (y 1).val < 1024 := (y 1).isLt
  have key := out_apply V c A B hA hB t (y 1) (y 0) ⟨1024 * (t.val / 4) + (y 1).val, by omega⟩ ⟨512 * (t.val % 4) + (y 0).val, by omega⟩ rfl rfl
  refine Eq.trans (congrArg (out4_2 (iblk4 V c 0 t) (iblk4 V c 1 t)) (at_pair _ _ _ rfl rfl)) (key.trans ?_)
  refine congrArg₂ (fun r d => (cols 6656 (by omega) (times A B) : Mat 16384 2048) (ix2 r d)) ?_ ?_
  · exact Fin.ext (by show _ = win4_2.index t 1 * 1024 + 1 * (y 1).val; rw [e1]; dsimp only; omega)
  · exact Fin.ext (by show _ = win4_2.index t 0 * 512 + 1 * (y 0).val; rw [e0]; dsimp only; omega)

/-- Every entry of the result lies in some point's block. -/
theorem cover (i : S2048x16384.Idx) : ∃ t : Fin cfg4.N, (cfg4.win 2).flush t = true ∧ i ∈ ((cfg4.win 2).blk t).view.set := by
  have h0 : (i 0).val < 2048 := (i 0).isLt
  have h1 : (i 1).val < 16384 := (i 1).isLt
  have hN : cfg4.N = 64 := N_4
  obtain ⟨t, ht⟩ : ∃ t : Fin cfg4.N, t.val = (i 1).val / 1024 * 4 + (i 0).val / 512 := ⟨⟨_, by omega⟩, rfl⟩
  refine ⟨t, flush4_2 t, ?_⟩
  obtain ⟨e0, e1⟩ := (index_at t).2.2
  show i ∈ ((View.whole main_v14).slice (win4_2.rect t)).set
  rw [View.set_slice_whole, Rect.mem_set_unit]
  intro a
  match a with
  | ⟨0, _⟩ =>
    show win4_2.index t 0 * 512 ≤ (i 0).val ∧ (i 0).val < win4_2.index t 0 * 512 + 512
    rw [e0]; omega
  | ⟨1, _⟩ =>
    show win4_2.index t 1 * 1024 ≤ (i 1).val ∧ (i 1).val < win4_2.index t 1 * 1024 + 1024
    rw [e1]; omega

/-- The fifth call leaves the differential heads' values. -/
theorem final (c : Dev nD) (A : Mat 16384 4096) (B : Mat 4096 8704) (hA : V c main_v1 = A) (hB : V c main_v2 = B) :
    (dat4 V c).arrAt 2 cfg4.N = turnedOf A B :=
  (dat4 V c).arrAt_eq_of_cover 2 (turnedOf A B) (fun t _ => flushed_eq V c A B hA hB t) cover

end Turned

end Cert.OddProj

end
-- ==== Proof.OddRun.lean ====
/- The second layer's input projections in one run: what the four result arrays hold when @main ends. -/
module

public import proofs.«01_k».proof.Proof.OddProj
public import Idealize.ShloMosaic.Lib.StableHlo.Run
public import Idealize.ShloMosaic.Lib.StableHlo.RunHlo
public import Idealize.ShloMosaic.Lib.Claim

@[expose] public section

set_option maxRecDepth 16384

noncomputable section

namespace Cert.OddProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OddInIdeal Cert.OddInIdeal.Gen
open Cert.Ffn (Mat)
open Cert.EvenProj (Line scaledRows)

local notation "𝕄" => MT nD τ sig Unit (Elt Ideal) ℕ (UR sig nD τ) ℕ

variable (m : (ℓ : Loc nD τ sig) → Buf (Elt Ideal) ℓ) (ρ : Dev nD → PrngReg)

/-- The row gains as a one-row matrix. -/
theorem gains_apply (g : Line 4096) (k : Fin 4096) : shapeCast S1x4096 g shapeCasts_S4096_S1x4096 (ix2 0 k) = g (ix1 k) := by
  pointwise

/-- A head's gains as a one-row matrix. -/
theorem headGains_apply (g : Line 128) (j : Fin 128) :
    shapeCast S1x128 (shapeCast S128 (broadcastInDim S1x128 ![0, 1] bcast_S1x128_S1x128_0_1 (shapeCast S1x128 g shapeCasts_S128_S1x128)) shapeCasts_S1x128_S128)
      shapeCasts_S128_S1x128 (ix2 0 j) = g (ix1 j) := by
  pointwise

/-- The row gains the first call reads. -/
theorem V1_g (c : Dev nD) (k : Fin 4096) : V1 m ρ c main_v0 (ix2 0 k) = (m ((c : Thread nD τ).loc main_arg1) : Line 4096) (ix1 k) := by
  refine (congrFun ?_ (ix2 0 k)).trans (gains_apply (m ((c : Thread nD τ).loc main_arg1)) k)
  unfold_abbrev_sides
  after_results
  rfl

/-- The scaled rows, as the first call leaves them. -/
theorem V3_rows (c : Dev nD) : V3 m ρ c main_v1 = scaledRows (m ((c : Thread nD τ).loc main_arg0)) (m ((c : Thread nD τ).loc main_arg1)) :=
  (W3_of m ρ c main_v1 (by decide)).trans
    ((W2_arr m ρ c 2).trans (Rows.final (V1 m ρ) c _ _ (W1_args m ρ c main_arg0 (by decide)) (V1_g m ρ c)))

/-- The weights the second call reads. -/
theorem V3_w (c : Dev nD) : V3 m ρ c main_v2 = (m ((c : Thread nD τ).loc main_arg2) : Mat 4096 8704) := by
  refine Eq.trans ?_ (W2_args m ρ c main_arg2 (by decide))
  unfold_abbrev_sides
  after_results
  rfl

/-- The scaled rows the third call reads. -/
theorem V5_rows (c : Dev nD) : V5 m ρ c main_v1 = scaledRows (m ((c : Thread nD τ).loc main_arg0)) (m ((c : Thread nD τ).loc main_arg1)) :=
  (W5_of m ρ c main_v1 (by decide)).trans ((W4_of m ρ c main_v1 (by decide)).trans (V3_rows m ρ c))

/-- The weights the third call reads. -/
theorem V5_w (c : Dev nD) : V5 m ρ c main_v2 = (m ((c : Thread nD τ).loc main_arg2) : Mat 4096 8704) :=
  (W5_of m ρ c main_v2 (by decide)).trans ((W4_of m ρ c main_v2 (by decide)).trans (V3_w m ρ c))

/-- The queries' gains the third call reads. -/
theorem V5_g (c : Dev nD) (j : Fin 128) : V5 m ρ c main_v7 (ix2 0 j) = (m ((c : Thread nD τ).loc main_arg3) : Line 128) (ix1 j) := by
  refine (congrFun ?_ (ix2 0 j)).trans ((headGains_apply (W4 m ρ c (Proc.devRef .tc main_arg3)) j).trans (congrFun (W4_args m ρ c main_arg3 (by decide)) (ix1 j)))
  unfold_abbrev_sides
  after_results
  rfl

/-- The scaled rows the fourth call reads. -/
theorem V7_rows (c : Dev nD) : V7 m ρ c main_v1 = scaledRows (m ((c : Thread nD τ).loc main_arg0)) (m ((c : Thread nD τ).loc main_arg1)) :=
  (W7_of m ρ c main_v1 (by decide)).trans ((W6_of m ρ c main_v1 (by decide)).trans (V5_rows m ρ c))

/-- The weights the fourth call reads. -/
theorem V7_w (c : Dev nD) : V7 m ρ c main_v2 = (m ((c : Thread nD τ).loc main_arg2) : Mat 4096 8704) :=
  (W7_of m ρ c main_v2 (by decide)).trans ((W6_of m ρ c main_v2 (by decide)).trans (V5_w m ρ c))

/-- The keys' gains the fourth call reads. -/
theorem V7_g (c : Dev nD) (j : Fin 128) : V7 m ρ c main_v12 (ix2 0 j) = (m ((c : Thread nD τ).loc main_arg4) : Line 128) (ix1 j) := by
  refine (congrFun ?_ (ix2 0 j)).trans ((headGains_apply (W6 m ρ c (Proc.devRef .tc main_arg4)) j).trans (congrFun (W6_args m ρ c main_arg4 (by decide)) (ix1 j)))
  unfold_abbrev_sides
  after_results
  rfl

/-- What the first result array holds at the end. -/
theorem values (c : Dev nD) : W9 m ρ c (Proc.devRef .tc main_v3) = valuesOf (scaledRows (m ((c : Thread nD τ).loc main_arg0)) (m ((c : Thread nD τ).loc main_arg1))) (m ((c : Thread nD τ).loc main_arg2)) :=
  (W9_of m ρ c main_v3 (by decide)).trans ((W8_of m ρ c main_v3 (by decide)).trans ((W7_of m ρ c main_v3 (by decide)).trans
    ((W6_of m ρ c main_v3 (by decide)).trans ((W5_of m ρ c main_v3 (by decide)).trans
      ((W4_arr m ρ c 2).trans (Values.final (V3 m ρ) c _ _ (V3_rows m ρ c) (V3_w m ρ c)))))))

/-- What the second result array holds at the end. -/
theorem queries (c : Dev nD) : W9 m ρ c (Proc.devRef .tc main_v8) = queriesOf (scaledRows (m ((c : Thread nD τ).loc main_arg0)) (m ((c : Thread nD τ).loc main_arg1))) (m ((c : Thread nD τ).loc main_arg2)) (m ((c : Thread nD τ).loc main_arg3)) :=
  (W9_of m ρ c main_v8 (by decide)).trans ((W8_of m ρ c main_v8 (by decide)).trans ((W7_of m ρ c main_v8 (by decide)).trans
    ((W6_arr m ρ c 3).trans (Queries.final (V5 m ρ) c _ _ _ (V5_rows m ρ c) (V5_w m ρ c) (V5_g m ρ c)))))

/-- What the third result array holds at the end. -/
theorem keys (c : Dev nD) : W9 m ρ c (Proc.devRef .tc main_v13) = keysOf (scaledRows (m ((c : Thread nD τ).loc main_arg0)) (m ((c : Thread nD τ).loc main_arg1))) (m ((c : Thread nD τ).loc main_arg2)) (m ((c : Thread nD τ).loc main_arg4)) :=
  (W9_of m ρ c main_v13 (by decide)).trans
    ((W8_arr m ρ c 3).trans (Keys.final (V7 m ρ) c _ _ _ (V7_rows m ρ c) (V7_w m ρ c) (V7_g m ρ c)))

/-- What the fourth result array holds at the end. -/
theorem turned (c : Dev nD) : W9 m ρ c (Proc.devRef .tc main_v14) = turnedOf (scaledRows (m ((c : Thread nD τ).loc main_arg0)) (m ((c : Thread nD τ).loc main_arg1))) (m ((c : Thread nD τ).loc main_arg2)) :=
  (W9_arr m ρ c 2).trans (Turned.final (V8 m ρ) c _ _ ((W8_of m ρ c main_v1 (by decide)).trans (V7_rows m ρ c))
    ((W8_of m ρ c main_v2 (by decide)).trans (V7_w m ρ c)))

set_option backward.isDefEq.respectTransparency.types false in
/-- Every weakly fair run ends with the four results in their arrays and the arguments as launched. -/
theorem run : θ_run defs (onTc (τ := τ) (main (F := Ideal))) ⟨m, fun _ => 0, ρ⟩ (fun r => ∀ c : Dev nD,
      r.2.mem ((c.tc : Thread nD τ).loc main_v3) = valuesOf (scaledRows (m ((c : Thread nD τ).loc main_arg0)) (m ((c : Thread nD τ).loc main_arg1))) (m ((c : Thread nD τ).loc main_arg2))
      ∧ r.2.mem ((c.tc : Thread nD τ).loc main_v8) = queriesOf (scaledRows (m ((c : Thread nD τ).loc main_arg0)) (m ((c : Thread nD τ).loc main_arg1))) (m ((c : Thread nD τ).loc main_arg2)) (m ((c : Thread nD τ).loc main_arg3))
      ∧ r.2.mem ((c.tc : Thread nD τ).loc main_v13) = keysOf (scaledRows (m ((c : Thread nD τ).loc main_arg0)) (m ((c : Thread nD τ).loc main_arg1))) (m ((c : Thread nD τ).loc main_arg2)) (m ((c : Thread nD τ).loc main_arg4))
      ∧ r.2.mem ((c.tc : Thread nD τ).loc main_v14) = turnedOf (scaledRows (m ((c : Thread nD τ).loc main_arg0)) (m ((c : Thread nD τ).loc main_arg1))) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨(h c _ (mem_uc main_v3 (by decide))).trans (values m ρ c),
       (h c _ (mem_uc main_v8 (by decide))).trans (queries m ρ c),
       (h c _ (mem_uc main_v13 (by decide))).trans (keys m ρ c),
       (h c _ (mem_uc main_v14 (by decide))).trans (turned m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

end Cert.OddProj

end
-- ==== Proof.OddRef.lean ====
/- The second layer's input projections' reference read at an index: the same sums. -/
module

public import proofs.«01_k».proof.Proof.OddRows
public import proofs.«01_k».proof.Proof.Gen.OddInReferenceIdeal
public import proofs.«01_k».proof.Proof.Gen.OddInReferenceIdeal.Run
public import proofs.«01_k».proof.Proof.Gen.OddInReferenceIdeal.Read
public import Idealize.ShloMosaic.Lib.KernelVsHost
public import Idealize.ShloMosaic.Lib.IdealHost

@[expose] public section

set_option maxRecDepth 16384

noncomputable section

namespace Cert.OddProj.Ref

open Idealize.ShloMosaic
open Cert.OddInReferenceIdeal Cert.OddInReferenceIdeal.Gen Cert.OddInReferenceIdeal.Read
open Cert.Ffn (Mat)
open Cert.EvenProj (Line dot scaled scaledRows times cols)
open Cert.Heads (normed heads_at at_pair)
open scoped BigOperators

variable (X : Mat 16384 4096) (g : Line 4096) (W : Mat 4096 8704) (h : Line 128)

/-- The sum of squares of a row. -/
theorem squares_apply (r : Fin 16384) : val_main_v1 (F := Ideal) X (ix1 r) = ∑ j : Fin 4096, X (ix2 r j) * X (ix2 r j) := by
  rw [val_main_v1_apply]
  have z : val_main_cst (F := Ideal) (fun a => a.elim0) = 0 := by
    show Ideal.ofBits .f32 0x00000000#32 = 0
    exact Ideal.ofBits_zero .f32
  refine (congrArg₂ (· + ·) (?_ : _ = (0 : EReal)) (Finset.sum_congr rfl fun j _ => ?_)).trans (zero_add _)
  · exact z
  · show X _ * X _ = _
    exact congrArg (fun i => X i * X i) (funext fun a => by match a with | ⟨0, _⟩ => rfl | ⟨1, _⟩ => rfl)

/-- The scaled rows. -/
theorem scaled_apply (r : Fin 16384) (k : Fin 4096) : val_main_v12 (F := Ideal) X g (ix2 r k) = scaled X g r k := by
  unfold val_main_v12 val_main_v11 val_main_v10 val_main_v9 val_main_v8 val_main_v7 val_main_v6 val_main_v5 val_main_v4 val_main_v3 val_main_v2 val_main_cst_0 val_main_cst_1
  generalize h : val_main_v1 (F := Ideal) X = y
  pointwise
  rw [← h, squares_apply]
  rfl

/-- The projection of row `r` onto column `d` of the whole weights. -/
theorem proj_apply (r : Fin 16384) (d : Fin 8704) : val_main_v13 (F := Ideal) X g W (ix2 r d) = dot (scaledRows X g) W r d := by
  rw [val_main_v13_apply]
  refine Finset.sum_congr rfl fun k _ => congrArg₂ (· * ·) ?_ ?_
  · exact (congrArg (val_main_v12 (F := Ideal) X g) (funext fun a => by match a with | ⟨0, _⟩ => rfl | ⟨1, _⟩ => rfl)).trans (scaled_apply X g r k)
  · exact congrArg W (funext fun a => by match a with | ⟨0, _⟩ => rfl | ⟨1, _⟩ => rfl)

/-- The sum of squares of a query head. -/
theorem querySquares_apply (r : Fin 16384) (a : Fin 8) (b : Fin 2) :
    val_main_v20 (F := Ideal) X g W (ix3 r a b) = ∑ j : Fin 128, val_main_v18 (F := Ideal) X g W (ix4 r a b j) * val_main_v18 (F := Ideal) X g W (ix4 r a b j) := by
  rw [val_main_v20_apply]
  have z : val_main_cst_2 (F := Ideal) (fun a => a.elim0) = 0 := by
    show Ideal.ofBits .f32 0x00000000#32 = 0
    exact Ideal.ofBits_zero .f32
  refine (congrArg₂ (· + ·) (?_ : _ = (0 : EReal)) (Finset.sum_congr rfl fun j _ => ?_)).trans (zero_add _)
  · exact z
  · rw [val_main_v19_apply]
    generalize val_main_v18 (F := Ideal) X g W = u
    exact congrArg (fun i => u i * u i) (funext fun a => by match a with | ⟨0, _⟩ => rfl | ⟨1, _⟩ => rfl | ⟨2, _⟩ => rfl | ⟨3, _⟩ => rfl)

/-- A normed query. -/
theorem query_apply (r : Fin 16384) (a : Fin 8) (b : Fin 2) (k : Fin 128) :
    val_main_v31 (F := Ideal) X g W h (ix4 r a b k) = normed lanes (fun j => val_main_v18 (F := Ideal) X g W (ix4 r a b j)) h k := by
  have e := querySquares_apply X g W r a b
  unfold val_main_v31 val_main_v30 val_main_v29 val_main_v28 val_main_v27 val_main_v26 val_main_v25 val_main_v24 val_main_v23 val_main_v22 val_main_v21 val_main_cst_3 val_main_cst_4 normed
  rw [← e]
  generalize val_main_v20 (F := Ideal) X g W = y
  generalize val_main_v18 (F := Ideal) X g W = u
  pointwise

/-- A query before the norm: a column of the projection. -/
theorem queryCol_apply (r : Fin 16384) (a : Fin 8) (b : Fin 2) (j : Fin 128) (d : Fin 2048) (hd : d.val = 128 * (2 * a.val + b.val) + j.val) :
    val_main_v18 (F := Ideal) X g W (ix4 r a b j) = (cols 2560 (by omega) (times (scaledRows X g) W) : Mat 16384 2048) (ix2 r d) := by
  have e := proj_apply X g W r ⟨2560 + d.val, by omega⟩
  unfold val_main_v18 val_main_v15
  generalize val_main_v13 (F := Ideal) X g W = z at e ⊢
  pointwise
  refine Eq.trans ?_ (e.trans rfl)
  exact congrArg (fun e => z (ix2 r e)) (Fin.ext (by dsimp only; omega))

/-- The reference's queries are the kernel's. -/
theorem queries_eq : val_main_v51 (F := Ideal) X g W h = queriesOf (scaledRows X g) W h := by
  funext y
  obtain ⟨d, r, rfl⟩ : ∃ (d : Fin 2048) (r : Fin 16384), y = ix2 d r := ⟨y 0, y 1, at_pair _ _ _ rfl rfl⟩
  have e := query_apply X g W h r ⟨d.val / 256, by omega⟩ ⟨d.val / 128 % 2, by omega⟩ ⟨d.val % 128, by omega⟩
  unfold val_main_v51 val_main_v48 val_main_v32
  generalize val_main_v31 (F := Ideal) X g W h = z at e ⊢
  pointwise
  exact e.trans (heads_at _ (by decide) _ h r d (d.val / 128) _ (by show d.val = 128 * (d.val / 128) + d.val % 128; omega) _
    fun j e' he => queryCol_apply X g W r _ _ j e' (by rw [he]; dsimp only; omega))

/-- The sum of squares of a key head. -/
theorem keySquares_apply (r : Fin 16384) (a : Fin 8) (b : Fin 2) :
    val_main_v35 (F := Ideal) X g W (ix3 r a b) = ∑ j : Fin 128, val_main_v33 (F := Ideal) X g W (ix4 r a b j) * val_main_v33 (F := Ideal) X g W (ix4 r a b j) := by
  rw [val_main_v35_apply]
  have z : val_main_cst_5 (F := Ideal) (fun a => a.elim0) = 0 := by
    show Ideal.ofBits .f32 0x00000000#32 = 0
    exact Ideal.ofBits_zero .f32
  refine (congrArg₂ (· + ·) (?_ : _ = (0 : EReal)) (Finset.sum_congr rfl fun j _ => ?_)).trans (zero_add _)
  · exact z
  · rw [val_main_v34_apply]
    generalize val_main_v33 (F := Ideal) X g W = u
    exact congrArg (fun i => u i * u i) (funext fun a => by match a with | ⟨0, _⟩ => rfl | ⟨1, _⟩ => rfl | ⟨2, _⟩ => rfl | ⟨3, _⟩ => rfl)

/-- A normed key. -/
theorem key_apply (r : Fin 16384) (a : Fin 8) (b : Fin 2) (k : Fin 128) :
    val_main_v46 (F := Ideal) X g W h (ix4 r a b k) = normed lanes (fun j => val_main_v33 (F := Ideal) X g W (ix4 r a b j)) h k := by
  have e := keySquares_apply X g W r a b
  unfold val_main_v46 val_main_v45 val_main_v44 val_main_v43 val_main_v42 val_main_v41 val_main_v40 val_main_v39 val_main_v38 val_main_v37 val_main_v36 val_main_cst_6 val_main_cst_7 normed
  rw [← e]
  generalize val_main_v35 (F := Ideal) X g W = y
  generalize val_main_v33 (F := Ideal) X g W = u
  pointwise

/-- A key before the norm: a column of the projection. -/
theorem keyCol_apply (r : Fin 16384) (a : Fin 8) (b : Fin 2) (j : Fin 128) (d : Fin 2048) (hd : d.val = 128 * (2 * a.val + b.val) + j.val) :
    val_main_v33 (F := Ideal) X g W (ix4 r a b j) = (cols 4608 (by omega) (times (scaledRows X g) W) : Mat 16384 2048) (ix2 r d) := by
  have e := proj_apply X g W r ⟨4608 + d.val, by omega⟩
  unfold val_main_v33 val_main_v16
  generalize val_main_v13 (F := Ideal) X g W = z at e ⊢
  pointwise
  refine Eq.trans ?_ (e.trans rfl)
  exact congrArg (fun e => z (ix2 r e)) (Fin.ext (by dsimp only; omega))

/-- The reference's keys are the kernel's. -/
theorem keys_eq : val_main_v52 (F := Ideal) X g W h = keysOf (scaledRows X g) W h := by
  funext y
  obtain ⟨r, d, rfl⟩ : ∃ (r : Fin 16384) (d : Fin 2048), y = ix2 r d := ⟨y 0, y 1, at_pair _ _ _ rfl rfl⟩
  have e := key_apply X g W h r ⟨d.val / 256, by omega⟩ ⟨d.val / 128 % 2, by omega⟩ ⟨d.val % 128, by omega⟩
  unfold val_main_v52 val_main_v47
  generalize val_main_v46 (F := Ideal) X g W h = z at e ⊢
  pointwise
  exact e.trans (heads_at _ (by decide) _ h r d (d.val / 128) _ (by show d.val = 128 * (d.val / 128) + d.val % 128; omega) _
    fun j e' he => keyCol_apply X g W r _ _ j e' (by rw [he]; dsimp only; omega))

/-- The reference's first result is the columns from 2304 on. -/
theorem values_eq : val_main_v50 (F := Ideal) X g W = valuesOf (scaledRows X g) W := by
  funext y
  obtain ⟨r, d, rfl⟩ : ∃ (r : Fin 16384) (d : Fin 256), y = ix2 r d := ⟨y 0, y 1, at_pair _ _ _ rfl rfl⟩
  have e := proj_apply X g W r ⟨2304 + d.val, by omega⟩
  unfold val_main_v50 val_main_v14
  generalize val_main_v13 (F := Ideal) X g W = z at e ⊢
  pointwise
  exact e.trans rfl

/-- The reference's fourth result is the columns from 6656 on, rows and columns exchanged. -/
theorem turned_eq : val_main_v53 (F := Ideal) X g W = turnedOf (scaledRows X g) W := by
  funext y
  obtain ⟨d, r, rfl⟩ : ∃ (d : Fin 2048) (r : Fin 16384), y = ix2 d r := ⟨y 0, y 1, at_pair _ _ _ rfl rfl⟩
  have e := proj_apply X g W r ⟨6656 + d.val, by omega⟩
  unfold val_main_v53 val_main_v49 val_main_v17
  generalize val_main_v13 (F := Ideal) X g W = z at e ⊢
  pointwise
  exact e.trans rfl

end Cert.OddProj.Ref

end
-- ==== Proof.EvenRun.lean ====
/- The first layer's input projections in one run: what the two result arrays hold when @main ends. -/
module

public import proofs.«01_k».proof.Proof.EvenProj
public import Idealize.ShloMosaic.Lib.StableHlo.Run
public import Idealize.ShloMosaic.Lib.StableHlo.RunHlo
public import Idealize.ShloMosaic.Lib.Claim

@[expose] public section

set_option maxRecDepth 16384

noncomputable section

namespace Cert.EvenProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.EvenInIdeal Cert.EvenInIdeal.Gen
open Cert.Ffn (Mat)

local notation "𝕄" => MT nD τ sig Unit (Elt Ideal) ℕ (UR sig nD τ) ℕ

variable (m : (ℓ : Loc nD τ sig) → Buf (Elt Ideal) ℓ) (ρ : Dev nD → PrngReg)

/-- The gains as a one-row matrix. -/
theorem gains_apply (g : Line 4096) (k : Fin 4096) : shapeCast S1x4096 g shapeCasts_S4096_S1x4096 (ix2 0 k) = g (ix1 k) := by
  pointwise

/-- The first 1792 columns of the weights. -/
theorem first_eq (W : Mat 4096 7840) : extractStridedSlice S4096x1792 ![0, 0] W slices_S4096x7840_S4096x1792_0_0 = cols 0 (by omega) W := by
  funext y
  obtain ⟨r, d, rfl⟩ : ∃ (r : Fin 4096) (d : Fin 1792), y = ix2 r d := ⟨y 0, y 1, by funext i; match i with | ⟨0, _⟩ => rfl | ⟨1, _⟩ => rfl⟩
  pointwise
  exact congrArg (fun e => W (ix2 r e)) (Fin.ext (by show d.val = 0 + d.val; omega))

/-- The columns of the weights from 1696 on. -/
theorem last_eq (W : Mat 4096 7840) : extractStridedSlice S4096x6144 ![0, 1696] W slices_S4096x7840_S4096x6144_0_1696 = cols 1696 (by omega) W := by
  funext y
  obtain ⟨r, d, rfl⟩ : ∃ (r : Fin 4096) (d : Fin 6144), y = ix2 r d := ⟨y 0, y 1, by funext i; match i with | ⟨0, _⟩ => rfl | ⟨1, _⟩ => rfl⟩
  pointwise
  rfl

/-- The gains the first call reads. -/
theorem V1_g (c : Dev nD) (k : Fin 4096) : V1 m ρ c main_v0 (ix2 0 k) = (m ((c : Thread nD τ).loc main_arg1) : Line 4096) (ix1 k) := by
  refine (congrFun ?_ (ix2 0 k)).trans (gains_apply (m ((c : Thread nD τ).loc main_arg1)) k)
  unfold_abbrev_sides
  after_results
  rfl

/-- The scaled rows, as the first call leaves them. -/
theorem W2_rows (c : Dev nD) : W2 m ρ c (Proc.devRef .tc main_v1) = scaledRows (m ((c : Thread nD τ).loc main_arg0)) (m ((c : Thread nD τ).loc main_arg1)) :=
  (W2_arr m ρ c 2).trans (Rows.final (V1 m ρ) c _ _ (W1_args m ρ c main_arg0 (by decide)) (V1_g m ρ c))

/-- The scaled rows the second call reads. -/
theorem V3_rows (c : Dev nD) : V3 m ρ c main_v1 = scaledRows (m ((c : Thread nD τ).loc main_arg0)) (m ((c : Thread nD τ).loc main_arg1)) :=
  (W3_of m ρ c main_v1 (by decide)).trans (W2_rows m ρ c)

/-- The weights the second call reads. -/
theorem V3_first (c : Dev nD) : V3 m ρ c main_v3 = (cols 0 (by omega) (m ((c : Thread nD τ).loc main_arg2) : Mat 4096 7840) : Mat 4096 1792) := by
  refine Eq.trans ?_ ((first_eq (W2 m ρ c (Proc.devRef .tc main_arg2))).trans (congrArg (cols 0 (by omega)) (W2_args m ρ c main_arg2 (by decide))))
  unfold_abbrev_sides
  after_results
  rfl

/-- The weights the third call reads, before the second call. -/
theorem V3_last (c : Dev nD) : V3 m ρ c main_v5 = (cols 1696 (by omega) (m ((c : Thread nD τ).loc main_arg2) : Mat 4096 7840) : Mat 4096 6144) := by
  refine Eq.trans ?_ ((last_eq (W2 m ρ c (Proc.devRef .tc main_arg2))).trans (congrArg (cols 1696 (by omega)) (W2_args m ρ c main_arg2 (by decide))))
  unfold_abbrev_sides
  after_results
  rfl

/-- What the first result array holds at the end. -/
theorem narrow (c : Dev nD) : W5 m ρ c (Proc.devRef .tc main_v6)
    = narrowOf (m ((c : Thread nD τ).loc main_arg0)) (m ((c : Thread nD τ).loc main_arg1)) (m ((c : Thread nD τ).loc main_arg2)) :=
  (W5_of m ρ c main_v6 (by decide)).trans ((W4_arr m ρ c 2).trans (Narrow.final (V3 m ρ) c _ _ (V3_rows m ρ c) (V3_first m ρ c)))

/-- What the second result array holds at the end. -/
theorem wide (c : Dev nD) : W5 m ρ c (Proc.devRef .tc main_v7)
    = wideOf (m ((c : Thread nD τ).loc main_arg0)) (m ((c : Thread nD τ).loc main_arg1)) (m ((c : Thread nD τ).loc main_arg2)) :=
  (W5_arr m ρ c 2).trans (Wide.final (V4 m ρ) c _ _ ((W4_of m ρ c main_v1 (by decide)).trans (V3_rows m ρ c))
    ((W4_of m ρ c main_v5 (by decide)).trans (V3_last m ρ c)))

set_option backward.isDefEq.respectTransparency.types false in
/-- Every weakly fair run ends with the two results in their arrays and the arguments as launched. -/
theorem run : θ_run defs (onTc (τ := τ) (main (F := Ideal))) ⟨m, fun _ => 0, ρ⟩ (fun r => ∀ c : Dev nD,
      r.2.mem ((c.tc : Thread nD τ).loc main_v6) = narrowOf (m ((c : Thread nD τ).loc main_arg0)) (m ((c : Thread nD τ).loc main_arg1)) (m ((c : Thread nD τ).loc main_arg2))
      ∧ r.2.mem ((c.tc : Thread nD τ).loc main_v7) = wideOf (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v6 (by decide))).trans (narrow m ρ c),
       (h c _ (mem_uc main_v7 (by decide))).trans (wide m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.EvenProj

end
-- ==== Proof.EvenRef.lean ====
/- The first layer's input projections' reference read at an index: the same sums. -/
module

public import proofs.«01_k».proof.Proof.EvenRows
public import proofs.«01_k».proof.Proof.Gen.EvenInReferenceIdeal
public import proofs.«01_k».proof.Proof.Gen.EvenInReferenceIdeal.Run
public import proofs.«01_k».proof.Proof.Gen.EvenInReferenceIdeal.Read
public import Idealize.ShloMosaic.Lib.KernelVsHost
public import Idealize.ShloMosaic.Lib.IdealHost

@[expose] public section

set_option maxRecDepth 16384

noncomputable section

namespace Cert.EvenProj.Ref

open Idealize.ShloMosaic
open Cert.EvenInReferenceIdeal Cert.EvenInReferenceIdeal.Gen Cert.EvenInReferenceIdeal.Read
open Cert.Ffn (Mat)
open scoped BigOperators

variable (X : Mat 16384 4096) (g : Line 4096) (W : Mat 4096 7840)

/-- The sum of squares of a row. -/
theorem squares_apply (r : Fin 16384) : val_main_v1 (F := Ideal) X (ix1 r) = ∑ j : Fin 4096, X (ix2 r j) * X (ix2 r j) := by
  rw [val_main_v1_apply]
  have z : val_main_cst (F := Ideal) (fun a => a.elim0) = 0 := by
    show Ideal.ofBits .f32 0x00000000#32 = 0
    exact Ideal.ofBits_zero .f32
  refine (congrArg₂ (· + ·) (?_ : _ = (0 : EReal)) (Finset.sum_congr rfl fun j _ => ?_)).trans (zero_add _)
  · exact z
  · show X _ * X _ = _
    exact congrArg (fun i => X i * X i) (funext fun a => by match a with | ⟨0, _⟩ => rfl | ⟨1, _⟩ => rfl)

/-- The scaled rows. -/
theorem scaled_apply (r : Fin 16384) (k : Fin 4096) : val_main_v12 (F := Ideal) X g (ix2 r k) = scaled X g r k := by
  unfold val_main_v12 val_main_v11 val_main_v10 val_main_v9 val_main_v8 val_main_v7 val_main_v6 val_main_v5 val_main_v4 val_main_v3 val_main_v2 val_main_cst_0 val_main_cst_1
  generalize h : val_main_v1 (F := Ideal) X = y
  pointwise
  rw [← h, squares_apply]
  rfl

/-- The projection of row `r` onto column `d` of the whole weights. -/
theorem proj_apply (r : Fin 16384) (d : Fin 7840) : val_main_v13 (F := Ideal) X g W (ix2 r d) = dot (scaledRows X g) W r d := by
  rw [val_main_v13_apply]
  refine Finset.sum_congr rfl fun k _ => congrArg₂ (· * ·) ?_ ?_
  · exact (congrArg (val_main_v12 (F := Ideal) X g) (funext fun a => by match a with | ⟨0, _⟩ => rfl | ⟨1, _⟩ => rfl)).trans (scaled_apply X g r k)
  · exact congrArg W (funext fun a => by match a with | ⟨0, _⟩ => rfl | ⟨1, _⟩ => rfl)

/-- An index of a matrix is the pair of its coordinates. -/
theorem pair {a b : ℕ} (y : (⟨2, ![a, b]⟩ : Shape).Idx) : ∃ (r : Fin a) (k : Fin b), y = ix2 r k :=
  ⟨y 0, y 1, by funext i; match i with | ⟨0, _⟩ => rfl | ⟨1, _⟩ => rfl⟩

/-- The reference's first result is the product with the first 1792 columns. -/
theorem narrow_eq : val_main_v14 (F := Ideal) X g W = narrowOf X g W := by
  funext y
  obtain ⟨r, d, rfl⟩ := pair y
  unfold val_main_v14
  have h := proj_apply X g W r ⟨0 + d.val, by omega⟩
  generalize val_main_v13 (F := Ideal) X g W = z at h ⊢
  pointwise
  refine Eq.trans ?_ (h.trans rfl)
  exact congrArg (fun e => z (ix2 r e)) (Fin.ext (by show d.val = 0 + d.val; omega))

/-- The reference's second result is the product with the columns from 1696 on. -/
theorem wide_eq : val_main_v16 (F := Ideal) X g W = wideOf X g W := by
  funext y
  obtain ⟨r, d, rfl⟩ := pair y
  unfold val_main_v16 val_main_v15
  have h := proj_apply X g W r ⟨1696 + d.val, by omega⟩
  generalize val_main_v13 (F := Ideal) X g W = z at h ⊢
  pointwise
  exact h.trans rfl

end Cert.EvenProj.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.FfnRun
public import proofs.«01_k».proof.Proof.FfnRef
public import proofs.«01_k».proof.Proof.Gen.Swa
public import proofs.«01_k».proof.Proof.Gen.Swa.Frame
public import proofs.«01_k».proof.Proof.Gen.SwaIdeal
public import proofs.«01_k».proof.Proof.Gen.SwaIdeal.Frame
public import proofs.«01_k».proof.Proof.Gen.SwaReferenceIdeal
public import proofs.«01_k».proof.Proof.Gen.SwaReferenceIdeal.Run
public import proofs.«01_k».proof.Proof.Gen.SwaReferenceIdeal.Read
public import proofs.«01_k».proof.Proof.SwaRun
public import proofs.«01_k».proof.Proof.SwaRef
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutReferenceIdeal
public import proofs.«01_k».proof.Proof.Gen.OutReferenceIdeal.Run
public import proofs.«01_k».proof.Proof.Gen.OutReferenceIdeal.Read
public import proofs.«01_k».proof.Proof.OutRun
public import proofs.«01_k».proof.Proof.OutRef
public import proofs.«01_k».proof.Proof.Gen.DsaIn
public import proofs.«01_k».proof.Proof.Gen.DsaIn.Frame
public import proofs.«01_k».proof.Proof.Gen.DsaInIdeal
public import proofs.«01_k».proof.Proof.Gen.DsaInIdeal.Frame
public import proofs.«01_k».proof.Proof.Gen.DsaInReferenceIdeal
public import proofs.«01_k».proof.Proof.Gen.DsaInReferenceIdeal.Run
public import proofs.«01_k».proof.Proof.Gen.DsaInReferenceIdeal.Read
public import proofs.«01_k».proof.Proof.DsaRun
public import proofs.«01_k».proof.Proof.DsaRef
public import proofs.«01_k».proof.Proof.Gen.Cross
public import proofs.«01_k».proof.Proof.Gen.Cross.Frame
public import proofs.«01_k».proof.Proof.Gen.CrossIdeal
public import proofs.«01_k».proof.Proof.Gen.CrossIdeal.Frame
public import proofs.«01_k».proof.Proof.Gen.CrossReferenceIdeal
public import proofs.«01_k».proof.Proof.Gen.CrossReferenceIdeal.Run
public import proofs.«01_k».proof.Proof.Gen.CrossReferenceIdeal.Read
public import proofs.«01_k».proof.Proof.CrossRun
public import proofs.«01_k».proof.Proof.CrossRef
public import proofs.«01_k».proof.Proof.Gen.OddIn
public import proofs.«01_k».proof.Proof.Gen.OddIn.Frame
public import proofs.«01_k».proof.Proof.Gen.OddInIdeal
public import proofs.«01_k».proof.Proof.Gen.OddInIdeal.Frame
public import proofs.«01_k».proof.Proof.Gen.OddInReferenceIdeal
public import proofs.«01_k».proof.Proof.Gen.OddInReferenceIdeal.Run
public import proofs.«01_k».proof.Proof.Gen.OddInReferenceIdeal.Read
public import proofs.«01_k».proof.Proof.OddRun
public import proofs.«01_k».proof.Proof.OddRef
public import proofs.«01_k».proof.Proof.Gen.EvenIn
public import proofs.«01_k».proof.Proof.Gen.EvenIn.Frame
public import proofs.«01_k».proof.Proof.Gen.EvenInIdeal
public import proofs.«01_k».proof.Proof.Gen.EvenInIdeal.Frame
public import proofs.«01_k».proof.Proof.Gen.EvenInReferenceIdeal
public import proofs.«01_k».proof.Proof.Gen.EvenInReferenceIdeal.Run
public import proofs.«01_k».proof.Proof.Gen.EvenInReferenceIdeal.Read
public import proofs.«01_k».proof.Proof.EvenRun
public import proofs.«01_k».proof.Proof.EvenRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The feed-forward reference runs, its arguments unchanged and every counter at zero. -/
theorem ffn_reference_frame : quiescent_ReferenceIdeal (hReferenceIdeal := Cert.ReferenceIdeal.Gen.facts) := by
  intro m ρ _
  exact (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The feed-forward kernel and its reference end with equal results. -/
theorem ffn_algebraic : algebraic_KernelIdeal_ReferenceIdeal (hKernelIdeal := Cert.KernelIdeal.Gen.facts) (hReferenceIdeal := Cert.ReferenceIdeal.Gen.facts) := by
  intro m ρ m' ρ' _ hag
  refine ⟨fun c => Cert.Ffn.block (m (c.tc.loc Cert.KernelIdeal.main_arg0)) (m (c.tc.loc Cert.KernelIdeal.main_arg1)) (m (c.tc.loc Cert.KernelIdeal.main_arg2))
      (m (c.tc.loc Cert.KernelIdeal.main_arg3)) (m (c.tc.loc Cert.KernelIdeal.main_arg4)) (m (c.tc.loc Cert.KernelIdeal.main_arg5)) (m (c.tc.loc Cert.KernelIdeal.main_arg6)),
    Cert.Ffn.Run.run m ρ, (θ_run _ _ _).mono (fun _ h c => ⟨(h c).1.trans ?_, (h c).2⟩) (Cert.ReferenceIdeal.Value.run m' ρ')⟩
  obtain ⟨h0, h1, h2, h3, h4, h5, h6⟩ := hag c
  rw [Cert.ReferenceIdeal.Read.val_main_v43_eq, h0, h1, h2, h3, h4, h5, h6]
  funext y
  obtain ⟨r, d, rfl⟩ := Cert.Ffn.Run.pair y
  exact Cert.Ffn.Ref.res_apply _ _ _ _ _ _ _ r d

/-- The attention reference runs, its arguments unchanged and every counter at zero. -/
theorem swa_reference_frame : quiescent_SwaReferenceIdeal (hSwaReferenceIdeal := Cert.SwaReferenceIdeal.Gen.facts) := by
  intro m ρ _
  exact (θ_run Cert.SwaReferenceIdeal.defs _ _).mono (fun r h => ⟨fun c => (h c).2, Idealize.ShloMosaic.sem_eq_zero_of_no_sems (by decide) r.2⟩)
    (Cert.SwaReferenceIdeal.Value.run (F := Ideal) m ρ)

/-- The attention kernel and its reference end with equal results. -/
theorem swa_algebraic : algebraic_SwaIdeal_SwaReferenceIdeal (hSwaIdeal := Cert.SwaIdeal.Gen.facts) (hSwaReferenceIdeal := Cert.SwaReferenceIdeal.Gen.facts) := by
  intro m ρ m' ρ' _ hag
  refine ⟨fun c => Cert.Band.attend (m (c.tc.loc Cert.SwaIdeal.main_arg0)) (m (c.tc.loc Cert.SwaIdeal.main_arg1)) (m (c.tc.loc Cert.SwaIdeal.main_arg2))
      (m (c.tc.loc Cert.SwaIdeal.main_arg3)) (m (c.tc.loc Cert.SwaIdeal.main_arg4)),
    Cert.Band.run m ρ, (θ_run _ _ _).mono (fun _ h c => ⟨(h c).1.trans ?_, (h c).2⟩) (Cert.SwaReferenceIdeal.Value.run m' ρ')⟩
  obtain ⟨h0, h1, h2, h3, h4⟩ := hag c
  rw [Cert.SwaReferenceIdeal.Read.val_main_v99_eq, h0, h1, h2, h3, h4]
  exact Cert.Band.Ref.res_eq _ _ _ _ _

/-- The output projection's reference runs, its arguments unchanged and every counter at zero. -/
theorem out_reference_frame : quiescent_OutReferenceIdeal (hOutReferenceIdeal := Cert.OutReferenceIdeal.Gen.facts) := by
  intro m ρ _
  exact (θ_run Cert.OutReferenceIdeal.defs _ _).mono (fun r h => ⟨fun c => (h c).2, Idealize.ShloMosaic.sem_eq_zero_of_no_sems (by decide) r.2⟩)
    (Cert.OutReferenceIdeal.Value.run (F := Ideal) m ρ)

/-- The output projection and its reference end with equal results. -/
theorem out_algebraic : algebraic_OutIdeal_OutReferenceIdeal (hOutIdeal := Cert.OutIdeal.Gen.facts) (hOutReferenceIdeal := Cert.OutReferenceIdeal.Gen.facts) := by
  intro m ρ m' ρ' _ hag
  refine ⟨fun c => Cert.Merge.merged (m (c.tc.loc Cert.OutIdeal.main_arg0)) (m (c.tc.loc Cert.OutIdeal.main_arg1)) (m (c.tc.loc Cert.OutIdeal.main_arg2))
      (m (c.tc.loc Cert.OutIdeal.main_arg3)),
    Cert.Merge.run m ρ, (θ_run _ _ _).mono (fun _ h c => ⟨(h c).1.trans ?_, (h c).2⟩) (Cert.OutReferenceIdeal.Value.run m' ρ')⟩
  obtain ⟨h0, h1, h2, h3⟩ := hag c
  rw [Cert.OutReferenceIdeal.Read.val_main_v4_eq, h0, h1, h2, h3]
  exact Cert.Merge.Ref.res_eq _ _ _ _

/-- The first layer's input projections' reference runs, its arguments unchanged and every counter at zero. -/
theorem even_reference_frame : quiescent_EvenInReferenceIdeal (hEvenInReferenceIdeal := Cert.EvenInReferenceIdeal.Gen.facts) := by
  intro m ρ _
  exact (θ_run Cert.EvenInReferenceIdeal.defs _ _).mono (fun r h => ⟨fun c => (h c).2.2, Idealize.ShloMosaic.sem_eq_zero_of_no_sems (by decide) r.2⟩)
    (Cert.EvenInReferenceIdeal.Value.run (F := Ideal) m ρ)

/-- The first layer's input projections and their reference end with equal results. -/
theorem even_algebraic : algebraic_EvenInIdeal_EvenInReferenceIdeal (hEvenInIdeal := Cert.EvenInIdeal.Gen.facts) (hEvenInReferenceIdeal := Cert.EvenInReferenceIdeal.Gen.facts) := by
  intro m ρ m' ρ' _ hag
  refine ⟨fun c => Cert.EvenProj.narrowOf (m (c.tc.loc Cert.EvenInIdeal.main_arg0)) (m (c.tc.loc Cert.EvenInIdeal.main_arg1)) (m (c.tc.loc Cert.EvenInIdeal.main_arg2)),
    fun c => Cert.EvenProj.wideOf (m (c.tc.loc Cert.EvenInIdeal.main_arg0)) (m (c.tc.loc Cert.EvenInIdeal.main_arg1)) (m (c.tc.loc Cert.EvenInIdeal.main_arg2)),
    Cert.EvenProj.run m ρ, (θ_run _ _ _).mono (fun _ h c => ⟨(h c).1.trans ?_, (h c).2.1.trans ?_, (h c).2.2⟩) (Cert.EvenInReferenceIdeal.Value.run m' ρ')⟩
  · obtain ⟨h0, h1, h2⟩ := hag c
    rw [Cert.EvenInReferenceIdeal.Read.val_main_v14_eq, h0, h1, h2]
    exact Cert.EvenProj.Ref.narrow_eq _ _ _
  · obtain ⟨h0, h1, h2⟩ := hag c
    rw [Cert.EvenInReferenceIdeal.Read.val_main_v16_eq, h0, h1, h2]
    exact Cert.EvenProj.Ref.wide_eq _ _ _

/-- The second layer's input projections' reference runs, its arguments unchanged and every counter at zero. -/
theorem odd_reference_frame : quiescent_OddInReferenceIdeal (hOddInReferenceIdeal := Cert.OddInReferenceIdeal.Gen.facts) := by
  intro m ρ _
  exact (θ_run Cert.OddInReferenceIdeal.defs _ _).mono (fun r h => ⟨fun c => (h c).2.2.2.2, Idealize.ShloMosaic.sem_eq_zero_of_no_sems (by decide) r.2⟩)
    (Cert.OddInReferenceIdeal.Value.run (F := Ideal) m ρ)

/-- The second layer's input projections and their reference end with equal results. -/
theorem odd_algebraic : algebraic_OddInIdeal_OddInReferenceIdeal (hOddInIdeal := Cert.OddInIdeal.Gen.facts) (hOddInReferenceIdeal := Cert.OddInReferenceIdeal.Gen.facts) := by
  intro m ρ m' ρ' _ hag
  refine ⟨fun c => Cert.OddProj.valuesOf (Cert.EvenProj.scaledRows (m (c.tc.loc Cert.OddInIdeal.main_arg0)) (m (c.tc.loc Cert.OddInIdeal.main_arg1))) (m (c.tc.loc Cert.OddInIdeal.main_arg2)), fun c => Cert.OddProj.queriesOf (Cert.EvenProj.scaledRows (m (c.tc.loc Cert.OddInIdeal.main_arg0)) (m (c.tc.loc Cert.OddInIdeal.main_arg1))) (m (c.tc.loc Cert.OddInIdeal.main_arg2)) (m (c.tc.loc Cert.OddInIdeal.main_arg3)),
    fun c => Cert.OddProj.keysOf (Cert.EvenProj.scaledRows (m (c.tc.loc Cert.OddInIdeal.main_arg0)) (m (c.tc.loc Cert.OddInIdeal.main_arg1))) (m (c.tc.loc Cert.OddInIdeal.main_arg2)) (m (c.tc.loc Cert.OddInIdeal.main_arg4)), fun c => Cert.OddProj.turnedOf (Cert.EvenProj.scaledRows (m (c.tc.loc Cert.OddInIdeal.main_arg0)) (m (c.tc.loc Cert.OddInIdeal.main_arg1))) (m (c.tc.loc Cert.OddInIdeal.main_arg2)), Cert.OddProj.run m ρ,
    (θ_run _ _ _).mono (fun _ h c => ⟨(h c).1.trans ?_, (h c).2.1.trans ?_, (h c).2.2.1.trans ?_, (h c).2.2.2.1.trans ?_, (h c).2.2.2.2⟩)
      (Cert.OddInReferenceIdeal.Value.run m' ρ')⟩
  · obtain ⟨h0, h1, h2, h3, h4⟩ := hag c
    rw [Cert.OddInReferenceIdeal.Read.val_main_v50_eq, h0, h1, h2]
    exact Cert.OddProj.Ref.values_eq _ _ _
  · obtain ⟨h0, h1, h2, h3, h4⟩ := hag c
    rw [Cert.OddInReferenceIdeal.Read.val_main_v51_eq, h0, h1, h2, h3]
    exact Cert.OddProj.Ref.queries_eq _ _ _ _
  · obtain ⟨h0, h1, h2, h3, h4⟩ := hag c
    rw [Cert.OddInReferenceIdeal.Read.val_main_v52_eq, h0, h1, h2, h4]
    exact Cert.OddProj.Ref.keys_eq _ _ _ _
  · obtain ⟨h0, h1, h2, h3, h4⟩ := hag c
    rw [Cert.OddInReferenceIdeal.Read.val_main_v53_eq, h0, h1, h2]
    exact Cert.OddProj.Ref.turned_eq _ _ _

/-- The sparse mixer's query projections' reference runs, its arguments unchanged and every counter at zero. -/
theorem dsa_reference_frame : quiescent_DsaInReferenceIdeal (hDsaInReferenceIdeal := Cert.DsaInReferenceIdeal.Gen.facts) := by
  intro m ρ _
  exact (θ_run Cert.DsaInReferenceIdeal.defs _ _).mono (fun r h => ⟨fun c => (h c).2.2, Idealize.ShloMosaic.sem_eq_zero_of_no_sems (by decide) r.2⟩)
    (Cert.DsaInReferenceIdeal.Value.run (F := Ideal) m ρ)

/-- The sparse mixer's query projections and their reference end with equal results. -/
theorem dsa_algebraic : algebraic_DsaInIdeal_DsaInReferenceIdeal (hDsaInIdeal := Cert.DsaInIdeal.Gen.facts) (hDsaInReferenceIdeal := Cert.DsaInReferenceIdeal.Gen.facts) := by
  intro m ρ m' ρ' _ hag
  refine ⟨fun c => Cert.DsaProj.queriesOf (m (c.tc.loc Cert.DsaInIdeal.main_arg0)) (m (c.tc.loc Cert.DsaInIdeal.main_arg1)) (m (c.tc.loc Cert.DsaInIdeal.main_arg2)), fun c => Cert.DsaProj.picksOf (m (c.tc.loc Cert.DsaInIdeal.main_arg0)) (m (c.tc.loc Cert.DsaInIdeal.main_arg3)), Cert.DsaProj.run m ρ,
    (θ_run _ _ _).mono (fun _ h c => ⟨(h c).1.trans ?_, (h c).2.1.trans ?_, (h c).2.2⟩) (Cert.DsaInReferenceIdeal.Value.run m' ρ')⟩
  · obtain ⟨h0, h1, h2, h3⟩ := hag c
    rw [Cert.DsaInReferenceIdeal.Read.val_main_v19_eq, h0, h1, h2]
    exact Cert.DsaProj.Ref.queries_eq _ _ _
  · obtain ⟨h0, h1, h2, h3⟩ := hag c
    rw [Cert.DsaInReferenceIdeal.Read.val_main_v21_eq, h0, h3]
    exact Cert.DsaProj.Ref.picks_eq _ _

/-- The cross-attention's reference runs, its arguments unchanged and every counter at zero. -/
theorem cross_reference_frame : quiescent_CrossReferenceIdeal (hCrossReferenceIdeal := Cert.CrossReferenceIdeal.Gen.facts) := by
  intro m ρ _
  exact (θ_run Cert.CrossReferenceIdeal.defs _ _).mono (fun r h => ⟨fun c => (h c).2.2, Idealize.ShloMosaic.sem_eq_zero_of_no_sems (by decide) r.2⟩)
    (Cert.CrossReferenceIdeal.Value.run (F := Ideal) m ρ)

/-- The cross-attention and its reference end with equal results. -/
theorem cross_algebraic : algebraic_CrossIdeal_CrossReferenceIdeal (hCrossIdeal := Cert.CrossIdeal.Gen.facts) (hCrossReferenceIdeal := Cert.CrossReferenceIdeal.Gen.facts) := by
  intro m ρ m' ρ' _ hag
  refine ⟨fun c => Cert.Cross.tokensOf (m (c.tc.loc Cert.CrossIdeal.main_arg0)) (m (c.tc.loc Cert.CrossIdeal.main_arg1)) (m (c.tc.loc Cert.CrossIdeal.main_arg2)) (m (c.tc.loc Cert.CrossIdeal.main_arg3)) (m (c.tc.loc Cert.CrossIdeal.main_arg4)) (m (c.tc.loc Cert.CrossIdeal.main_arg5)) (m (c.tc.loc Cert.CrossIdeal.main_arg6)) (m (c.tc.loc Cert.CrossIdeal.main_arg7)) (m (c.tc.loc Cert.CrossIdeal.main_arg8)) (m (c.tc.loc Cert.CrossIdeal.main_arg9)),
    fun c => Cert.EvenProj.scaledRows (Cert.Cross.tokensOf (m (c.tc.loc Cert.CrossIdeal.main_arg0)) (m (c.tc.loc Cert.CrossIdeal.main_arg1)) (m (c.tc.loc Cert.CrossIdeal.main_arg2)) (m (c.tc.loc Cert.CrossIdeal.main_arg3)) (m (c.tc.loc Cert.CrossIdeal.main_arg4)) (m (c.tc.loc Cert.CrossIdeal.main_arg5)) (m (c.tc.loc Cert.CrossIdeal.main_arg6)) (m (c.tc.loc Cert.CrossIdeal.main_arg7)) (m (c.tc.loc Cert.CrossIdeal.main_arg8)) (m (c.tc.loc Cert.CrossIdeal.main_arg9))) (m (c.tc.loc Cert.CrossIdeal.main_arg10)), Cert.Cross.run m ρ,
    (θ_run _ _ _).mono (fun _ h c => ⟨(h c).1.trans ?_, (h c).2.1.trans ?_, (h c).2.2⟩) (Cert.CrossReferenceIdeal.Value.run m' ρ')⟩
  · obtain ⟨h0, h1, h2, h3, h4, h5, h6, h7, h8, h9, h10⟩ := hag c
    rw [Cert.CrossReferenceIdeal.Read.val_main_v87_eq, h0, h1, h2, h3, h4, h5, h6, h7, h8, h9]
    exact Cert.Cross.Ref.tokens_eq _ _ _ _ _ _ _ _ _ _
  · obtain ⟨h0, h1, h2, h3, h4, h5, h6, h7, h8, h9, h10⟩ := hag c
    rw [Cert.CrossReferenceIdeal.Read.val_main_v89_eq, h0, h1, h2, h3, h4, h5, h6, h7, h8, h9, h10]
    exact Cert.Cross.Ref.normed_eq _ _ _ _ _ _ _ _ _ _ _

theorem claim : Cert.Claim := ⟨Cert.Kernel.Gen.facts, Cert.KernelIdeal.Gen.facts, Cert.ReferenceIdeal.Gen.facts,
  Cert.Swa.Gen.facts, Cert.SwaIdeal.Gen.facts, Cert.SwaReferenceIdeal.Gen.facts,
  Cert.Out.Gen.facts, Cert.OutIdeal.Gen.facts, Cert.OutReferenceIdeal.Gen.facts,
  Cert.EvenIn.Gen.facts, Cert.EvenInIdeal.Gen.facts, Cert.EvenInReferenceIdeal.Gen.facts,
  Cert.OddIn.Gen.facts, Cert.OddInIdeal.Gen.facts, Cert.OddInReferenceIdeal.Gen.facts,
  Cert.DsaIn.Gen.facts, Cert.DsaInIdeal.Gen.facts, Cert.DsaInReferenceIdeal.Gen.facts,
  Cert.Cross.Gen.facts, Cert.CrossIdeal.Gen.facts, Cert.CrossReferenceIdeal.Gen.facts,
  fun m ρ _ => Cert.Kernel.Gen.frame m ρ, fun m ρ _ => Cert.KernelIdeal.Gen.frame m ρ, ffn_reference_frame,
  fun m ρ _ => Cert.Swa.Gen.frame m ρ, fun m ρ _ => Cert.SwaIdeal.Gen.frame m ρ, swa_reference_frame,
  fun m ρ _ => Cert.Out.Gen.frame m ρ, fun m ρ _ => Cert.OutIdeal.Gen.frame m ρ, out_reference_frame,
  fun m ρ _ => Cert.EvenIn.Gen.frame m ρ, fun m ρ _ => Cert.EvenInIdeal.Gen.frame m ρ, even_reference_frame,
  fun m ρ _ => Cert.OddIn.Gen.frame m ρ, fun m ρ _ => Cert.OddInIdeal.Gen.frame m ρ, odd_reference_frame,
  fun m ρ _ => Cert.DsaIn.Gen.frame m ρ, fun m ρ _ => Cert.DsaInIdeal.Gen.frame m ρ, dsa_reference_frame,
  fun m ρ _ => Cert.Cross.Gen.frame m ρ, fun m ρ _ => Cert.CrossIdeal.Gen.frame m ρ, cross_reference_frame,
  trivial, ffn_algebraic, trivial, swa_algebraic, trivial, out_algebraic, trivial, even_algebraic, trivial, odd_algebraic, trivial, dsa_algebraic, trivial, cross_algebraic⟩

end Cert.Proof

end
